-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_with_ones [hPre_finite_with_ones : Cert.Pre_finite_with_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_with_ones [hPre_finite_with_ones : Cert.Pre_finite_with_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_with_ones [hKernelIdeal : Cert.KernelIdeal.Facts] [hPre_finite_with_ones : Cert.Pre_finite_with_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_with_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_with_ones [hReferenceIdeal : Cert.ReferenceIdeal.Facts] [hPre_finite_with_ones : Cert.Pre_finite_with_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_with_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_with_ones [hKernelIdeal : Cert.KernelIdeal.Facts] [hReferenceIdeal : Cert.ReferenceIdeal.Facts] [hPre_finite_with_ones : Cert.Pre_finite_with_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_with_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v49_0)) (v1 : (c : Dev Cert.Kernel4Ideal.nD) → Buf (Elt Ideal) ((c.tc : Thread Cert.Kernel4Ideal.nD Cert.Kernel4Ideal.τ).loc Cert.Kernel4Ideal.main_v49_1)) (v2 : (c : Dev Cert.Kernel4Ideal.nD) → Buf (Elt Ideal) ((c.tc : Thread Cert.Kernel4Ideal.nD Cert.Kernel4Ideal.τ).loc Cert.Kernel4Ideal.main_v49_2)) (v3 : (c : Dev Cert.Kernel4Ideal.nD) → Buf (Elt Ideal) ((c.tc : Thread Cert.Kernel4Ideal.nD Cert.Kernel4Ideal.τ).loc Cert.Kernel4Ideal.main_v49_5)) (v4 : (c : Dev Cert.Kernel4Ideal.nD) → Buf (Elt Ideal) ((c.tc : Thread Cert.Kernel4Ideal.nD Cert.Kernel4Ideal.τ).loc Cert.Kernel4Ideal.main_v49_6)) (v5 : (c : Dev Cert.Kernel4Ideal.nD) → Buf (Elt Ideal) ((c.tc : Thread Cert.Kernel4Ideal.nD Cert.Kernel4Ideal.τ).loc Cert.Kernel4Ideal.main_v49_7)) (v6 : (c : Dev Cert.Kernel4Ideal.nD) → Buf (Elt Ideal) ((c.tc : Thread Cert.Kernel4Ideal.nD Cert.Kernel4Ideal.τ).loc Cert.Kernel4Ideal.main_v49_8)) (v7 : (c : Dev Cert.Kernel4Ideal.nD) → Buf (Elt Ideal) ((c.tc : Thread Cert.Kernel4Ideal.nD Cert.Kernel4Ideal.τ).loc Cert.Kernel4Ideal.main_v49_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v49_0) = v0 c
          ∧ r.2.mem ((c.tc : Thread Cert.Kernel4Ideal.nD Cert.Kernel4Ideal.τ).loc Cert.Kernel4Ideal.main_v49_1) = v1 c
          ∧ r.2.mem ((c.tc : Thread Cert.Kernel4Ideal.nD Cert.Kernel4Ideal.τ).loc Cert.Kernel4Ideal.main_v49_2) = v2 c
          ∧ r.2.mem ((c.tc : Thread Cert.Kernel4Ideal.nD Cert.Kernel4Ideal.τ).loc Cert.Kernel4Ideal.main_v49_5) = v3 c
          ∧ r.2.mem ((c.tc : Thread Cert.Kernel4Ideal.nD Cert.Kernel4Ideal.τ).loc Cert.Kernel4Ideal.main_v49_6) = v4 c
          ∧ r.2.mem ((c.tc : Thread Cert.Kernel4Ideal.nD Cert.Kernel4Ideal.τ).loc Cert.Kernel4Ideal.main_v49_7) = v5 c
          ∧ r.2.mem ((c.tc : Thread Cert.Kernel4Ideal.nD Cert.Kernel4Ideal.τ).loc Cert.Kernel4Ideal.main_v49_8) = v6 c
          ∧ r.2.mem ((c.tc : Thread Cert.Kernel4Ideal.nD Cert.Kernel4Ideal.τ).loc Cert.Kernel4Ideal.main_v49_9) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v81) = v0 c
          ∧ r.2.mem ((c.tc : Thread Cert.Reference4Ideal.nD Cert.Reference4Ideal.τ).loc Cert.Reference4Ideal.main_v82) = v1 c
          ∧ r.2.mem ((c.tc : Thread Cert.Reference4Ideal.nD Cert.Reference4Ideal.τ).loc Cert.Reference4Ideal.main_v85) = v2 c
          ∧ r.2.mem ((c.tc : Thread Cert.Reference4Ideal.nD Cert.Reference4Ideal.τ).loc Cert.Reference4Ideal.main_v88) = v3 c
          ∧ r.2.mem ((c.tc : Thread Cert.Reference4Ideal.nD Cert.Reference4Ideal.τ).loc Cert.Reference4Ideal.main_v89) = v4 c
          ∧ r.2.mem ((c.tc : Thread Cert.Reference4Ideal.nD Cert.Reference4Ideal.τ).loc Cert.Reference4Ideal.main_v90) = v5 c
          ∧ r.2.mem ((c.tc : Thread Cert.Reference4Ideal.nD Cert.Reference4Ideal.τ).loc Cert.Reference4Ideal.main_v97) = v6 c
          ∧ r.2.mem ((c.tc : Thread Cert.Reference4Ideal.nD Cert.Reference4Ideal.τ).loc Cert.Reference4Ideal.main_v104) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "mask" .f32 0xF149F2CA#32 ⊥

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_with_ones : Cert.Pre_finite_with_ones.Facts) (hPre_finite : Cert.Pre_finite.Facts),
    quiescent_Kernel (hKernel := hKernel)
    ∧ quiescent_KernelIdeal (hKernelIdeal := hKernelIdeal)
    ∧ quiescent_KernelIdeal_pre_finite_with_ones (hKernelIdeal := hKernelIdeal) (hPre_finite_with_ones := hPre_finite_with_ones)
    ∧ quiescent_ReferenceIdeal (hReferenceIdeal := hReferenceIdeal)
    ∧ quiescent_ReferenceIdeal_pre_finite_with_ones (hReferenceIdeal := hReferenceIdeal) (hPre_finite_with_ones := hPre_finite_with_ones)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ preserves_Kernel_KernelIdeal
    ∧ algebraic_KernelIdeal_ReferenceIdeal_pre_finite_with_ones (hKernelIdeal := hKernelIdeal) (hReferenceIdeal := hReferenceIdeal) (hPre_finite_with_ones := hPre_finite_with_ones)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
-- ==== Pre_finite.lean ====
abbrev S16384x512 : Shape := ⟨2, ![16384, 512]⟩
abbrev S16384x128 : Shape := ⟨2, ![16384, 128]⟩
abbrev S1x8 : Shape := ⟨2, ![1, 8]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S16384x512 .bf16) (main_arg1 : FVec F S16384x128 .bf16) (main_arg2 : FVec F S16384x128 .bf16) (main_arg3 : FVec F S1x8 .f32) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x128 .f32 := (extf .f32 · bitsLt_bf16_f32) main_arg1
  let main_v6 : FVec F S16384x128 .f32 := Host.absf main_v5
  let main_cst_0 : FVec F S_ .f32 := constant S_ .f32 0x7F800000#32
  let main_v7 : FVec F S16384x128 .f32 := broadcastInDim S16384x128 ![] bcast_S_S16384x128 main_cst_0
  let main_v8 : IVec S16384x128 1 := cmpf .olt main_v6 main_v7
  let main_c_1 : IVec S_ 1 := constantI S_ 1 1#1
  let main_v9 : IVec S_ 1 := (fun x v => Host.reduce IntOp.andi x v reducesTo_S16384x128_S_d0_1 h_S_) main_v8 main_c_1
  let main_v10 : IVec S_ 1 := andi main_v4 main_v9
  let main_v11 : FVec F S1x8 .f32 := Host.absf main_arg3
  let main_cst_2 : FVec F S_ .f32 := constant S_ .f32 0x7F800000#32
  let main_v12 : FVec F S1x8 .f32 := broadcastInDim S1x8 ![] bcast_S_S1x8 main_cst_2
  let main_v13 : IVec S1x8 1 := cmpf .olt main_v11 main_v12
  let main_c_3 : IVec S_ 1 := constantI S_ 1 1#1
  let main_v14 : IVec S_ 1 := (fun x v => Host.reduce IntOp.andi x v reducesTo_S1x8_S_d0_1 h_S_) main_v13 main_c_3
  let main_v15 : IVec S_ 1 := andi main_v10 main_v14
  main_v15
-- ==== Pre_finite_with_ones.lean ====
abbrev S512x16384 : Shape := ⟨2, ![512, 16384]⟩
abbrev S32x16384 : Shape := ⟨2, ![32, 16384]⟩
abbrev S16384x512 : Shape := ⟨2, ![16384, 512]⟩
abbrev S16384x128 : Shape := ⟨2, ![16384, 128]⟩
abbrev S32x512x512 : Shape := ⟨3, ![32, 512, 512]⟩
abbrev S_ : Shape := ⟨0, ![]⟩
abbrev S24x16384 : Shape := ⟨2, ![24, 16384]⟩
abbrev S16384x24 : Shape := ⟨2, ![16384, 24]⟩
abbrev S16384x3 : Shape := ⟨2, ![16384, 3]⟩

class Facts : Prop where
  bitsLt_bf16_f32 : FTy.bits .bf16 < FTy.bits .f32
  bcast_S_S512x16384 : S_.BroadcastsInDim S512x16384 (![] : Fin 0 → Fin S512x16384.rank)
  reducesTo_S512x16384_S_d0_1 : S512x16384.ReducesTo [0, 1] S_
  h_S_ : 0 < S_.numel
  slices_S32x16384_S24x16384_0_0 : S32x16384.Slices ![0, 0] S24x16384
  bcast_S_S24x16384 : S_.BroadcastsInDim S24x16384 (![] : Fin 0 → Fin S24x16384.rank)
  reducesTo_S24x16384_S_d0_1 : S24x16384.ReducesTo [0, 1] S_
  bcast_S_S16384x512 : S_.BroadcastsInDim S16384x512 (![] : Fin 0 → Fin S16384x512.rank)
  reducesTo_S16384x512_S_d0_1 : S16384x512.ReducesTo [0, 1] S_
  slices_S16384x128_S16384x24_0_0 : S16384x128.Slices ![0, 0] S16384x24
  bcast_S_S16384x24 : S_.BroadcastsInDim S16384x24 (![] : Fin 0 → Fin S16384x24.rank)
  reducesTo_S16384x24_S_d0_1 : S16384x24.ReducesTo [0, 1] S_
  slices_S16384x128_S16384x3_0_24 : S16384x128.Slices ![0, 24] S16384x3
  bcast_S_S16384x3 : S_.BroadcastsInDim S16384x3 (![] : Fin 0 → Fin S16384x3.rank)
  reducesTo_S16384x3_S_d0_1 : S16384x3.ReducesTo [0, 1] S_

variable [Facts]

def fn_part1 {F : FTy → Type} [FloatOps F] (main_arg3 : FVec F S16384x128 .bf16) (main_v16 : IVec S_ 1) (main_v17 : FVec F S16384x24 .bf16) : IVec S_ 1 :=
  let main_v18 : FVec F S16384x24 .f32 := (extf .f32 · bitsLt_bf16_f32) main_v17
  let main_v19 : FVec F S16384x24 .f32 := Host.absf main_v18
  let main_cst_4 : FVec F S_ .f32 := constant S_ .f32 0x7F800000#32
  let main_v20 : FVec F S16384x24 .f32 := broadcastInDim S16384x24 ![] bcast_S_S16384x24 main_cst_4
  let main_v21 : IVec S16384x24 1 := cmpf .olt main_v19 main_v20
  let main_c_5 : IVec S_ 1 := constantI S_ 1 1#1
  let main_v22 : IVec S_ 1 := (fun x v => Host.reduce IntOp.andi x v reducesTo_S16384x24_S_d0_1 h_S_) main_v21 main_c_5
  let main_v23 : IVec S_ 1 := andi main_v16 main_v22
  let main_v24 : FVec F S16384x3 .bf16 := (extractStridedSlice S16384x3 ![0, 24] · slices_S16384x128_S16384x3_0_24) main_arg3
  let main_v25 : FVec F S16384x3 .f32 := (extf .f32 · bitsLt_bf16_f32) main_v24
  let main_cst_6 : FVec F S_ .f32 := constant S_ .f32 0x3F800000#32
  let main_v26 : FVec F S16384x3 .f32 := broadcastInDim S16384x3 ![] bcast_S_S16384x3 main_cst_6
  let main_v27 : IVec S16384x3 1 := cmpf .oeq main_v25 main_v26
  let main_c_7 : IVec S_ 1 := constantI S_ 1 1#1
  let main_v28 : IVec S_ 1 := (fun x v => Host.reduce IntOp.andi x v reducesTo_S16384x3_S_d0_1 h_S_) main_v27 main_c_7
  let main_v29 : IVec S_ 1 := andi main_v23 main_v28
  main_v29

def fn {F : FTy → Type} [FloatOps F] (main_arg0 : FVec F S512x16384 .bf16) (main_arg1 : FVec F S32x16384 .f32) (main_arg2 : FVec F S16384x512 .bf16) (main_arg3 : FVec F S16384x128 .bf16) (main_arg4 : FVec F S32x512x512 .bf16) : IVec S_ 1 :=
  let main_v0 : FVec F S512x16384 .f32 := (extf .f32 · bitsLt_bf16_f32) main_arg0
  let main_v1 : FVec F S512x16384 .f32 := Host.absf main_v0
  let main_cst : FVec F S_ .f32 := constant S_ .f32 0x7F800000#32
  let main_v2 : FVec F S512x16384 .f32 := broadcastInDim S512x16384 ![] bcast_S_S512x16384 main_cst
  let main_v3 : IVec S512x16384 1 := cmpf .olt main_v1 main_v2
  let main_c : IVec S_ 1 := constantI S_ 1 1#1
  let main_v4 : IVec S_ 1 := (fun x v => Host.reduce IntOp.andi x v reducesTo_S512x16384_S_d0_1 h_S_) main_v3 main_c
  let main_v5 : FVec F S24x16384 .f32 := (extractStridedSlice S24x16384 ![0, 0] · slices_S32x16384_S24x16384_0_0) main_arg1
  let main_v6 : FVec F S24x16384 .f32 := Host.absf main_v5
  let main_cst_0 : FVec F S_ .f32 := constant S_ .f32 0x7F800000#32
  let main_v7 : FVec F S24x16384 .f32 := broadcastInDim S24x16384 ![] bcast_S_S24x16384 main_cst_0
  let main_v8 : IVec S24x16384 1 := cmpf .olt main_v6 main_v7
  let main_c_1 : IVec S_ 1 := constantI S_ 1 1#1
  let main_v9 : IVec S_ 1 := (fun x v => Host.reduce IntOp.andi x v reducesTo_S24x16384_S_d0_1 h_S_) main_v8 main_c_1
  let main_v10 : IVec S_ 1 := andi main_v4 main_v9
  let main_v11 : FVec F S16384x512 .f32 := (extf .f32 · bitsLt_bf16_f32) main_arg2
  let main_v12 : FVec F S16384x512 .f32 := Host.absf main_v11
  let main_cst_2 : FVec F S_ .f32 := constant S_ .f32 0x7F800000#32
  let main_v13 : FVec F S16384x512 .f32 := broadcastInDim S16384x512 ![] bcast_S_S16384x512 main_cst_2
  let main_v14 : IVec S16384x512 1 := cmpf .olt main_v12 main_v13
  let main_c_3 : IVec S_ 1 := constantI S_ 1 1#1
  let main_v15 : IVec S_ 1 := (fun x v => Host.reduce IntOp.andi x v reducesTo_S16384x512_S_d0_1 h_S_) main_v14 main_c_3
  let main_v16 : IVec S_ 1 := andi main_v10 main_v15
  let main_v17 : FVec F S16384x24 .bf16 := (extractStridedSlice S16384x24 ![0, 0] · slices_S16384x128_S16384x24_0_0) main_arg3
  fn_part1 (F := F) main_arg3 main_v16 main_v17
-- ==== Kernel.lean ====
abbrev S512x16384 : Shape := ⟨2, ![512, 16384]⟩
abbrev S32x16384 : Shape := ⟨2, ![32, 16384]⟩
abbrev S16384x512 : Shape := ⟨2, ![16384, 512]⟩
abbrev S16384x128 : Shape := ⟨2, ![16384, 128]⟩
abbrev S32x512x512 : Shape := ⟨3, ![32, 512, 512]⟩
abbrev S128x1024 : Shape := ⟨2, ![128, 1024]⟩
abbrev S32x1024 : Shape := ⟨2, ![32, 1024]⟩
abbrev S32x64x512 : Shape := ⟨3, ![32, 64, 512]⟩
abbrev S64x1024 : Shape := ⟨2, ![64, 1024]⟩
abbrev S256x1024 : Shape := ⟨2, ![256, 1024]⟩
abbrev S80x1024 : Shape := ⟨2, ![80, 1024]⟩
abbrev S1x1024 : Shape := ⟨2, ![1, 1024]⟩
abbrev S512x1024 : Shape := ⟨2, ![512, 1024]⟩
abbrev S16x512 : Shape := ⟨2, ![16, 512]⟩
abbrev S512x128 : Shape := ⟨2, ![512, 128]⟩
abbrev S512x256 : Shape := ⟨2, ![512, 256]⟩
abbrev S512x512 : Shape := ⟨2, ![512, 512]⟩
abbrev S512 : Shape := ⟨1, ![512]⟩
abbrev S1x512 : Shape := ⟨2, ![1, 512]⟩
abbrev S256x512 : Shape := ⟨2, ![256, 512]⟩
abbrev S1x64x512 : Shape := ⟨3, ![1, 64, 512]⟩
abbrev S64x512 : Shape := ⟨2, ![64, 512]⟩
abbrev S80x512 : Shape := ⟨2, ![80, 512]⟩
abbrev S1024 : Shape := ⟨1, ![1024]⟩

abbrev nBuf : Space → Nat
  | .hbm => 6
  | .vmem => 18
  | .smem => 0
  | _ => 0

abbrev bufTy : (tb : Table) → Fin (tcTables nBuf tb) → BufTy
  | .hbm, ⟨0, _⟩ => ⟨S512x16384, .bf16⟩
  | .hbm, ⟨1, _⟩ => ⟨S32x16384, .f32⟩
  | .hbm, ⟨2, _⟩ => ⟨S16384x512, .bf16⟩
  | .hbm, ⟨3, _⟩ => ⟨S16384x128, .bf16⟩
  | .hbm, ⟨4, _⟩ => ⟨S32x512x512, .bf16⟩
  | .hbm, ⟨5, _⟩ => ⟨S512x16384, .bf16⟩
  | .local _ .vmem, ⟨0, _⟩ => ⟨S128x1024, .bf16⟩
  | .local _ .vmem, ⟨1, _⟩ => ⟨S128x1024, .bf16⟩
  | .local _ .vmem, ⟨2, _⟩ => ⟨S32x1024, .f32⟩
  | .local _ .vmem, ⟨3, _⟩ => ⟨S32x1024, .f32⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | .local _ .vmem, ⟨7, _⟩ => ⟨S32x64x512, .bf16⟩
  | .local _ .vmem, ⟨8, _⟩ => ⟨S32x64x512, .bf16⟩
  | .local _ .vmem, ⟨9, _⟩ => ⟨S64x1024, .bf16⟩
  | .local _ .vmem, ⟨10, _⟩ => ⟨S64x1024, .bf16⟩
  | .local _ .vmem, ⟨11, _⟩ => ⟨S256x1024, .bf16⟩
  | .local _ .vmem, ⟨12, _⟩ => ⟨S80x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | _, _ => ⟨S512x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def k0_off1 (i : grid0.Coords) (c0_i32_27 : BitVec 32) : Fin 2 → Nat :=
  let arg0 : BitVec 32 := BitVec.ofNat 32 (i 0).val
  let v80 : BitVec 32 := Scalar.addi c0_i32_27 arg0
  let v81 : Index := Scalar.indexCast v80
  let c0_28 : Index := 0#32
  ![v81.toNat, 0]
def k0_cond1 (i : grid0.Coords) : BitVec 1 :=
  let arg1 : BitVec 32 := BitVec.ofNat 32 (i 1).val
  let c0_i32_34 : BitVec 32 := 0#32
  let v107 : BitVec 1 := Scalar.cmpi .eq arg1 c0_i32_34
  let v108 : BitVec 32 := Scalar.extui v107
  let c0_i32_35 : BitVec 32 := 0#32
  let v109 : BitVec 1 := Scalar.cmpi .ne v108 c0_i32_35
  v109

def k0_mult1 (i : grid0.Coords) : BitVec 32 :=
  let c2_i32 : BitVec 32 := 2#32
  let arg1 : BitVec 32 := BitVec.ofNat 32 (i 1).val
  let v0 : BitVec 32 := Scalar.muli c2_i32 arg1
  let c512_i32 : BitVec 32 := 512#32
  let v120 : BitVec 32 := Scalar.muli v0 c512_i32
  v120
def k0_off2 (i : grid0.Coords) : Fin 2 → Nat :=
  let c2_i32 : BitVec 32 := 2#32
  let arg1 : BitVec 32 := BitVec.ofNat 32 (i 1).val
  let v0 : BitVec 32 := Scalar.muli c2_i32 arg1
  let c512_i32 : BitVec 32 := 512#32
  let v120 : BitVec 32 := Scalar.muli v0 c512_i32
  let v121 : BitVec 32 := v120
  let v122 : Index := Scalar.indexCast v121
  let c0_42 : Index := 0#32
  ![v122.toNat, 0]
def k0_mult2 (i : grid0.Coords) : BitVec 32 :=
  let c2_i32 : BitVec 32 := 2#32
  let arg1 : BitVec 32 := BitVec.ofNat 32 (i 1).val
  let v0 : BitVec 32 := Scalar.muli c2_i32 arg1
  let c1_i32_57 : BitVec 32 := 1#32
  let v153 : BitVec 32 := Scalar.addi v0 c1_i32_57
  let c512_i32_58 : BitVec 32 := 512#32
  let v154 : BitVec 32 := Scalar.muli v153 c512_i32_58
  v154
def k0_off3 (i : grid0.Coords) : Fin 2 → Nat :=
  let c2_i32 : BitVec 32 := 2#32
  let arg1 : BitVec 32 := BitVec.ofNat 32 (i 1).val
  let v0 : BitVec 32 := Scalar.muli c2_i32 arg1
  let c1_i32_57 : BitVec 32 := 1#32
  let v153 : BitVec 32 := Scalar.addi v0 c1_i32_57
  let c512_i32_58 : BitVec 32 := 512#32
  let v154 : BitVec 32 := Scalar.muli v153 c512_i32_58
  let v155 : BitVec 32 := v154
  let v156 : Index := Scalar.indexCast v155
  let c0_59 : Index := 0#32
  ![v156.toNat, 0]
def k0_off4 (i : grid0.Coords) : Fin 3 → Nat :=
  let c2_i32 : BitVec 32 := 2#32
  let arg1 : BitVec 32 := BitVec.ofNat 32 (i 1).val
  let v0 : BitVec 32 := Scalar.muli c2_i32 arg1
  let v186 : Index := Scalar.indexCast v0
  let c0_76 : Index := 0#32
  let c0_77 : Index := 0#32
  ![v186.toNat, 0, 0]
def k0_off5 (i : grid0.Coords) : Fin 3 → Nat :=
  let c2_i32 : BitVec 32 := 2#32
  let arg1 : BitVec 32 := BitVec.ofNat 32 (i 1).val
  let v0 : BitVec 32 := Scalar.muli c2_i32 arg1
  let c1_i32_85 : BitVec 32 := 1#32
  let v201 : BitVec 32 := Scalar.addi v0 c1_i32_85
  let v212 : Index := Scalar.indexCast v201
  let c0_92 : Index := 0#32
  let c0_93 : Index := 0#32
  ![v212.toNat, 0, 0]
def k0_cond2 (i : grid0.Coords) : BitVec 1 :=
  let arg1 : BitVec 32 := BitVec.ofNat 32 (i 1).val
  let c0_i32_36 : BitVec 32 := 0#32
  let v110 : BitVec 1 := Scalar.cmpi .sgt arg1 c0_i32_36
  let v111 : BitVec 32 := Scalar.extui v110
  let c0_i32_37 : BitVec 32 := 0#32
  let v112 : BitVec 1 := Scalar.cmpi .ne v111 c0_i32_37
  v112

def k0_mult3 : BitVec 32 :=
  let c0_i32_42 : BitVec 32 := 0#32
  c0_i32_42
@[reducible] def k0_t1_loop (i : grid0.Coords) : Scf.Loop 32 :=
  let c0_i32_62 : BitVec 32 := 0#32
  let c2_i32 : BitVec 32 := 2#32
  let arg1 : BitVec 32 := BitVec.ofNat 32 (i 1).val
  let v0 : BitVec 32 := Scalar.muli c2_i32 arg1
  let c0_i32_54 : BitVec 32 := 0#32
  let v137 : BitVec 1 := Scalar.cmpi .sgt v0 c0_i32_54
  let v138 : BitVec 32 := Scalar.extui v137
  let c0_i32_55 : BitVec 32 := 0#32
  let v139 : BitVec 1 := Scalar.cmpi .slt v0 c0_i32_55
  let v140 : BitVec 32 := Scalar.extui v139
  let v141 : BitVec 32 := Scalar.subi v138 v140
  let c2_i32_53 : BitVec 32 := 2#32
  let c0_i32_56 : BitVec 32 := 0#32
  let v142 : BitVec 1 := Scalar.cmpi .sgt c2_i32_53 c0_i32_56
  let v143 : BitVec 32 := Scalar.extui v142
  let c0_i32_57 : BitVec 32 := 0#32
  let v144 : BitVec 1 := Scalar.cmpi .slt c2_i32_53 c0_i32_57
  let v145 : BitVec 32 := Scalar.extui v144
  let v146 : BitVec 32 := Scalar.subi v143 v145
  let v147 : BitVec 1 := Scalar.cmpi .ne v141 v146
  let v148 : BitVec 32 := Scalar.remsi v0 c2_i32_53
  let c0_i32_58 : BitVec 32 := 0#32
  let v149 : BitVec 1 := Scalar.cmpi .ne v148 c0_i32_58
  let v150 : BitVec 1 := Scalar.andi v147 v149
  let v136 : BitVec 32 := Scalar.divsi v0 c2_i32_53
  let c1_i32_59 : BitVec 32 := 1#32
  let v151 : BitVec 32 := Scalar.subi v136 c1_i32_59
  let v152 : BitVec 32 := Scalar.select v150 v151 v136
  let c1_i32_60 : BitVec 32 := 1#32
  let v153 : BitVec 32 := Scalar.subi v152 c1_i32_60
  let v154 : BitVec 32 := Scalar.subi v153 c0_i32_62
  let c1_i32_63 : BitVec 32 := 1#32
  let v156 : BitVec 32 := Scalar.divsi v154 c1_i32_63
  let v157 : BitVec 32 := Scalar.muli v156 c1_i32_63
  let v158 : BitVec 32 := Scalar.addi c0_i32_62 v157
  let c1_i32_64 : BitVec 32 := 1#32
  ⟨c0_i32_62, v158, c1_i32_64⟩
def k0_mult4 (i : grid0.Coords) (k0_t1 : Fin (k0_t1_loop i).trips) : BitVec 32 :=
  let c2_i32_169 : BitVec 32 := 2#32
  let c0_i32_62 : BitVec 32 := 0#32
  let c1_i32_64 : BitVec 32 := 1#32
  let arg15 : BitVec 32 := Scf.iv c0_i32_62 c1_i32_64 k0_t1
  let v336 : BitVec 32 := Scalar.muli c2_i32_169 arg15
  let c1_i32_170 : BitVec 32 := 1#32
  let v337 : BitVec 32 := Scalar.addi v336 c1_i32_170
  let c512_i32_171 : BitVec 32 := 512#32
  let v338 : BitVec 32 := Scalar.muli v337 c512_i32_171
  v338
def k0_off6 (i : grid0.Coords) (k0_t1 : Fin (k0_t1_loop i).trips) (c1_i32_170 : BitVec 32) : Fin 2 → Nat :=
  let c2_i32_169 : BitVec 32 := 2#32
  let c0_i32_62 : BitVec 32 := 0#32
  let c1_i32_64 : BitVec 32 := 1#32
  let arg15 : BitVec 32 := Scf.iv c0_i32_62 c1_i32_64 k0_t1
  let v336 : BitVec 32 := Scalar.muli c2_i32_169 arg15
  let v337 : BitVec 32 := Scalar.addi v336 c1_i32_170
  let c512_i32_171 : BitVec 32 := 512#32
  let v338 : BitVec 32 := Scalar.muli v337 c512_i32_171
  let v339 : BitVec 32 := v338
  let v340 : Index := Scalar.indexCast v339
  let c0_172 : Index := 0#32
  ![v340.toNat, 0]
def k0_off7 (i : grid0.Coords) (k0_t1 : Fin (k0_t1_loop i).trips) : Fin 3 → Nat :=
  let c2_i32_182 : BitVec 32 := 2#32
  let c0_i32_62 : BitVec 32 := 0#32
  let c1_i32_64 : BitVec 32 := 1#32
  let arg15 : BitVec 32 := Scf.iv c0_i32_62 c1_i32_64 k0_t1
  let v355 : BitVec 32 := Scalar.muli c2_i32_182 arg15
  let v366 : Index := Scalar.indexCast v355
  let c0_189 : Index := 0#32
  let c0_190 : Index := 0#32
  ![v366.toNat, 0, 0]
def k0_mult5 (i : grid0.Coords) (k0_t1 : Fin (k0_t1_loop i).trips) : BitVec 32 :=
  let c2_i32_198 : BitVec 32 := 2#32
  let c0_i32_62 : BitVec 32 := 0#32
  let c1_i32_64 : BitVec 32 := 1#32
  let arg15 : BitVec 32 := Scf.iv c0_i32_62 c1_i32_64 k0_t1
  let v381 : BitVec 32 := Scalar.muli c2_i32_198 arg15
  let c2_i32_199 : BitVec 32 := 2#32
  let v382 : BitVec 32 := Scalar.addi v381 c2_i32_199
  let c512_i32_200 : BitVec 32 := 512#32
  let v383 : BitVec 32 := Scalar.muli v382 c512_i32_200
  v383
def k0_off8 (i : grid0.Coords) (k0_t1 : Fin (k0_t1_loop i).trips) : Fin 3 → Nat :=
  let c2_i32_211 : BitVec 32 := 2#32
  let c0_i32_62 : BitVec 32 := 0#32
  let c1_i32_64 : BitVec 32 := 1#32
  let arg15 : BitVec 32 := Scf.iv c0_i32_62 c1_i32_64 k0_t1
  let v400 : BitVec 32 := Scalar.muli c2_i32_211 arg15
  let c1_i32_212 : BitVec 32 := 1#32
  let v401 : BitVec 32 := Scalar.addi v400 c1_i32_212
  let v412 : Index := Scalar.indexCast v401
  let c0_219 : Index := 0#32
  let c0_220 : Index := 0#32
  ![v412.toNat, 0, 0]
@[reducible] def k0_t2_loop (i : grid0.Coords) : Scf.Loop 32 :=
  let c0_i32_62 : BitVec 32 := 0#32
  let c2_i32 : BitVec 32 := 2#32
  let arg1 : BitVec 32 := BitVec.ofNat 32 (i 1).val
  let v0 : BitVec 32 := Scalar.muli c2_i32 arg1
  let c0_i32_54 : BitVec 32 := 0#32
  let v137 : BitVec 1 := Scalar.cmpi .sgt v0 c0_i32_54
  let v138 : BitVec 32 := Scalar.extui v137
  let c0_i32_55 : BitVec 32 := 0#32
  let v139 : BitVec 1 := Scalar.cmpi .slt v0 c0_i32_55
  let v140 : BitVec 32 := Scalar.extui v139
  let v141 : BitVec 32 := Scalar.subi v138 v140
  let c2_i32_53 : BitVec 32 := 2#32
  let c0_i32_56 : BitVec 32 := 0#32
  let v142 : BitVec 1 := Scalar.cmpi .sgt c2_i32_53 c0_i32_56
  let v143 : BitVec 32 := Scalar.extui v142
  let c0_i32_57 : BitVec 32 := 0#32
  let v144 : BitVec 1 := Scalar.cmpi .slt c2_i32_53 c0_i32_57
  let v145 : BitVec 32 := Scalar.extui v144
  let v146 : BitVec 32 := Scalar.subi v143 v145
  let v147 : BitVec 1 := Scalar.cmpi .ne v141 v146
  let v148 : BitVec 32 := Scalar.remsi v0 c2_i32_53
  let c0_i32_58 : BitVec 32 := 0#32
  let v149 : BitVec 1 := Scalar.cmpi .ne v148 c0_i32_58
  let v150 : BitVec 1 := Scalar.andi v147 v149
  let v136 : BitVec 32 := Scalar.divsi v0 c2_i32_53
  let c1_i32_59 : BitVec 32 := 1#32
  let v151 : BitVec 32 := Scalar.subi v136 c1_i32_59
  let v152 : BitVec 32 := Scalar.select v150 v151 v136
  let c1_i32_60 : BitVec 32 := 1#32
  let v153 : BitVec 32 := Scalar.subi v152 c1_i32_60
  let v154 : BitVec 32 := Scalar.subi v153 c0_i32_62
  let c1_i32_63 : BitVec 32 := 1#32
  let v156 : BitVec 32 := Scalar.divsi v154 c1_i32_63
  let v157 : BitVec 32 := Scalar.muli v156 c1_i32_63
  let v158 : BitVec 32 := Scalar.addi c0_i32_62 v157
  let v155 : BitVec 32 := Scalar.addi c0_i32_62 v154
  let c1_i32_65 : BitVec 32 := 1#32
  ⟨v158, v155, c1_i32_65⟩
def k0_mult6 (i : grid0.Coords) (k0_t2 : Fin (k0_t2_loop i).trips) : BitVec 32 :=
  let c2_i32_169 : BitVec 32 := 2#32
  let c0_i32_62 : BitVec 32 := 0#32
  let c2_i32 : BitVec 32 := 2#32
  let arg1 : BitVec 32 := BitVec.ofNat 32 (i 1).val
  let v0 : BitVec 32 := Scalar.muli c2_i32 arg1
  let c0_i32_54 : BitVec 32 := 0#32
  let v137 : BitVec 1 := Scalar.cmpi .sgt v0 c0_i32_54
  let v138 : BitVec 32 := Scalar.extui v137
  let c0_i32_55 : BitVec 32 := 0#32
  let v139 : BitVec 1 := Scalar.cmpi .slt v0 c0_i32_55
  let v140 : BitVec 32 := Scalar.extui v139
  let v141 : BitVec 32 := Scalar.subi v138 v140
  let c2_i32_53 : BitVec 32 := 2#32
  let c0_i32_56 : BitVec 32 := 0#32
  let v142 : BitVec 1 := Scalar.cmpi .sgt c2_i32_53 c0_i32_56
  let v143 : BitVec 32 := Scalar.extui v142
  let c0_i32_57 : BitVec 32 := 0#32
  let v144 : BitVec 1 := Scalar.cmpi .slt c2_i32_53 c0_i32_57
  let v145 : BitVec 32 := Scalar.extui v144
  let v146 : BitVec 32 := Scalar.subi v143 v145
  let v147 : BitVec 1 := Scalar.cmpi .ne v141 v146
  let v148 : BitVec 32 := Scalar.remsi v0 c2_i32_53
  let c0_i32_58 : BitVec 32 := 0#32
  let v149 : BitVec 1 := Scalar.cmpi .ne v148 c0_i32_58
  let v150 : BitVec 1 := Scalar.andi v147 v149
  let v136 : BitVec 32 := Scalar.divsi v0 c2_i32_53
  let c1_i32_59 : BitVec 32 := 1#32
  let v151 : BitVec 32 := Scalar.subi v136 c1_i32_59
  let v152 : BitVec 32 := Scalar.select v150 v151 v136
  let c1_i32_60 : BitVec 32 := 1#32
  let v153 : BitVec 32 := Scalar.subi v152 c1_i32_60
  let v154 : BitVec 32 := Scalar.subi v153 c0_i32_62
  let c1_i32_63 : BitVec 32 := 1#32
  let v156 : BitVec 32 := Scalar.divsi v154 c1_i32_63
  let v157 : BitVec 32 := Scalar.muli v156 c1_i32_63
  let v158 : BitVec 32 := Scalar.addi c0_i32_62 v157
  let c1_i32_65 : BitVec 32 := 1#32
  let arg15 : BitVec 32 := Scf.iv v158 c1_i32_65 k0_t2
  let v336 : BitVec 32 := Scalar.muli c2_i32_169 arg15
  let c1_i32_170 : BitVec 32 := 1#32
  let v337 : BitVec 32 := Scalar.addi v336 c1_i32_170
  let c512_i32_171 : BitVec 32 := 512#32
  let v338 : BitVec 32 := Scalar.muli v337 c512_i32_171
  v338
def k0_off9 (i : grid0.Coords) (k0_t2 : Fin (k0_t2_loop i).trips) (c1_i32_170 : BitVec 32) : Fin 2 → Nat :=
  let c2_i32_169 : BitVec 32 := 2#32
  let c0_i32_62 : BitVec 32 := 0#32
  let c2_i32 : BitVec 32 := 2#32
  let arg1 : BitVec 32 := BitVec.ofNat 32 (i 1).val
  let v0 : BitVec 32 := Scalar.muli c2_i32 arg1
  let c0_i32_54 : BitVec 32 := 0#32
  let v137 : BitVec 1 := Scalar.cmpi .sgt v0 c0_i32_54
  let v138 : BitVec 32 := Scalar.extui v137
  let c0_i32_55 : BitVec 32 := 0#32
  let v139 : BitVec 1 := Scalar.cmpi .slt v0 c0_i32_55
  let v140 : BitVec 32 := Scalar.extui v139
  let v141 : BitVec 32 := Scalar.subi v138 v140
  let c2_i32_53 : BitVec 32 := 2#32
  let c0_i32_56 : BitVec 32 := 0#32
  let v142 : BitVec 1 := Scalar.cmpi .sgt c2_i32_53 c0_i32_56
  let v143 : BitVec 32 := Scalar.extui v142
  let c0_i32_57 : BitVec 32 := 0#32
  let v144 : BitVec 1 := Scalar.cmpi .slt c2_i32_53 c0_i32_57
  let v145 : BitVec 32 := Scalar.extui v144
  let v146 : BitVec 32 := Scalar.subi v143 v145
  let v147 : BitVec 1 := Scalar.cmpi .ne v141 v146
  let v148 : BitVec 32 := Scalar.remsi v0 c2_i32_53
  let c0_i32_58 : BitVec 32 := 0#32
  let v149 : BitVec 1 := Scalar.cmpi .ne v148 c0_i32_58
  let v150 : BitVec 1 := Scalar.andi v147 v149
  let v136 : BitVec 32 := Scalar.divsi v0 c2_i32_53
  let c1_i32_59 : BitVec 32 := 1#32
  let v151 : BitVec 32 := Scalar.subi v136 c1_i32_59
  let v152 : BitVec 32 := Scalar.select v150 v151 v136
  let c1_i32_60 : BitVec 32 := 1#32
  let v153 : BitVec 32 := Scalar.subi v152 c1_i32_60
  let v154 : BitVec 32 := Scalar.subi v153 c0_i32_62
  let c1_i32_63 : BitVec 32 := 1#32
  let v156 : BitVec 32 := Scalar.divsi v154 c1_i32_63
  let v157 : BitVec 32 := Scalar.muli v156 c1_i32_63
  let v158 : BitVec 32 := Scalar.addi c0_i32_62 v157
  let c1_i32_65 : BitVec 32 := 1#32
  let arg15 : BitVec 32 := Scf.iv v158 c1_i32_65 k0_t2
  let v336 : BitVec 32 := Scalar.muli c2_i32_169 arg15
  let v337 : BitVec 32 := Scalar.addi v336 c1_i32_170
  let c512_i32_171 : BitVec 32 := 512#32
  let v338 : BitVec 32 := Scalar.muli v337 c512_i32_171
  let v339 : BitVec 32 := v338
  let v340 : Index := Scalar.indexCast v339
  let c0_172 : Index := 0#32
  ![v340.toNat, 0]
def k0_off10 (i : grid0.Coords) (k0_t2 : Fin (k0_t2_loop i).trips) : Fin 3 → Nat :=
  let c2_i32_182 : BitVec 32 := 2#32
  let c0_i32_62 : BitVec 32 := 0#32
  let c2_i32 : BitVec 32 := 2#32
  let arg1 : BitVec 32 := BitVec.ofNat 32 (i 1).val
  let v0 : BitVec 32 := Scalar.muli c2_i32 arg1
  let c0_i32_54 : BitVec 32 := 0#32
  let v137 : BitVec 1 := Scalar.cmpi .sgt v0 c0_i32_54
  let v138 : BitVec 32 := Scalar.extui v137
  let c0_i32_55 : BitVec 32 := 0#32
  let v139 : BitVec 1 := Scalar.cmpi .slt v0 c0_i32_55
  let v140 : BitVec 32 := Scalar.extui v139
  let v141 : BitVec 32 := Scalar.subi v138 v140
  let c2_i32_53 : BitVec 32 := 2#32
  let c0_i32_56 : BitVec 32 := 0#32
  let v142 : BitVec 1 := Scalar.cmpi .sgt c2_i32_53 c0_i32_56
  let v143 : BitVec 32 := Scalar.extui v142
  let c0_i32_57 : BitVec 32 := 0#32
  let v144 : BitVec 1 := Scalar.cmpi .slt c2_i32_53 c0_i32_57
  let v145 : BitVec 32 := Scalar.extui v144
  let v146 : BitVec 32 := Scalar.subi v143 v145
  let v147 : BitVec 1 := Scalar.cmpi .ne v141 v146
  let v148 : BitVec 32 := Scalar.remsi v0 c2_i32_53
  let c0_i32_58 : BitVec 32 := 0#32
  let v149 : BitVec 1 := Scalar.cmpi .ne v148 c0_i32_58
  let v150 : BitVec 1 := Scalar.andi v147 v149
  let v136 : BitVec 32 := Scalar.divsi v0 c2_i32_53
  let c1_i32_59 : BitVec 32 := 1#32
  let v151 : BitVec 32 := Scalar.subi v136 c1_i32_59
  let v152 : BitVec 32 := Scalar.select v150 v151 v136
  let c1_i32_60 : BitVec 32 := 1#32
  let v153 : BitVec 32 := Scalar.subi v152 c1_i32_60
  let v154 : BitVec 32 := Scalar.subi v153 c0_i32_62
  let c1_i32_63 : BitVec 32 := 1#32
  let v156 : BitVec 32 := Scalar.divsi v154 c1_i32_63
  let v157 : BitVec 32 := Scalar.muli v156 c1_i32_63
  let v158 : BitVec 32 := Scalar.addi c0_i32_62 v157
  let c1_i32_65 : BitVec 32 := 1#32
  let arg15 : BitVec 32 := Scf.iv v158 c1_i32_65 k0_t2
  let v355 : BitVec 32 := Scalar.muli c2_i32_182 arg15
  let v366 : Index := Scalar.indexCast v355
  let c0_189 : Index := 0#32
  let c0_190 : Index := 0#32
  ![v366.toNat, 0, 0]
def k0_mult7 (i : grid0.Coords) (k0_t2 : Fin (k0_t2_loop i).trips) : BitVec 32 :=
  let c2_i32_198 : BitVec 32 := 2#32
  let c0_i32_62 : BitVec 32 := 0#32
  let c2_i32 : BitVec 32 := 2#32
  let arg1 : BitVec 32 := BitVec.ofNat 32 (i 1).val
  let v0 : BitVec 32 := Scalar.muli c2_i32 arg1
  let c0_i32_54 : BitVec 32 := 0#32
  let v137 : BitVec 1 := Scalar.cmpi .sgt v0 c0_i32_54
  let v138 : BitVec 32 := Scalar.extui v137
  let c0_i32_55 : BitVec 32 := 0#32
  let v139 : BitVec 1 := Scalar.cmpi .slt v0 c0_i32_55
  let v140 : BitVec 32 := Scalar.extui v139
  let v141 : BitVec 32 := Scalar.subi v138 v140
  let c2_i32_53 : BitVec 32 := 2#32
  let c0_i32_56 : BitVec 32 := 0#32
  let v142 : BitVec 1 := Scalar.cmpi .sgt c2_i32_53 c0_i32_56
  let v143 : BitVec 32 := Scalar.extui v142
  let c0_i32_57 : BitVec 32 := 0#32
  let v144 : BitVec 1 := Scalar.cmpi .slt c2_i32_53 c0_i32_57
  let v145 : BitVec 32 := Scalar.extui v144
  let v146 : BitVec 32 := Scalar.subi v143 v145
  let v147 : BitVec 1 := Scalar.cmpi .ne v141 v146
  let v148 : BitVec 32 := Scalar.remsi v0 c2_i32_53
  let c0_i32_58 : BitVec 32 := 0#32
  let v149 : BitVec 1 := Scalar.cmpi .ne v148 c0_i32_58
  let v150 : BitVec 1 := Scalar.andi v147 v149
  let v136 : BitVec 32 := Scalar.divsi v0 c2_i32_53
  let c1_i32_59 : BitVec 32 := 1#32
  let v151 : BitVec 32 := Scalar.subi v136 c1_i32_59
  let v152 : BitVec 32 := Scalar.select v150 v151 v136
  let c1_i32_60 : BitVec 32 := 1#32
  let v153 : BitVec 32 := Scalar.subi v152 c1_i32_60
  let v154 : BitVec 32 := Scalar.subi v153 c0_i32_62
  let c1_i32_63 : BitVec 32 := 1#32
  let v156 : BitVec 32 := Scalar.divsi v154 c1_i32_63
  let v157 : BitVec 32 := Scalar.muli v156 c1_i32_63
  let v158 : BitVec 32 := Scalar.addi c0_i32_62 v157
  let c1_i32_65 : BitVec 32 := 1#32
  let arg15 : BitVec 32 := Scf.iv v158 c1_i32_65 k0_t2
  let v381 : BitVec 32 := Scalar.muli c2_i32_198 arg15
  let c2_i32_199 : BitVec 32 := 2#32
  let v382 : BitVec 32 := Scalar.addi v381 c2_i32_199
  let c512_i32_200 : BitVec 32 := 512#32
  let v383 : BitVec 32 := Scalar.muli v382 c512_i32_200
  v383
def k0_off11 (i : grid0.Coords) (k0_t2 : Fin (k0_t2_loop i).trips) : Fin 3 → Nat :=
  let c2_i32_211 : BitVec 32 := 2#32
  let c0_i32_62 : BitVec 32 := 0#32
  let c2_i32 : BitVec 32 := 2#32
  let arg1 : BitVec 32 := BitVec.ofNat 32 (i 1).val
  let v0 : BitVec 32 := Scalar.muli c2_i32 arg1
  let c0_i32_54 : BitVec 32 := 0#32
  let v137 : BitVec 1 := Scalar.cmpi .sgt v0 c0_i32_54
  let v138 : BitVec 32 := Scalar.extui v137
  let c0_i32_55 : BitVec 32 := 0#32
  let v139 : BitVec 1 := Scalar.cmpi .slt v0 c0_i32_55
  let v140 : BitVec 32 := Scalar.extui v139
  let v141 : BitVec 32 := Scalar.subi v138 v140
  let c2_i32_53 : BitVec 32 := 2#32
  let c0_i32_56 : BitVec 32 := 0#32
  let v142 : BitVec 1 := Scalar.cmpi .sgt c2_i32_53 c0_i32_56
  let v143 : BitVec 32 := Scalar.extui v142
  let c0_i32_57 : BitVec 32 := 0#32
  let v144 : BitVec 1 := Scalar.cmpi .slt c2_i32_53 c0_i32_57
  let v145 : BitVec 32 := Scalar.extui v144
  let v146 : BitVec 32 := Scalar.subi v143 v145
  let v147 : BitVec 1 := Scalar.cmpi .ne v141 v146
  let v148 : BitVec 32 := Scalar.remsi v0 c2_i32_53
  let c0_i32_58 : BitVec 32 := 0#32
  let v149 : BitVec 1 := Scalar.cmpi .ne v148 c0_i32_58
  let v150 : BitVec 1 := Scalar.andi v147 v149
  let v136 : BitVec 32 := Scalar.divsi v0 c2_i32_53
  let c1_i32_59 : BitVec 32 := 1#32
  let v151 : BitVec 32 := Scalar.subi v136 c1_i32_59
  let v152 : BitVec 32 := Scalar.select v150 v151 v136
  let c1_i32_60 : BitVec 32 := 1#32
  let v153 : BitVec 32 := Scalar.subi v152 c1_i32_60
  let v154 : BitVec 32 := Scalar.subi v153 c0_i32_62
  let c1_i32_63 : BitVec 32 := 1#32
  let v156 : BitVec 32 := Scalar.divsi v154 c1_i32_63
  let v157 : BitVec 32 := Scalar.muli v156 c1_i32_63
  let v158 : BitVec 32 := Scalar.addi c0_i32_62 v157
  let c1_i32_65 : BitVec 32 := 1#32
  let arg15 : BitVec 32 := Scf.iv v158 c1_i32_65 k0_t2
  let v400 : BitVec 32 := Scalar.muli c2_i32_211 arg15
  let c1_i32_212 : BitVec 32 := 1#32
  let v401 : BitVec 32 := Scalar.addi v400 c1_i32_212
  let v412 : Index := Scalar.indexCast v401
  let c0_219 : Index := 0#32
  let c0_220 : Index := 0#32
  ![v412.toNat, 0, 0]
def k0_mult8 (i : grid0.Coords) : BitVec 32 :=
  let c2_i32 : BitVec 32 := 2#32
  let arg1 : BitVec 32 := BitVec.ofNat 32 (i 1).val
  let v0 : BitVec 32 := Scalar.muli c2_i32 arg1
  let c1_i32_66 : BitVec 32 := 1#32
  let v159 : BitVec 32 := Scalar.subi v0 c1_i32_66
  let c512_i32 : BitVec 32 := 512#32
  let v160 : BitVec 32 := Scalar.muli v159 c512_i32
  v160
def k0_off12 (i : grid0.Coords) : Fin 2 → Nat :=
  let c2_i32 : BitVec 32 := 2#32
  let arg1 : BitVec 32 := BitVec.ofNat 32 (i 1).val
  let v0 : BitVec 32 := Scalar.muli c2_i32 arg1
  let c1_i32_66 : BitVec 32 := 1#32
  let v159 : BitVec 32 := Scalar.subi v0 c1_i32_66
  let c512_i32 : BitVec 32 := 512#32
  let v160 : BitVec 32 := Scalar.muli v159 c512_i32
  let v161 : BitVec 32 := v160
  let v162 : Index := Scalar.indexCast v161
  let c0_67 : Index := 0#32
  ![v162.toNat, 0]
def k0_off13 (i : grid0.Coords) (c2_i32_77 : BitVec 32) : Fin 3 → Nat :=
  let c2_i32 : BitVec 32 := 2#32
  let arg1 : BitVec 32 := BitVec.ofNat 32 (i 1).val
  let v0 : BitVec 32 := Scalar.muli c2_i32 arg1
  let v177 : BitVec 32 := Scalar.subi v0 c2_i32_77
  let v188 : Index := Scalar.indexCast v177
  let c0_84 : Index := 0#32
  let c0_85 : Index := 0#32
  ![v188.toNat, 0, 0]
def k0_mult9 (i : grid0.Coords) : BitVec 32 :=
  let c2_i32 : BitVec 32 := 2#32
  let arg1 : BitVec 32 := BitVec.ofNat 32 (i 1).val
  let v0 : BitVec 32 := Scalar.muli c2_i32 arg1
  let c512_i32_94 : BitVec 32 := 512#32
  let v204 : BitVec 32 := Scalar.muli v0 c512_i32_94
  v204
def k0_off14 (i : grid0.Coords) : Fin 2 → Nat :=
  let c2_i32 : BitVec 32 := 2#32
  let arg1 : BitVec 32 := BitVec.ofNat 32 (i 1).val
  let v0 : BitVec 32 := Scalar.muli c2_i32 arg1
  let c512_i32_94 : BitVec 32 := 512#32
  let v204 : BitVec 32 := Scalar.muli v0 c512_i32_94
  let v205 : BitVec 32 := v204
  let v206 : Index := Scalar.indexCast v205
  let c0_95 : Index := 0#32
  ![v206.toNat, 0]
def k0_mult10 (i : grid0.Coords) : BitVec 32 :=
  let c2_i32 : BitVec 32 := 2#32
  let arg1 : BitVec 32 := BitVec.ofNat 32 (i 1).val
  let v0 : BitVec 32 := Scalar.muli c2_i32 arg1
  let c1_i32_125 : BitVec 32 := 1#32
  let v262 : BitVec 32 := Scalar.addi v0 c1_i32_125
  let c512_i32_126 : BitVec 32 := 512#32
  let v263 : BitVec 32 := Scalar.muli v262 c512_i32_126
  v263
def k0_off15 (i : grid0.Coords) : Fin 2 → Nat :=
  let c2_i32 : BitVec 32 := 2#32
  let arg1 : BitVec 32 := BitVec.ofNat 32 (i 1).val
  let v0 : BitVec 32 := Scalar.muli c2_i32 arg1
  let c1_i32_125 : BitVec 32 := 1#32
  let v262 : BitVec 32 := Scalar.addi v0 c1_i32_125
  let c512_i32_126 : BitVec 32 := 512#32
  let v263 : BitVec 32 := Scalar.muli v262 c512_i32_126
  let v264 : BitVec 32 := v263
  let v265 : Index := Scalar.indexCast v264
  let c0_127 : Index := 0#32
  ![v265.toNat, 0]
def k0_off16 (i : grid0.Coords) : Fin 3 → Nat :=
  let c2_i32 : BitVec 32 := 2#32
  let arg1 : BitVec 32 := BitVec.ofNat 32 (i 1).val
  let v0 : BitVec 32 := Scalar.muli c2_i32 arg1
  let v295 : Index := Scalar.indexCast v0
  let c0_144 : Index := 0#32
  let c0_145 : Index := 0#32
  ![v295.toNat, 0, 0]
def k0_off17 (i : grid0.Coords) : Fin 3 → Nat :=
  let c2_i32 : BitVec 32 := 2#32
  let arg1 : BitVec 32 := BitVec.ofNat 32 (i 1).val
  let v0 : BitVec 32 := Scalar.muli c2_i32 arg1
  let c1_i32_153 : BitVec 32 := 1#32
  let v310 : BitVec 32 := Scalar.addi v0 c1_i32_153
  let v321 : Index := Scalar.indexCast v310
  let c0_160 : Index := 0#32
  let c0_161 : Index := 0#32
  ![v321.toNat, 0, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S512x16384 : Shape := ⟨2, ![512, 16384]⟩
abbrev S32x16384 : Shape := ⟨2, ![32, 16384]⟩
abbrev S16384x512 : Shape := ⟨2, ![16384, 512]⟩
abbrev S16384x128 : Shape := ⟨2, ![16384, 128]⟩
abbrev S32x512x512 : Shape := ⟨3, ![32, 512, 512]⟩
abbrev S16384x8x64 : Shape := ⟨3, ![16384, 8, 64]⟩
abbrev S24x16384 : Shape := ⟨2, ![24, 16384]⟩
abbrev S3x8x16384 : Shape := ⟨3, ![3, 8, 16384]⟩
abbrev S_ : Shape := ⟨0, ![]⟩
abbrev S8x16384 : Shape := ⟨2, ![8, 16384]⟩
abbrev S16384x24 : Shape := ⟨2, ![16384, 24]⟩
abbrev S16384x3x8 : Shape := ⟨3, ![16384, 3, 8]⟩
abbrev S16384x8 : Shape := ⟨2, ![16384, 8]⟩
abbrev S8x16384x16384 : Shape := ⟨3, ![8, 16384, 16384]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩

abbrev nBuf : Space → Nat
  | .hbm => 61
  | .vmem => 0
  | .smem => 0
  | _ => 0

abbrev bufTy : (tb : Table) → Fin (tcTables nBuf tb) → BufTy
  | .hbm, ⟨0, _⟩ => ⟨S512x16384, .bf16⟩
  | .hbm, ⟨1, _⟩ => ⟨S32x16384, .f32⟩
  | .hbm, ⟨2, _⟩ => ⟨S16384x512, .bf16⟩
  | .hbm, ⟨3, _⟩ => ⟨S16384x128, .bf16⟩
  | .hbm, ⟨4, _⟩ => ⟨S32x512x512, .bf16⟩
  | .hbm, ⟨5, _⟩ => ⟨S512x16384, .f32⟩
  | .hbm, ⟨6, _⟩ => ⟨S16384x512, .f32⟩
  | .hbm, ⟨7, _⟩ => ⟨S16384x8x64, .f32⟩
  | .hbm, ⟨8, _⟩ => ⟨S16384x512, .f32⟩
  | .hbm, ⟨9, _⟩ => ⟨S16384x8x64, .f32⟩
  | .hbm, ⟨10, _⟩ => ⟨S32x512x512, .f32⟩
  | .hbm, ⟨11, _⟩ => ⟨S32x512x512, .f32⟩
  | .hbm, ⟨12, _⟩ => ⟨S16384x8x64, .f32⟩
  | .hbm, ⟨13, _⟩ => ⟨S24x16384, .f32⟩
  | .hbm, ⟨14, _⟩ => ⟨S3x8x16384, .f32⟩
  | .hbm, ⟨15, _⟩ => ⟨S_, .f32⟩
  | .hbm, ⟨16, _⟩ => ⟨S8x16384, .f32⟩
  | .hbm, ⟨17, _⟩ => ⟨S16384x24, .bf16⟩
  | .hbm, ⟨18, _⟩ => ⟨S16384x24, .f32⟩
  | .hbm, ⟨19, _⟩ => ⟨S16384x3x8, .f32⟩
  | .hbm, ⟨20, _⟩ => ⟨S_, .f32⟩
  | .hbm, ⟨21, _⟩ => ⟨S16384x8, .f32⟩
  | .hbm, ⟨22, _⟩ => ⟨S8x16384, .f32⟩
  | .hbm, ⟨23, _⟩ => ⟨S8x16384, .f32⟩
  | .hbm, ⟨24, _⟩ => ⟨S8x16384x16384, .f32⟩
  | .hbm, ⟨25, _⟩ => ⟨S8x16384x1, .f32⟩
  | .hbm, ⟨26, _⟩ => ⟨S8x1x16384, .f32⟩
  | .hbm, ⟨27, _⟩ => ⟨S8x16384x16384, .f32⟩
  | .hbm, ⟨28, _⟩ => ⟨S8x16384x16384, .f32⟩
  | .hbm, ⟨29, _⟩ => ⟨S8x16384x16384, .f32⟩
  | .hbm, ⟨30, _⟩ => ⟨S8x16384x16384, .f32⟩
  | .hbm, ⟨31, _⟩ => ⟨S16384, .i32⟩
  | .hbm, ⟨32, _⟩ => ⟨S1x16384, .i32⟩
  | .hbm, ⟨33, _⟩ => ⟨S16384x1, .i32⟩
  | .hbm, ⟨34, _⟩ => ⟨S16384x16384, .i32⟩
  | .hbm, ⟨35, _⟩ => ⟨S16384x16384, .i32⟩
  | .hbm, ⟨36, _⟩ => ⟨S16384x16384, .i1⟩
  | .hbm, ⟨37, _⟩ => ⟨S_, .f32⟩
  | .hbm, ⟨38, _⟩ => ⟨S_, .f32⟩
  | .hbm, ⟨39, _⟩ => ⟨S8x16384x16384, .i1⟩
  | .hbm, ⟨40, _⟩ => ⟨S8x16384x16384, .f32⟩
  | .hbm, ⟨41, _⟩ => ⟨S8x16384x16384, .f32⟩
  | .hbm, ⟨42, _⟩ => ⟨S_, .f32⟩
  | .hbm, ⟨43, _⟩ => ⟨S8x16384, .f32⟩
  | .hbm, ⟨44, _⟩ => ⟨S_, .f32⟩
  | .hbm, ⟨45, _⟩ => ⟨S8x16384, .f32⟩
  | .hbm, ⟨46, _⟩ => ⟨S8x16384, .f32⟩
  | .hbm, ⟨47, _⟩ => ⟨S8x16384x1, .f32⟩
  | .hbm, ⟨48, _⟩ => ⟨S8x16384x16384, .f32⟩
  | .hbm, ⟨49, _⟩ => ⟨S8x16384x16384, .f32⟩
  | .hbm, ⟨50, _⟩ => ⟨S8x16384x16384, .f32⟩
  | .hbm, ⟨51, _⟩ => ⟨S_, .f32⟩
  | .hbm, ⟨52, _⟩ => ⟨S8x16384, .f32⟩
  | .hbm, ⟨53, _⟩ => ⟨S8x16384x1, .f32⟩
  | .hbm, ⟨54, _⟩ => ⟨S8x16384x16384, .f32⟩
  | .hbm, ⟨55, _⟩ => ⟨S8x16384x16384, .f32⟩
  | .hbm, ⟨56, _⟩ => ⟨S8x64x16384, .f32⟩
  | .hbm, ⟨57, _⟩ => ⟨S16384x8x64, .f32⟩
  | .hbm, ⟨58, _⟩ => ⟨S16384x512, .f32⟩
  | .hbm, ⟨59, _⟩ => ⟨S512x16384, .f32⟩
  | .hbm, ⟨60, _⟩ => ⟨S512x16384, .bf16⟩
  | _, _ => ⟨S512x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel2.lean ====
abbrev S1x16384x1024 : Shape := ⟨3, ![1, 16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 18
  | .vmem => 9
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S16384x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024x2816, .f32⟩
  | .hbm, ⟨12, _⟩ => ⟨S1024x2816, .bf16⟩
  | .hbm, ⟨13, _⟩ => ⟨S1024x2816, .f32⟩
  | .hbm, ⟨14, _⟩ => ⟨S1024x2816, .bf16⟩
  | .hbm, ⟨15, _⟩ => ⟨S2816x1024, .f32⟩
  | .hbm, ⟨16, _⟩ => ⟨S2816x1024, .bf16⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S1x16384x1024 : Shape := ⟨3, ![1, 16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x2816 : Shape := ⟨2, ![1024, 2816]⟩
abbrev S2816x1024 : Shape := ⟨2, ![2816, 1024]⟩
abbrev S1x16384x2816 : Shape := ⟨3, ![1, 16384, 2816]⟩
abbrev S16384x1024 : Shape := ⟨2, ![16384, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1x16384x1024, .f32⟩
  | .hbm, ⟨8, _⟩ => ⟨S_, .f32⟩
  | .hbm, ⟨9, _⟩ => ⟨S1x16384, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S1x16384x1024, .f32⟩
  | .hbm, ⟨19, _⟩ => ⟨S1x16384x1024, .f32⟩
  | .hbm, ⟨20, _⟩ => ⟨S1x1x1024, .f32⟩
  | .hbm, ⟨21, _⟩ => ⟨S1x16384x1024, .f32⟩
  | .hbm, ⟨22, _⟩ => ⟨S1x16384x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S1x16384x2816, .f32⟩
  | .hbm, ⟨27, _⟩ => ⟨S1x16384x2816, .f32⟩
  | .hbm, ⟨28, _⟩ => ⟨S1x16384x2816, .f32⟩
  | .hbm, ⟨29, _⟩ => ⟨S_, .f32⟩
  | .hbm, ⟨30, _⟩ => ⟨S1x16384x2816, .f32⟩
  | .hbm, ⟨31, _⟩ => ⟨S1x16384x2816, .f32⟩
  | .hbm, ⟨32, _⟩ => ⟨S_, .f32⟩
  | .hbm, ⟨33, _⟩ => ⟨S1x16384x2816, .f32⟩
  | .hbm, ⟨34, _⟩ => ⟨S1x16384x2816, .f32⟩
  | .hbm, ⟨35, _⟩ => ⟨S1x16384x2816, .f32⟩
  | .hbm, ⟨36, _⟩ => ⟨S1x16384x2816, .f32⟩
  | .hbm, ⟨37, _⟩ => ⟨S1x16384x2816, .f32⟩
  | .hbm, ⟨38, _⟩ => ⟨S1x16384x1024, .f32⟩
  | .hbm, ⟨39, _⟩ => ⟨S1024, .f32⟩
  | .hbm, ⟨40, _⟩ => ⟨S1x16384x1024, .f32⟩
  | .hbm, ⟨41, _⟩ => ⟨S_, .f32⟩
  | .hbm, ⟨42, _⟩ => ⟨S1x16384, .f32⟩
  | .hbm, ⟨43, _⟩ => ⟨S1x16384x1, .f32⟩
  | .hbm, ⟨44, _⟩ => ⟨S_, .f32⟩
  | .hbm, ⟨45, _⟩ => ⟨S1x16384x1, .f32⟩
  | .hbm, ⟨46, _⟩ => ⟨S1x16384x1, .f32⟩
  | .hbm, ⟨47, _⟩ => ⟨S_, .f32⟩
  | .hbm, ⟨48, _⟩ => ⟨S1x16384x1, .f32⟩
  | .hbm, ⟨49, _⟩ => ⟨S1x16384x1, .f32⟩
  | .hbm, ⟨50, _⟩ => ⟨S1x16384x1, .f32⟩
  | .hbm, ⟨51, _⟩ => ⟨S1x16384x1024, .f32⟩
  | .hbm, ⟨52, _⟩ => ⟨S1x16384x1024, .f32⟩
  | .hbm, ⟨53, _⟩ => ⟨S1x1x1024, .f32⟩
  | .hbm, ⟨54, _⟩ => ⟨S1x16384x1024, .f32⟩
  | .hbm, ⟨55, _⟩ => ⟨S1x16384x1024, .f32⟩
  | .hbm, ⟨56, _⟩ => ⟨S_, .f32⟩
  | .hbm, ⟨57, _⟩ => ⟨S1x16384x1024, .f32⟩
  | .hbm, ⟨58, _⟩ => ⟨S1x16384x1024, .f32⟩
  | .hbm, ⟨59, _⟩ => ⟨S1x16384x1024, .f32⟩
  | .hbm, ⟨60, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel3.lean ====
abbrev S16384x1024 : Shape := ⟨2, ![16384, 1024]⟩
abbrev S512x16384 : Shape := ⟨2, ![512, 16384]⟩
abbrev S16384x512 : Shape := ⟨2, ![16384, 512]⟩
abbrev S1x1024 : Shape := ⟨2, ![1, 1024]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 33
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S512x16384, .bf16⟩
  | .hbm, ⟨2, _⟩ => ⟨S16384x512, .bf16⟩
  | .hbm, ⟨3, _⟩ => ⟨S16384x1024, .bf16⟩
  | .hbm, ⟨4, _⟩ => ⟨S16384x1024, .bf16⟩
  | .hbm, ⟨5, _⟩ => ⟨S1x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024x2816, .f32⟩
  | .hbm, ⟨12, _⟩ => ⟨S1x1024x2816, .f32⟩
  | .hbm, ⟨13, _⟩ => ⟨S1x2816x1024, .f32⟩
  | .hbm, ⟨14, _⟩ => ⟨S512x1024, .f32⟩
  | .hbm, ⟨15, _⟩ => ⟨S512x1024, .bf16⟩
  | .hbm, ⟨16, _⟩ => ⟨S512x1024, .f32⟩
  | .hbm, ⟨17, _⟩ => ⟨S512x1024, .bf16⟩
  | .hbm, ⟨18, _⟩ => ⟨S1024x1024, .f32⟩
  | .hbm, ⟨19, _⟩ => ⟨S1024x1024, .bf16⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024x2816, .f32⟩
  | .hbm, ⟨27, _⟩ => ⟨S1024x2816, .bf16⟩
  | .hbm, ⟨28, _⟩ => ⟨S1024x2816, .f32⟩
  | .hbm, ⟨29, _⟩ => ⟨S1024x2816, .bf16⟩
  | .hbm, ⟨30, _⟩ => ⟨S2816x1024, .f32⟩
  | .hbm, ⟨31, _⟩ => ⟨S2816x1024, .bf16⟩
  | .hbm, ⟨32, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x2816, .bf16⟩
  | .local _ .vmem, ⟨17, _⟩ => ⟨S1024x2816, .bf16⟩
  | .local _ .vmem, ⟨18, _⟩ => ⟨S2816x1024, .bf16⟩
  | .local _ .vmem, ⟨19, _⟩ => ⟨S512x1024, .f32⟩
  | .local _ .vmem, ⟨20, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S16384x1024 : Shape := ⟨2, ![16384, 1024]⟩
abbrev S512x16384 : Shape := ⟨2, ![512, 16384]⟩
abbrev S16384x512 : Shape := ⟨2, ![16384, 512]⟩
abbrev S1x1024 : Shape := ⟨2, ![1, 1024]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S2816x1024 : Shape := ⟨2, ![2816, 1024]⟩
abbrev S16384x2816 : Shape := ⟨2, ![16384, 2816]⟩

abbrev nBuf : Space → Nat
  | .hbm => 100
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x16384, .bf16⟩
  | .hbm, ⟨2, _⟩ => ⟨S16384x512, .bf16⟩
  | .hbm, ⟨3, _⟩ => ⟨S16384x1024, .bf16⟩
  | .hbm, ⟨4, _⟩ => ⟨S16384x1024, .bf16⟩
  | .hbm, ⟨5, _⟩ => ⟨S1x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024x2816, .f32⟩
  | .hbm, ⟨12, _⟩ => ⟨S1x1024x2816, .f32⟩
  | .hbm, ⟨13, _⟩ => ⟨S1x2816x1024, .f32⟩
  | .hbm, ⟨14, _⟩ => ⟨S16384x512, .bf16⟩
  | .hbm, ⟨15, _⟩ => ⟨S16384x512, .f32⟩
  | .hbm, ⟨16, _⟩ => ⟨S16384x512, .f32⟩
  | .hbm, ⟨17, _⟩ => ⟨S16384x1024, .f32⟩
  | .hbm, ⟨18, _⟩ => ⟨S16384x1024, .f32⟩
  | .hbm, ⟨19, _⟩ => ⟨S512x1024, .f32⟩
  | .hbm, ⟨20, _⟩ => ⟨S16384x1024, .f32⟩
  | .hbm, ⟨21, _⟩ => ⟨S16384x1024, .f32⟩
  | .hbm, ⟨22, _⟩ => ⟨S512x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1024x1024, .f32⟩
  | .hbm, ⟨27, _⟩ => ⟨S16384x1024, .f32⟩
  | .hbm, ⟨28, _⟩ => ⟨S1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S1024x2816, .f32⟩
  | .hbm, ⟨64, _⟩ => ⟨S1024x2816, .f32⟩
  | .hbm, ⟨65, _⟩ => ⟨S2816x1024, .f32⟩
  | .hbm, ⟨66, _⟩ => ⟨S16384x2816, .f32⟩
  | .hbm, ⟨67, _⟩ => ⟨S16384x2816, .f32⟩
  | .hbm, ⟨68, _⟩ => ⟨S16384x2816, .f32⟩
  | .hbm, ⟨69, _⟩ => ⟨S_, .f32⟩
  | .hbm, ⟨70, _⟩ => ⟨S16384x2816, .f32⟩
  | .hbm, ⟨71, _⟩ => ⟨S16384x2816, .f32⟩
  | .hbm, ⟨72, _⟩ => ⟨S_, .f32⟩
  | .hbm, ⟨73, _⟩ => ⟨S16384x2816, .f32⟩
  | .hbm, ⟨74, _⟩ => ⟨S16384x2816, .f32⟩
  | .hbm, ⟨75, _⟩ => ⟨S16384x2816, .f32⟩
  | .hbm, ⟨76, _⟩ => ⟨S16384x2816, .f32⟩
  | .hbm, ⟨77, _⟩ => ⟨S16384x2816, .f32⟩
  | .hbm, ⟨78, _⟩ => ⟨S16384x1024, .f32⟩
  | .hbm, ⟨79, _⟩ => ⟨S1024, .f32⟩
  | .hbm, ⟨80, _⟩ => ⟨S16384x1024, .f32⟩
  | .hbm, ⟨81, _⟩ => ⟨S_, .f32⟩
  | .hbm, ⟨82, _⟩ => ⟨S16384, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S16384x1, .f32⟩
  | .hbm, ⟨91, _⟩ => ⟨S16384x1024, .f32⟩
  | .hbm, ⟨92, _⟩ => ⟨S16384x1024, .f32⟩
  | .hbm, ⟨93, _⟩ => ⟨S1x1024, .f32⟩
  | .hbm, ⟨94, _⟩ => ⟨S16384x1024, .f32⟩
  | .hbm, ⟨95, _⟩ => ⟨S16384x1024, .f32⟩
  | .hbm, ⟨96, _⟩ => ⟨S_, .f32⟩
  | .hbm, ⟨97, _⟩ => ⟨S16384x1024, .f32⟩
  | .hbm, ⟨98, _⟩ => ⟨S16384x1024, .f32⟩
  | .hbm, ⟨99, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_5 : Ref sig .tc := ⟨.hbm, 81, rfl⟩
abbrev main_v53 : Ref sig .tc := ⟨.hbm, 82, rfl⟩
abbrev main_v54 : Ref sig .tc := ⟨.hbm, 83, rfl⟩
abbrev main_cst_6 : Ref sig .tc := ⟨.hbm, 84, rfl⟩
abbrev main_v55 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_8 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1x1024x4360 : Shape := ⟨3, ![1, 1024, 4360]⟩
abbrev S1x8 : Shape := ⟨2, ![1, 8]⟩
abbrev S1024x4360 : Shape := ⟨2, ![1024, 4360]⟩
abbrev S1024x1536 : Shape := ⟨2, ![1024, 1536]⟩
abbrev S1024x8 : Shape := ⟨2, ![1024, 8]⟩
abbrev S1x1024x1x8 : Shape := ⟨4, ![1, 1024, 1, 8]⟩
abbrev S1x1024x3x8 : Shape := ⟨4, ![1, 1024, 3, 8]⟩
abbrev S1024x24 : Shape := ⟨2, ![1024, 24]⟩
abbrev S_ : Shape := ⟨0, ![]⟩
abbrev S1024x128 : Shape := ⟨2, ![1024, 128]⟩
abbrev S8 : Shape := ⟨1, ![8]⟩
abbrev S3x8 : Shape := ⟨2, ![3, 8]⟩
abbrev S24 : Shape := ⟨1, ![24]⟩
abbrev S128 : Shape := ⟨1, ![128]⟩
abbrev S1x128 : Shape := ⟨2, ![1, 128]⟩
abbrev S1024x768 : Shape := ⟨2, ![1024, 768]⟩
abbrev S1024x2048 : Shape := ⟨2, ![1024, 2048]⟩
abbrev S32 : Shape := ⟨1, ![32]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1024 : Shape := ⟨1, ![1024]⟩
abbrev S512x16384 : Shape := ⟨2, ![512, 16384]⟩
abbrev S16384x512 : Shape := ⟨2, ![16384, 512]⟩
abbrev S32x512x512 : Shape := ⟨3, ![32, 512, 512]⟩
abbrev S32x16384 : Shape := ⟨2, ![32, 16384]⟩
abbrev S512x1024 : Shape := ⟨2, ![512, 1024]⟩
abbrev S512x128 : Shape := ⟨2, ![512, 128]⟩
abbrev S512x512 : Shape := ⟨2, ![512, 512]⟩
abbrev S1x512x512 : Shape := ⟨3, ![1, 512, 512]⟩
abbrev S32x512 : Shape := ⟨2, ![32, 512]⟩
abbrev S512 : Shape := ⟨1, ![512]⟩
abbrev S512x1 : Shape := ⟨2, ![512, 1]⟩
abbrev S512x1536 : Shape := ⟨2, ![512, 1536]⟩
abbrev S128x512 : Shape := ⟨2, ![128, 512]⟩
abbrev S512x768 : Shape := ⟨2, ![512, 768]⟩
abbrev S512x2048 : Shape := ⟨2, ![512, 2048]⟩

abbrev nBuf : Space → Nat
  | .hbm => 72
  | .vmem => 33
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x4360, .f32⟩
  | .hbm, ⟨3, _⟩ => ⟨S1x8, .f32⟩
  | .hbm, ⟨4, _⟩ => ⟨S1024x4360, .f32⟩
  | .hbm, ⟨5, _⟩ => ⟨S1024x1536, .f32⟩
  | .hbm, ⟨6, _⟩ => ⟨S1024x1536, .bf16⟩
  | .hbm, ⟨7, _⟩ => ⟨S1024x8, .f32⟩
  | .hbm, ⟨8, _⟩ => ⟨S1x1024x1x8, .f32⟩
  | .hbm, ⟨9, _⟩ => ⟨S1x1024x3x8, .f32⟩
  | .hbm, ⟨10, _⟩ => ⟨S1024x24, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S8, .f32⟩
  | .hbm, ⟨16, _⟩ => ⟨S1x8, .f32⟩
  | .hbm, ⟨17, _⟩ => ⟨S3x8, .f32⟩
  | .hbm, ⟨18, _⟩ => ⟨S24, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S1024x768, .f32⟩
  | .hbm, ⟨24, _⟩ => ⟨S1024x768, .bf16⟩
  | .hbm, ⟨25, _⟩ => ⟨S1024x2048, .f32⟩
  | .hbm, ⟨26, _⟩ => ⟨S1024x2048, .bf16⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S16384, .f32⟩
  | .hbm, ⟨44, _⟩ => ⟨S16384x1, .f32⟩
  | .hbm, ⟨45, _⟩ => ⟨S1x32, .f32⟩
  | .hbm, ⟨46, _⟩ => ⟨S16384x32, .f32⟩
  | .hbm, ⟨47, _⟩ => ⟨S16384x32, .f32⟩
  | .hbm, ⟨48, _⟩ => ⟨S16384x32, .f32⟩
  | .hbm, ⟨49, _⟩ => ⟨S16384x32, .f32⟩
  | .hbm, ⟨50, _⟩ => ⟨S16384x32, .f32⟩
  | .hbm, ⟨51, _⟩ => ⟨S16384x64, .f32⟩
  | .hbm, ⟨52, _⟩ => ⟨S1x16384x1x64, .f32⟩
  | .hbm, ⟨53, _⟩ => ⟨S1x16384x2x64, .f32⟩
  | .hbm, ⟨54, _⟩ => ⟨S16384x128, .f32⟩
  | .hbm, ⟨55, _⟩ => ⟨S16384x32, .f32⟩
  | .hbm, ⟨56, _⟩ => ⟨S16384x64, .f32⟩
  | .hbm, ⟨57, _⟩ => ⟨S1x16384x1x64, .f32⟩
  | .hbm, ⟨58, _⟩ => ⟨S1x16384x2x64, .f32⟩
  | .hbm, ⟨59, _⟩ => ⟨S16384x128, .f32⟩
  | .hbm, ⟨60, _⟩ => ⟨S1024, .f32⟩
  | .hbm, ⟨61, _⟩ => ⟨S1x1024, .f32⟩
  | .hbm, ⟨62, _⟩ => ⟨S512x16384, .bf16⟩
  | .hbm, ⟨63, _⟩ => ⟨S16384x512, .bf16⟩
  | .hbm, ⟨64, _⟩ => ⟨S32x512x512, .bf16⟩
  | .hbm, ⟨65, _⟩ => ⟨S16384x128, .bf16⟩
  | .hbm, ⟨66, _⟩ => ⟨S32x16384, .f32⟩
  | .hbm, ⟨67, _⟩ => ⟨S16384x512, .bf16⟩
  | .hbm, ⟨68, _⟩ => ⟨S16384x128, .bf16⟩
  | .hbm, ⟨69, _⟩ => ⟨S16384x128, .bf16⟩
  | .hbm, ⟨70, _⟩ => ⟨S16384x1024, .bf16⟩
  | .hbm, ⟨71, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x128, .bf16⟩
  | .local _ .vmem, ⟨5, _⟩ => ⟨S1x128, .f32⟩
  | .local _ .vmem, ⟨6, _⟩ => ⟨S1024x768, .bf16⟩
  | .local _ .vmem, ⟨7, _⟩ => ⟨S1024x2048, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1x512x512, .bf16⟩
  | .local _ .vmem, ⟨17, _⟩ => ⟨S1x512x512, .bf16⟩
  | .local _ .vmem, ⟨18, _⟩ => ⟨S512x128, .bf16⟩
  | .local _ .vmem, ⟨19, _⟩ => ⟨S512x128, .bf16⟩
  | .local _ .vmem, ⟨20, _⟩ => ⟨S32x512, .f32⟩
  | .local _ .vmem, ⟨21, _⟩ => ⟨S32x512, .f32⟩
  | .local _ .vmem, ⟨22, _⟩ => ⟨S512x512, .bf16⟩
  | .local _ .vmem, ⟨23, _⟩ => ⟨S512x512, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S512x128, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49_0 : Ref sig .tc := ⟨.hbm, 62, rfl⟩
abbrev main_v49_1 : Ref sig .tc := ⟨.hbm, 63, rfl⟩
abbrev main_v49_2 : Ref sig .tc := ⟨.hbm, 64, rfl⟩
abbrev main_v49_3 : Ref sig .tc := ⟨.hbm, 65, rfl⟩
abbrev main_v49_4 : Ref sig .tc := ⟨.hbm, 66, rfl⟩
abbrev main_v49_5 : Ref sig .tc := ⟨.hbm, 67, rfl⟩
abbrev main_v49_6 : Ref sig .tc := ⟨.hbm, 68, rfl⟩
abbrev main_v49_7 : Ref sig .tc := ⟨.hbm, 69, rfl⟩
abbrev main_v49_8 : Ref sig .tc := ⟨.hbm, 70, rfl⟩
abbrev main_v49_9 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S16384x1024 : Shape := ⟨2, ![16384, 1024]⟩
abbrev S1x1024 : Shape := ⟨2, ![1, 1024]⟩
abbrev S1x1024x4360 : Shape := ⟨3, ![1, 1024, 4360]⟩
abbrev S1x8 : Shape := ⟨2, ![1, 8]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x4360 : Shape := ⟨2, ![1024, 4360]⟩
abbrev S16384x4360 : Shape := ⟨2, ![16384, 4360]⟩
abbrev S16384x512 : Shape := ⟨2, ![16384, 512]⟩
abbrev S16384x8 : Shape := ⟨2, ![16384, 8]⟩
abbrev S16384x128 : Shape := ⟨2, ![16384, 128]⟩
abbrev S32 : Shape := ⟨1, ![32]⟩
abbrev S1x32 : Shape := ⟨2, ![1, 32]⟩
abbrev S16384x32 : Shape := ⟨2, ![16384, 32]⟩
abbrev S16384x8x64 : Shape := ⟨3, ![16384, 8, 64]⟩
abbrev S16384x8x32 : Shape := ⟨3, ![16384, 8, 32]⟩
abbrev S16384x1x32 : Shape := ⟨3, ![16384, 1, 32]⟩
abbrev S16384x2x64 : Shape := ⟨3, ![16384, 2, 64]⟩
abbrev S16384x2x32 : Shape := ⟨3, ![16384, 2, 32]⟩
abbrev S512x16384 : Shape := ⟨2, ![512, 16384]⟩
abbrev S32x512x512 : Shape := ⟨3, ![32, 512, 512]⟩

abbrev nBuf : Space → Nat
  | .hbm => 123
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x4360, .f32⟩
  | .hbm, ⟨3, _⟩ => ⟨S1x8, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x4360, .f32⟩
  | .hbm, ⟨22, _⟩ => ⟨S16384x4360, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x8, .f32⟩
  | .hbm, ⟨27, _⟩ => ⟨S16384x512, .f32⟩
  | .hbm, ⟨28, _⟩ => ⟨S16384x128, .f32⟩
  | .hbm, ⟨29, _⟩ => ⟨S16384x128, .f32⟩
  | .hbm, ⟨30, _⟩ => ⟨S16384x1024, .f32⟩
  | .hbm, ⟨31, _⟩ => ⟨S16384x1024, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S16384, .f32⟩
  | .hbm, ⟨49, _⟩ => ⟨S16384x1, .f32⟩
  | .hbm, ⟨50, _⟩ => ⟨S1x32, .f32⟩
  | .hbm, ⟨51, _⟩ => ⟨S16384x32, .f32⟩
  | .hbm, ⟨52, _⟩ => ⟨S16384x32, .f32⟩
  | .hbm, ⟨53, _⟩ => ⟨S16384x32, .f32⟩
  | .hbm, ⟨54, _⟩ => ⟨S16384x32, .f32⟩
  | .hbm, ⟨55, _⟩ => ⟨S16384x32, .f32⟩
  | .hbm, ⟨56, _⟩ => ⟨S16384x8x64, .f32⟩
  | .hbm, ⟨57, _⟩ => ⟨S16384x8x32, .f32⟩
  | .hbm, ⟨58, _⟩ => ⟨S16384x8x32, .f32⟩
  | .hbm, ⟨59, _⟩ => ⟨S16384x1x32, .f32⟩
  | .hbm, ⟨60, _⟩ => ⟨S16384x1x32, .f32⟩
  | .hbm, ⟨61, _⟩ => ⟨S16384x8x32, .f32⟩
  | .hbm, ⟨62, _⟩ => ⟨S16384x8x32, .f32⟩
  | .hbm, ⟨63, _⟩ => ⟨S16384x8x32, .f32⟩
  | .hbm, ⟨64, _⟩ => ⟨S16384x8x32, .f32⟩
  | .hbm, ⟨65, _⟩ => ⟨S16384x8x32, .f32⟩
  | .hbm, ⟨66, _⟩ => ⟨S16384x8x32, .f32⟩
  | .hbm, ⟨67, _⟩ => ⟨S16384x8x32, .f32⟩
  | .hbm, ⟨68, _⟩ => ⟨S16384x8x32, .f32⟩
  | .hbm, ⟨69, _⟩ => ⟨S16384x8x32, .f32⟩
  | .hbm, ⟨70, _⟩ => ⟨S16384x8x32, .f32⟩
  | .hbm, ⟨71, _⟩ => ⟨S16384x8x64, .f32⟩
  | .hbm, ⟨72, _⟩ => ⟨S16384x512, .f32⟩
  | .hbm, ⟨73, _⟩ => ⟨S16384x2x64, .f32⟩
  | .hbm, ⟨74, _⟩ => ⟨S16384x2x32, .f32⟩
  | .hbm, ⟨75, _⟩ => ⟨S16384x2x32, .f32⟩
  | .hbm, ⟨76, _⟩ => ⟨S16384x1x32, .f32⟩
  | .hbm, ⟨77, _⟩ => ⟨S16384x1x32, .f32⟩
  | .hbm, ⟨78, _⟩ => ⟨S16384x2x32, .f32⟩
  | .hbm, ⟨79, _⟩ => ⟨S16384x2x32, .f32⟩
  | .hbm, ⟨80, _⟩ => ⟨S16384x2x32, .f32⟩
  | .hbm, ⟨81, _⟩ => ⟨S16384x2x32, .f32⟩
  | .hbm, ⟨82, _⟩ => ⟨S16384x2x32, .f32⟩
  | .hbm, ⟨83, _⟩ => ⟨S16384x2x32, .f32⟩
  | .hbm, ⟨84, _⟩ => ⟨S16384x2x32, .f32⟩
  | .hbm, ⟨85, _⟩ => ⟨S16384x2x32, .f32⟩
  | .hbm, ⟨86, _⟩ => ⟨S16384x2x32, .f32⟩
  | .hbm, ⟨87, _⟩ => ⟨S16384x2x32, .f32⟩
  | .hbm, ⟨88, _⟩ => ⟨S16384x2x64, .f32⟩
  | .hbm, ⟨89, _⟩ => ⟨S16384x128, .f32⟩
  | .hbm, ⟨90, _⟩ => ⟨S_, .f32⟩
  | .hbm, ⟨91, _⟩ => ⟨S16384x512, .f32⟩
  | .hbm, ⟨92, _⟩ => ⟨S16384x512, .f32⟩
  | .hbm, ⟨93, _⟩ => ⟨S512x16384, .f32⟩
  | .hbm, ⟨94, _⟩ => ⟨S512x16384, .bf16⟩
  | .hbm, ⟨95, _⟩ => ⟨S16384x512, .bf16⟩
  | .hbm, ⟨96, _⟩ => ⟨S32x512x512, .f32⟩
  | .hbm, ⟨97, _⟩ => ⟨S32x512x512, .f32⟩
  | .hbm, ⟨98, _⟩ => ⟨S32x512x512, .bf16⟩
  | .hbm, ⟨99, _⟩ => ⟨S_, .f32⟩
  | .hbm, ⟨100, _⟩ => ⟨S16384x512, .f32⟩
  | .hbm, ⟨101, _⟩ => ⟨S16384x512, .f32⟩
  | .hbm, ⟨102, _⟩ => ⟨S16384x512, .bf16⟩
  | .hbm, ⟨103, _⟩ => ⟨S16384x128, .bf16⟩
  | .hbm, ⟨104, _⟩ => ⟨S16384x128, .bf16⟩
  | .hbm, ⟨105, _⟩ => ⟨S16384x1024, .f32⟩
  | .hbm, ⟨106, _⟩ => ⟨S16384x1024, .f32⟩
  | .hbm, ⟨107, _⟩ => ⟨S_, .f32⟩
  | .hbm, ⟨108, _⟩ => ⟨S16384x1024, .f32⟩
  | .hbm, ⟨109, _⟩ => ⟨S16384x1024, .f32⟩
  | .hbm, ⟨110, _⟩ => ⟨S_, .f32⟩
  | .hbm, ⟨111, _⟩ => ⟨S16384x1024, .f32⟩
  | .hbm, ⟨112, _⟩ => ⟨S16384x1024, .f32⟩
  | .hbm, ⟨113, _⟩ => ⟨S16384x1024, .bf16⟩
  | .hbm, ⟨114, _⟩ => ⟨S16384x1024, .f32⟩
  | .hbm, ⟨115, _⟩ => ⟨S16384x1024, .f32⟩
  | .hbm, ⟨116, _⟩ => ⟨S_, .f32⟩
  | .hbm, ⟨117, _⟩ => ⟨S16384x1024, .f32⟩
  | .hbm, ⟨118, _⟩ => ⟨S16384x1024, .f32⟩
  | .hbm, ⟨119, _⟩ => ⟨S_, .f32⟩
  | .hbm, ⟨120, _⟩ => ⟨S16384x1024, .f32⟩
  | .hbm, ⟨121, _⟩ => ⟨S16384x1024, .f32⟩
  | .hbm, ⟨122, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_7 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_8 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_cst_9 : Ref sig .tc := ⟨.hbm, 107, rfl⟩
abbrev main_v93 : Ref sig .tc := ⟨.hbm, 108, rfl⟩
abbrev main_v94 : Ref sig .tc := ⟨.hbm, 109, rfl⟩
abbrev main_cst_10 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_11 : Ref sig .tc := ⟨.hbm, 116, rfl⟩
abbrev main_v100 : Ref sig .tc := ⟨.hbm, 117, rfl⟩
abbrev main_v101 : Ref sig .tc := ⟨.hbm, 118, rfl⟩
abbrev main_cst_12 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩

abbrev nD : Nat := 1
abbrev τ : Topo := Topo.v7x

variable {F : FTy → Type} [FloatOps F]
-- ==== Kernel5.lean ====
abbrev S16384x512 : Shape := ⟨2, ![16384, 512]⟩
abbrev S16384x128 : Shape := ⟨2, ![16384, 128]⟩
abbrev S1x8 : Shape := ⟨2, ![1, 8]⟩
abbrev S8 : Shape := ⟨1, ![8]⟩
abbrev S512x512 : Shape := ⟨2, ![512, 512]⟩
abbrev S512x128 : Shape := ⟨2, ![512, 128]⟩
abbrev S128x128 : Shape := ⟨2, ![128, 128]⟩
abbrev S128x256 : Shape := ⟨2, ![128, 256]⟩
abbrev S256x128 : Shape := ⟨2, ![256, 128]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩
abbrev S128x512 : Shape := ⟨2, ![128, 512]⟩

abbrev nBuf : Space → Nat
  | .hbm => 6
  | .vmem => 12
  | .smem => 1
  | _ => 0

abbrev bufTy : (tb : Table) → Fin (tcTables nBuf tb) → BufTy
  | .hbm, ⟨0, _⟩ => ⟨S16384x512, .bf16⟩
  | .hbm, ⟨1, _⟩ => ⟨S16384x128, .bf16⟩
  | .hbm, ⟨2, _⟩ => ⟨S16384x128, .bf16⟩
  | .hbm, ⟨3, _⟩ => ⟨S1x8, .f32⟩
  | .hbm, ⟨4, _⟩ => ⟨S8, .f32⟩
  | .hbm, ⟨5, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S512x512, .bf16⟩
  | .local _ .vmem, ⟨11, _⟩ => ⟨S512x512, .bf16⟩
  | .local _ .smem, ⟨0, _⟩ => ⟨S8, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel5Ideal.lean ====
variable {F : FTy → Type} [FloatOps F] [Named F]
def κ : String → Option EReal := fun
  | "mask" => some ⊥
  | _ => none
-- ==== Reference5Ideal.lean ====
abbrev S16384x512 : Shape := ⟨2, ![16384, 512]⟩
abbrev S16384x128 : Shape := ⟨2, ![16384, 128]⟩
abbrev S1x8 : Shape := ⟨2, ![1, 8]⟩
abbrev S128x128x2x4x64 : Shape := ⟨5, ![128, 128, 2, 4, 64]⟩
abbrev S128x128x2x64 : Shape := ⟨4, ![128, 128, 2, 64]⟩
abbrev S_ : Shape := ⟨0, ![]⟩
abbrev S129x128x2x64 : Shape := ⟨4, ![129, 128, 2, 64]⟩
abbrev S128x256x2x64 : Shape := ⟨4, ![128, 256, 2, 64]⟩
abbrev S128x2x256x128x4 : Shape := ⟨5, ![128, 2, 256, 128, 4]⟩
abbrev S128x2x4x128x256 : Shape := ⟨5, ![128, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S128x1x256 : Shape := ⟨3, ![128, 1, 256]⟩
abbrev S128x128x256 : Shape := ⟨3, ![128, 128, 256]⟩
abbrev S128x1x1x128x256 : Shape := ⟨5, ![128, 1, 1, 128, 256]⟩
abbrev S8 : Shape := ⟨1, ![8]⟩
abbrev S1x2x4x1x1 : Shape := ⟨5, ![1, 2, 4, 1, 1]⟩
abbrev S128x2x4x128x1 : Shape := ⟨5, ![128, 2, 4, 128, 1]⟩
abbrev S128x2x4x128x257 : Shape := ⟨5, ![128, 2, 4, 128, 257]⟩
abbrev S128x2x4x128 : Shape := ⟨4, ![128, 2, 4, 128]⟩
abbrev S128x2x64x4x128 : Shape := ⟨5, ![128, 2, 64, 4, 128]⟩

abbrev nBuf : Space → Nat
  | .hbm => 87
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x128, .bf16⟩
  | .hbm, ⟨2, _⟩ => ⟨S16384x128, .bf16⟩
  | .hbm, ⟨3, _⟩ => ⟨S1x8, .f32⟩
  | .hbm, ⟨4, _⟩ => ⟨S16384x512, .f32⟩
  | .hbm, ⟨5, _⟩ => ⟨S128x128x2x4x64, .f32⟩
  | .hbm, ⟨6, _⟩ => ⟨S16384x128, .f32⟩
  | .hbm, ⟨7, _⟩ => ⟨S128x128x2x64, .f32⟩
  | .hbm, ⟨8, _⟩ => ⟨S_, .i32⟩
  | .hbm, ⟨9, _⟩ => ⟨S_, .f32⟩
  | .hbm, ⟨10, _⟩ => ⟨S129x128x2x64, .f32⟩
  | .hbm, ⟨11, _⟩ => ⟨S128x128x2x64, .f32⟩
  | .hbm, ⟨12, _⟩ => ⟨S128x256x2x64, .f32⟩
  | .hbm, ⟨13, _⟩ => ⟨S16384x128, .f32⟩
  | .hbm, ⟨14, _⟩ => ⟨S128x128x2x64, .f32⟩
  | .hbm, ⟨15, _⟩ => ⟨S_, .i32⟩
  | .hbm, ⟨16, _⟩ => ⟨S_, .f32⟩
  | .hbm, ⟨17, _⟩ => ⟨S129x128x2x64, .f32⟩
  | .hbm, ⟨18, _⟩ => ⟨S128x128x2x64, .f32⟩
  | .hbm, ⟨19, _⟩ => ⟨S128x256x2x64, .f32⟩
  | .hbm, ⟨20, _⟩ => ⟨S128x2x256x128x4, .f32⟩
  | .hbm, ⟨21, _⟩ => ⟨S128x2x4x128x256, .f32⟩
  | .hbm, ⟨22, _⟩ => ⟨S128, .i32⟩
  | .hbm, ⟨23, _⟩ => ⟨S128x1, .i32⟩
  | .hbm, ⟨24, _⟩ => ⟨S_, .i32⟩
  | .hbm, ⟨25, _⟩ => ⟨S128x1, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i1⟩
  | .hbm, ⟨39, _⟩ => ⟨S128, .i32⟩
  | .hbm, ⟨40, _⟩ => ⟨S128x1, .i32⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S128x256, .i32⟩
  | .hbm, ⟨45, _⟩ => ⟨S128x256, .i32⟩
  | .hbm, ⟨46, _⟩ => ⟨S128x256, .i32⟩
  | .hbm, ⟨47, _⟩ => ⟨S_, .i32⟩
  | .hbm, ⟨48, _⟩ => ⟨S128x256, .i32⟩
  | .hbm, ⟨49, _⟩ => ⟨S128x256, .i32⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S1x128x256, .i1⟩
  | .hbm, ⟨54, _⟩ => ⟨S128x1x256, .i1⟩
  | .hbm, ⟨55, _⟩ => ⟨S128x128x256, .i1⟩
  | .hbm, ⟨56, _⟩ => ⟨S128x128x256, .i1⟩
  | .hbm, ⟨57, _⟩ => ⟨S128x128x256, .i1⟩
  | .hbm, ⟨58, _⟩ => ⟨S128x1x1x128x256, .i1⟩
  | .hbm, ⟨59, _⟩ => ⟨S_, .f32⟩
  | .hbm, ⟨60, _⟩ => ⟨S_, .f32⟩
  | .hbm, ⟨61, _⟩ => ⟨S128x2x4x128x256, .i1⟩
  | .hbm, ⟨62, _⟩ => ⟨S128x2x4x128x256, .f32⟩
  | .hbm, ⟨63, _⟩ => ⟨S128x2x4x128x256, .f32⟩
  | .hbm, ⟨64, _⟩ => ⟨S8, .f32⟩
  | .hbm, ⟨65, _⟩ => ⟨S1x2x4x1x1, .f32⟩
  | .hbm, ⟨66, _⟩ => ⟨S128x2x4x128x1, .f32⟩
  | .hbm, ⟨67, _⟩ => ⟨S128x2x4x128x257, .f32⟩
  | .hbm, ⟨68, _⟩ => ⟨S_, .f32⟩
  | .hbm, ⟨69, _⟩ => ⟨S128x2x4x128, .f32⟩
  | .hbm, ⟨70, _⟩ => ⟨S_, .f32⟩
  | .hbm, ⟨71, _⟩ => ⟨S128x2x4x128, .f32⟩
  | .hbm, ⟨72, _⟩ => ⟨S128x2x4x128, .f32⟩
  | .hbm, ⟨73, _⟩ => ⟨S128x2x4x128x1, .f32⟩
  | .hbm, ⟨74, _⟩ => ⟨S128x2x4x128x257, .f32⟩
  | .hbm, ⟨75, _⟩ => ⟨S128x2x4x128x257, .f32⟩
  | .hbm, ⟨76, _⟩ => ⟨S128x2x4x128x257, .f32⟩
  | .hbm, ⟨77, _⟩ => ⟨S_, .f32⟩
  | .hbm, ⟨78, _⟩ => ⟨S128x2x4x128, .f32⟩
  | .hbm, ⟨79, _⟩ => ⟨S128x2x4x128x1, .f32⟩
  | .hbm, ⟨80, _⟩ => ⟨S128x2x4x128x257, .f32⟩
  | .hbm, ⟨81, _⟩ => ⟨S128x2x4x128x257, .f32⟩
  | .hbm, ⟨82, _⟩ => ⟨S128x2x4x128x256, .f32⟩
  | .hbm, ⟨83, _⟩ => ⟨S128x2x64x4x128, .f32⟩
  | .hbm, ⟨84, _⟩ => ⟨S128x128x2x4x64, .f32⟩
  | .hbm, ⟨85, _⟩ => ⟨S16384x512, .f32⟩
  | .hbm, ⟨86, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Proof.Mem.lean ====
module

public import Idealize.ShloMosaic.Lib.Pipeline.FrameBody
public import Idealize.ShloMosaic.Lib.Tactic

/-!
Reading and writing parts of a buffer, for programs whose buffers are described by what is read
through their memrefs (`owns`): one rule for a load of a rectangle, one for an unmasked store to a
rectangle, and the contents a store leaves.
-/

@[expose] public section

namespace Cert.Mem

open Idealize.ShloMosaic Idealize.ShloMosaic.TcCoe
open Idealize.SL
open Idealize.SL.BI (sProp)
open scoped Idealize.SL.BI
open Idealize.SL.BI.BIBase Idealize.SL.BI.Laws Idealize.SL.ProofMode
open Idealize.SL.RA
open Idealize.SL.BI.BIBase Idealize.SL.BI.Laws Idealize.SL.ProofMode Idealize.SL.Sem

noncomputable section

/-! ### Contents -/

section Contents

variable {α : Type} {s : Shape}

/-- The part of `X` a rectangle reads. -/
def get (r : Rect s) (X : s.Idx → α) : r.shape.Idx → α := fun j => X (r.emb j)

open Classical in
/-- `X` with the rectangle's places holding `w`. -/
def put (r : Rect s) (w : r.shape.Idx → α) (X : s.Idx → α) : s.Idx → α :=
  fun y => if h : ∃ j, r.emb j = y then w h.choose else X y

theorem put_emb (r : Rect s) (w : r.shape.Idx → α) (X : s.Idx → α) (j : r.shape.Idx) : put r w X (r.emb j) = w j := by
  have h : ∃ j', r.emb j' = r.emb j := ⟨j, rfl⟩
  unfold put
  rw [dif_pos h]
  exact congrArg w (r.emb.injective h.choose_spec)

theorem put_miss (r : Rect s) (w : r.shape.Idx → α) (X : s.Idx → α) (y : s.Idx) (h : ∀ j, r.emb j ≠ y) :
    put r w X y = X y := by
  unfold put
  exact dif_neg fun ⟨j, hj⟩ => h j hj

/-- What was written is read back. -/
theorem get_put (r : Rect s) (w : r.shape.Idx → α) (X : s.Idx → α) : get r (put r w X) = w :=
  funext fun j => put_emb r w X j

/-- Writing what is there changes nothing. -/
theorem put_get (r : Rect s) (X : s.Idx → α) : put r (get r X) X = X := by
  classical
  funext y
  by_cases h : ∃ j, r.emb j = y
  · obtain ⟨j, rfl⟩ := h; exact put_emb _ _ _ _
  · exact put_miss _ _ _ _ fun j hj => h ⟨j, hj⟩

/-- The second of two writes to one rectangle stands. -/
theorem put_put (r : Rect s) (w w' : r.shape.Idx → α) (X : s.Idx → α) : put r w (put r w' X) = put r w X := by
  classical
  funext y
  by_cases h : ∃ j, r.emb j = y
  · obtain ⟨j, rfl⟩ := h; rw [put_emb, put_emb]
  · have h' : ∀ j, r.emb j ≠ y := fun j hj => h ⟨j, hj⟩
    rw [put_miss _ _ _ _ h', put_miss _ _ _ _ h', put_miss _ _ _ _ h']

/-- A part apart from the one written is what it was. -/
theorem get_put_miss (r r' : Rect s) (w : r'.shape.Idx → α) (X : s.Idx → α) (h : ∀ j j', r'.emb j' ≠ r.emb j) :
    get r (put r' w X) = get r X :=
  funext fun j => put_miss _ _ _ _ fun j' => h j j'

/-- Two rectangles apart on one axis meet nowhere. -/
theorem emb_ne_of_axis (r r' : Rect s) (a : Fin s.rank) (ho : r.stride a = 1) (ho' : r'.stride a = 1)
    (h : r.off a + r.size a ≤ r'.off a ∨ r'.off a + r'.size a ≤ r.off a) (j : r.shape.Idx) (j' : r'.shape.Idx) :
    r'.emb j' ≠ r.emb j := by
  intro e
  have e' := congrArg (fun y : s.Idx => (y a : ℕ)) e
  simp only [Rect.emb_apply, ho, ho', Nat.one_mul] at e'
  have h1 : (j a : ℕ) < r.size a := (j a).isLt
  have h2 : (j' a : ℕ) < r'.size a := (j' a).isLt
  omega

/-- The whole shape, as a rectangle. -/
theorem emb_whole (off : Fin s.rank → ℕ) (h : ∀ a, off a + s.size a ≤ s.size a) (j : s.Idx) :
    (Rect.unit (s := s) off s.size h).emb j = j := by
  funext a
  apply Fin.ext
  have := h a
  have e := Rect.emb_apply (Rect.unit (s := s) off s.size h) j a
  rw [e]
  show off a + 1 * (j a : ℕ) = j a
  omega

theorem get_whole (off : Fin s.rank → ℕ) (h : ∀ a, off a + s.size a ≤ s.size a) (X : s.Idx → α) :
    get (Rect.unit (s := s) off s.size h) X = X :=
  funext fun j => congrArg X (emb_whole off h j)

theorem put_whole (off : Fin s.rank → ℕ) (h : ∀ a, off a + s.size a ≤ s.size a) (w X : s.Idx → α) :
    put (Rect.unit (s := s) off s.size h) w X = w := by
  funext y
  have e := put_emb (Rect.unit (s := s) off s.size h) w X y
  rw [emb_whole] at e
  exact e

/-- Two rectangles that cover the shape: what was there before does not matter. -/
theorem put_put_cover (r r' : Rect s) (w : r.shape.Idx → α) (w' : r'.shape.Idx → α)
    (h : ∀ y, (∃ j, r.emb j = y) ∨ ∃ j, r'.emb j = y) (X X' : s.Idx → α) :
    put r w (put r' w' X) = put r w (put r' w' X') := by
  classical
  funext y
  by_cases hr : ∃ j, r.emb j = y
  · obtain ⟨j, rfl⟩ := hr; rw [put_emb, put_emb]
  · have hn : ∀ j, r.emb j ≠ y := fun j hj => hr ⟨j, hj⟩
    rw [put_miss _ _ _ _ hn, put_miss _ _ _ _ hn]
    obtain ⟨j, rfl⟩ := (h y).resolve_left hr
    rw [put_emb, put_emb]

/-- Two unit-stride rectangles that share every axis but `a` whole, and divide axis `a` at `n`, cover the shape. -/
theorem cover_of_axis (a : Fin s.rank) (n : ℕ) (off off' size size' : Fin s.rank → ℕ)
    (h : ∀ b, off b + size b ≤ s.size b) (h' : ∀ b, off' b + size' b ≤ s.size b)
    (e : ∀ b, b ≠ a → off b = 0 ∧ off' b = 0 ∧ size b = s.size b ∧ size' b = s.size b)
    (ea : off a = n ∧ off' a = 0 ∧ size' a = n ∧ n + size a = s.size a) (y : s.Idx) :
    (∃ j, (Rect.unit (s := s) off size h).emb j = y) ∨ ∃ j, (Rect.unit (s := s) off' size' h').emb j = y := by
  by_cases hy : (y a : ℕ) < n
  · right
    refine ⟨fun b => ⟨y b, ?_⟩, ?_⟩
    · by_cases hb : b = a
      · subst hb; show (y b : ℕ) < size' b; omega
      · show (y b : ℕ) < size' b; rw [(e b hb).2.2.2]; exact (y b).isLt
    · funext b
      apply Fin.ext
      rw [Rect.emb_apply]
      show off' b + 1 * (y b : ℕ) = y b
      by_cases hb : b = a
      · subst hb; omega
      · have := (e b hb).2.1; omega
  · left
    have hlt : ∀ b, (y b : ℕ) - off b < size b := fun b => by
      have := (y b).isLt
      have h2 : (y b : ℕ) < s.size b := this
      by_cases hb : b = a
      · subst hb; omega
      · obtain ⟨h0, -, h3, -⟩ := e b hb; omega
    refine ⟨fun b => ⟨(y b : ℕ) - off b, hlt b⟩, ?_⟩
    funext b
    apply Fin.ext
    rw [Rect.emb_apply]
    show off b + 1 * ((y b : ℕ) - off b) = y b
    by_cases hb : b = a
    · subst hb; omega
    · have := (e b hb).1; omega

end Contents

/-! ### Rules -/

section Rules

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} {𝒱 : Variants} {c : Thread nD τ} {bd : Option 𝒱.V} {E : Set Name}
variable {s : Shape} {e : EltTy} {α : Type} {Q : α → sProp (MT nD τ sig Ix Val Name U Lvl)}

/-- A load of a rectangle of an owned memref continues at that part of its contents. -/
theorem owns_load {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k (get r X)) Q)
        -∗ wp frame (wpE defs 𝒱 c bd) E (.op (.load m r.toLoadRect hl) k) Q) := by
  unfold owns
  iintro ⟨%f, %hf, H⟩ K
  subst hf
  iapply (wp_load_rect 𝒱 c bd E (m := m) (r := r) (f := f) (m.view.set_slice_subset r)) $$ H
  iintro H
  iapply K $$ [H]
  iexists f
  isplitr
  · ipureintro; rfl
  · iexact H

/-- The same where that part has a name. -/
theorem owns_load_eq {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} {Y : r.shape.Idx → Val e}
    (hY : get r X = Y) :
    (owns c m q X : sProp (MT nD τ sig Ix Val Name U Lvl))
      ⊢ iprop((owns c m q X -∗ wp frame (wpE defs 𝒱 c bd) E (k Y) Q)
        -∗ wp frame (wpE defs 𝒱 c bd) E (.op (.load m r.toLoadRect hl) k) Q) := by
  subst hY; exact owns_load

/-- An unmasked store to a rectangle of an owned memref leaves its contents with that part replaced. -/
theorem owns_store {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp (MT nD τ sig Ix Val Name U Lvl))
      ⊢ iprop((owns c m fullShare (put r w X) -∗ wp frame (wpE defs 𝒱 c bd) E (k ⟨⟩) Q)
        -∗ wp frame (wpE defs 𝒱 c bd) E (.op (.store m r w Finset.univ hx hm) k) Q) := by
  unfold owns
  iintro ⟨%f, %hf, H⟩ K
  subst hf
  iapply (wp_store_writes₀ 𝒱 c bd E (m := m) (r := r) (w := w) (hx := hx) (hm := hm) (f := f) (m.view.set_slice_subset r)) $$ H
  iintro H
  iapply K $$ [H]
  iexists m.view.writes Val f [⟨r, w⟩]
  isplitr
  · ipureintro
    classical
    funext y
    by_cases h : ∃ j, r.emb j = y
    · obtain ⟨j, rfl⟩ := h
      rw [put_emb]
      exact View.read_writes_cons_emb ..
    · have h' : ∀ j, r.emb j ≠ y := fun j hj => h ⟨j, hj⟩
      rw [put_miss _ _ _ _ h']
      refine (View.read_writes_cons_miss _ _ _ _ _ fun hy => ?_).trans rfl
      obtain ⟨j, hj⟩ := r.exists_idx_of_mem hy
      exact h' j hj
  · iexact H

/-- The same where the contents left have a name. -/
theorem owns_store_eq {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X Y : s.Idx → Val e} (hY : put r w X = Y) :
    (owns c m fullShare X : sProp (MT nD τ sig Ix Val Name U Lvl))
      ⊢ iprop((owns c m fullShare Y -∗ wp frame (wpE defs 𝒱 c bd) E (k ⟨⟩) Q)
        -∗ wp frame (wpE defs 𝒱 c bd) E (.op (.store m r w Finset.univ hx hm) k) Q) := by
  subst hY; exact owns_store

/-- A load of the whole of an owned memref continues at its contents. -/
theorem owns_load_whole {cs : CoreSpace} {m : Memref sig c.2.kind cs s e} {off : Fin s.rank → ℕ} {h : ∀ a, off a + s.size a ≤ s.size a}
    {hl : m.view.LoadsAt (Rect.unit (s := s) off s.size h).toLoadRect}
    {k : ((Rect.unit (s := s) off s.size h).shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k X) Q)
        -∗ wp frame (wpE defs 𝒱 c bd) E (.op (.load m (Rect.unit (s := s) off s.size h).toLoadRect hl) k) Q) := by
  have := owns_load (defs := defs) (𝒱 := 𝒱) (bd := bd) (E := E) (Q := Q) (m := m) (r := Rect.unit (s := s) off s.size h) (hl := hl) (k := k) (q := q) (X := X)
    (Ix := Ix) (Name := Name) (U := U) (Lvl := Lvl)
  rwa [get_whole] at this

/-- A store to the whole of an owned memref leaves what is stored. -/
theorem owns_store_whole {cs : CoreSpace} {m : Memref sig c.2.kind cs s e} {off : Fin s.rank → ℕ} {h : ∀ a, off a + s.size a ≤ s.size a}
    {w : (Rect.unit (s := s) off s.size h).shape.Idx → Val e}
    {hx : (m.access (Rect.unit (s := s) off s.size h)).Stores Finset.univ} {hm : Finset.univ = Finset.univ ∨ ∀ a, (Rect.unit (s := s) off s.size h).stride a = 1}
    {k : PUnit → Prog (TpuEff nD τ sig Val Λ c.2) α} {X : s.Idx → Val e} :
    (owns c m fullShare X : sProp (MT nD τ sig Ix Val Name U Lvl))
      ⊢ iprop((owns c m fullShare w -∗ wp frame (wpE defs 𝒱 c bd) E (k ⟨⟩) Q)
        -∗ wp frame (wpE defs 𝒱 c bd) E (.op (.store m (Rect.unit (s := s) off s.size h) w Finset.univ hx hm) k) Q) := by
  have := owns_store (defs := defs) (𝒱 := 𝒱) (bd := bd) (E := E) (Q := Q) (m := m) (r := Rect.unit (s := s) off s.size h) (w := w) (hx := hx) (hm := hm)
    (k := k) (X := X) (Ix := Ix) (Name := Name) (U := U) (Lvl := Lvl)
  rwa [put_whole] at this

/-- The same where what is stored has another name. -/
theorem owns_store_whole_eq {cs : CoreSpace} {m : Memref sig c.2.kind cs s e} {off : Fin s.rank → ℕ} {h : ∀ a, off a + s.size a ≤ s.size a}
    {w : (Rect.unit (s := s) off s.size h).shape.Idx → Val e} {w' : s.Idx → Val e} (hw : w = w')
    {hx : (m.access (Rect.unit (s := s) off s.size h)).Stores Finset.univ} {hm : Finset.univ = Finset.univ ∨ ∀ a, (Rect.unit (s := s) off s.size h).stride a = 1}
    {k : PUnit → Prog (TpuEff nD τ sig Val Λ c.2) α} {X : s.Idx → Val e} :
    (owns c m fullShare X : sProp (MT nD τ sig Ix Val Name U Lvl))
      ⊢ iprop((owns c m fullShare w' -∗ wp frame (wpE defs 𝒱 c bd) E (k ⟨⟩) Q)
        -∗ wp frame (wpE defs 𝒱 c bd) E (.op (.store m (Rect.unit (s := s) off s.size h) w Finset.univ hx hm) k) Q) := by
  subst hw; exact owns_store_whole

end Rules

end

end Cert.Mem
-- ==== Proof.KernelIdeal.Blocks.lean ====
module

public import proofs.«01_k».proof.Proof.Mem
public import proofs.«01_k».proof.Proof.Gen.KernelIdeal.Frame
public import proofs.«01_k».proof.Proof.Gen.KernelIdeal.Skeleton
public import Idealize.ShloMosaic.Lib.Scf

/-!
What one grid point of the kernel computes, as a function of the blocks it is given: the masked and
augmented queries, the score tiles, the running column maxima and the running weighted sums, and the
block of results.
-/

@[expose] public section

set_option maxRecDepth 16384

noncomputable section

namespace Cert.KernelIdeal.Own

open Cert.KernelIdeal Cert.KernelIdeal.Gen Cert.Mem
open Idealize.ShloMosaic Idealize.ShloMosaic.TcCoe

variable {F : FTy → Type} [FloatOps F] [Named F]

/-! ### Parts of buffers -/

theorem kInb (j : ℕ) : ∀ a, (![512 * (j % 32), 0] : Fin 2 → ℕ) a + S512x128.size a ≤ S16384x128.size a := by
  have := Nat.mod_lt j (by decide : 32 > 0)
  refine Fin.forall_fin_two.2 ⟨?_, ?_⟩
  · show 512 * (j % 32) + 512 ≤ 16384; omega
  · show 0 + 128 ≤ 128; omega

theorem vInb (j : ℕ) : ∀ a, (![j % 32, 0, 0] : Fin 3 → ℕ) a + S1x64x512.size a ≤ S32x64x512.size a := by
  have := Nat.mod_lt j (by decide : 32 > 0)
  refine Fin.forall_fin_succ.2 ⟨?_, Fin.forall_fin_two.2 ⟨?_, ?_⟩⟩
  · show j % 32 + 1 ≤ 32; omega
  · show 0 + 64 ≤ 64; omega
  · show 0 + 512 ≤ 512; omega

/-- The rows of the `j`-th key tile. -/
def kAt (j : ℕ) (X : Vec F S16384x128 .bf16) : Vec F S512x128 .bf16 :=
  get (Rect.unit (s := S16384x128) ![512 * (j % 32), 0] S512x128.size (kInb j)) X

/-- The values of the `j`-th key tile. -/
def vAt (j : ℕ) (X : Vec F S32x64x512 .bf16) : Vec F S1x64x512 .bf16 :=
  get (Rect.unit (s := S32x64x512) ![j % 32, 0, 0] S1x64x512.size (vInb j)) X

theorem get_kAt (j : ℕ) (hj : j < 32) (off : Fin 2 → ℕ) (ho : off = ![512 * j, 0])
    (h : ∀ a, off a + S512x128.size a ≤ S16384x128.size a) (X : Vec F S16384x128 .bf16) :
    get (Rect.unit (s := S16384x128) off S512x128.size h) X = kAt j X := by
  subst ho; unfold kAt; congr! 4; rw [Nat.mod_eq_of_lt hj]

theorem get_vAt (j : ℕ) (hj : j < 32) (off : Fin 3 → ℕ) (ho : off = ![j, 0, 0])
    (h : ∀ a, off a + S1x64x512.size a ≤ S32x64x512.size a) (X : Vec F S32x64x512 .bf16) :
    get (Rect.unit (s := S32x64x512) off S1x64x512.size h) X = vAt j X := by
  subst ho; unfold vAt; congr! 4; rw [Nat.mod_eq_of_lt hj]

/-- The first head's part of the gates' rows `8 r + h`. -/
def cAt (i : grid0.Coords) (r : Fin 3) (X : Vec F S32x1024 .f32) : Vec F S1x1024 .f32 :=
  get (Rect.unit (s := S32x1024) (k0_off1 i (BitVec.ofNat 32 (8 * r.val))) S1x1024.size (k0_off1_inb i r)) X

abbrev rS0 : Rect S512x1024 := Rect.unit (s := S512x1024) ![0, 0] S512x512.size inb_S512x1024_S512x512_0_0
abbrev rS1 : Rect S512x1024 := Rect.unit (s := S512x1024) ![0, 512] S512x512.size inb_S512x1024_S512x512_0_512
abbrev rM0 : Rect S1x1024 := Rect.unit (s := S1x1024) ![0, 0] S1x512.size inb_S1x1024_S1x512_0_0
abbrev rM1 : Rect S1x1024 := Rect.unit (s := S1x1024) ![0, 512] S1x512.size inb_S1x1024_S1x512_0_512
abbrev rA1 : Rect S80x1024 := Rect.unit (s := S80x1024) ![0, 512] S80x512.size inb_S80x1024_S80x512_0_512
abbrev rQ0 : Rect S256x1024 := Rect.unit (s := S256x1024) ![0, 0] S128x1024.size inb_S256x1024_S128x1024_0_0
abbrev rQ1 : Rect S256x1024 := Rect.unit (s := S256x1024) ![128, 0] S128x1024.size inb_S256x1024_S128x1024_128_0
abbrev rQr : Rect S256x1024 := Rect.unit (s := S256x1024) ![0, 512] S256x512.size inb_S256x1024_S256x512_0_512

/-! ### Two halves -/

/-- Scores of two halves of a query tile, side by side. -/
def sCat (L R : Vec F S512x512 .f32) : Vec F S512x1024 .f32 :=
  put rS1 R (put rS0 L (constant S512x1024 .f32 0x00000000#32))

/-- Column maxima of two halves, side by side. -/
def mCat (L R : Vec F S1x512 .f32) : Vec F S1x1024 .f32 :=
  put rM1 R (put rM0 L (constant S1x1024 .f32 0x00000000#32))

/-- The masked queries above the masked augmenting rows. -/
def qCat (T B : Vec F S128x1024 .bf16) : Vec F S256x1024 .bf16 :=
  put rQ1 B (put rQ0 T (constant S256x1024 .bf16 0x0000#16))

theorem put_sCat (L R : Vec F S512x512 .f32) (X : Vec F S512x1024 .f32) : put rS1 R (put rS0 L X) = sCat L R :=
  put_put_cover _ _ _ _ (cover_of_axis 1 512 _ _ _ _ _ _
    (fun b hb => by fin_cases b <;> [exact ⟨rfl, rfl, rfl, rfl⟩; exact absurd rfl hb]) ⟨rfl, rfl, rfl, rfl⟩) _ _

theorem put_mCat (L R : Vec F S1x512 .f32) (X : Vec F S1x1024 .f32) : put rM1 R (put rM0 L X) = mCat L R :=
  put_put_cover _ _ _ _ (cover_of_axis 1 512 _ _ _ _ _ _
    (fun b hb => by fin_cases b <;> [exact ⟨rfl, rfl, rfl, rfl⟩; exact absurd rfl hb]) ⟨rfl, rfl, rfl, rfl⟩) _ _

theorem put_qCat (T B : Vec F S128x1024 .bf16) (X : Vec F S256x1024 .bf16) : put rQ1 B (put rQ0 T X) = qCat T B :=
  put_put_cover _ _ _ _ (cover_of_axis 0 128 _ _ _ _ _ _
    (fun b hb => by fin_cases b <;> [exact absurd rfl hb; exact ⟨rfl, rfl, rfl, rfl⟩]) ⟨rfl, rfl, rfl, rfl⟩) _ _

/-! ### The steps -/

/-- The queries of head `i 0`, with the rows that bring in the gates. -/
def qaug (i : grid0.Coords) (x2 : Vec F S128x1024 .bf16) (x3 : Vec F S32x1024 .f32) : Vec F S256x1024 .bf16 :=
  qCat (k0_pay85 (BitVec.ofNat 32 (i 0).val) (k0_pay83 x2) k0_pay84 2#32 (Scalar.cmpi .eq 2#32 0#32) 1#32)
    (k0_pay88 (iota .tc S128x1024 32 [0] iota_S128x1024_d0_w32)
      (k0_pay86 (BitVec.ofNat 32 (i 0).val) (iota .tc S128x1024 32 [0] iota_S128x1024_d0_w32))
      (k0_pay87 (iota .tc S128x1024 32 [0] iota_S128x1024_d0_w32)) (cAt i 0 x3) (cAt i 1 x3) (cAt i 2 x3))

/-- The running maximum after a tile with column maxima `C`. -/
def newM (M C : Vec F S1x1024 .f32) : Vec F S1x1024 .f32 := k0_pay27 (k0_pay22 M C)

/-- The running weighted sums after a tile with scores `S`, column maxima `C` and values `v`. -/
def newA (M C : Vec F S1x1024 .f32) (S : Vec F S512x1024 .f32) (v : Vec F S1x64x512 .bf16) (A : Vec F S80x1024 .f32) :
    Vec F S80x1024 .f32 :=
  k0_pay26 (k0_pay23 M C) (k0_pay24 M C S) (k0_pay25 k0_pay89 v) A

section Run

variable (q : Vec F S256x1024 .bf16) (x4 x5 : Vec F S16384x128 .bf16) (x6 : Vec F S32x64x512 .bf16)

/-- The scores of key tile `j`. -/
def sT (j : ℕ) : Vec F S512x1024 .f32 := k0_pay20 (kAt j x4) (kAt j x5) q

/-- Their column maxima. -/
def cT (j : ℕ) : Vec F S1x1024 .f32 := k0_pay21 (kAt j x4) (kAt j x5) q

/-- The running maximum before key tile `j`. -/
def mT : ℕ → Vec F S1x1024 .f32
  | 0 => k0_pay82
  | j + 1 => newM (mT j) (cT q x4 x5 j)

/-- The running weighted sums before key tile `j`. -/
def aT : ℕ → Vec F S80x1024 .f32
  | 0 => k0_pay81
  | j + 1 => newA (mT q x4 x5 j) (cT q x4 x5 j) (sT q x4 x5 j) (vAt j x6) (aT j)

/-- The scores of the first diagonal tile, key tile `j`, masked where keys follow queries. -/
def sD (j : ℕ) : Vec F S512x1024 .f32 := sCat (k0_pay3 (kAt j x4) (kAt j x5) q) (k0_pay5 (kAt j x4) (kAt j x5) q)

def cD (j : ℕ) : Vec F S1x1024 .f32 := mCat (k0_pay4 (kAt j x4) (kAt j x5) q) (k0_pay6 (kAt j x4) (kAt j x5) q)

/-- The scores of the second diagonal tile, for the second half of the queries. -/
def sH (j : ℕ) : Vec F S512x512 .f32 := k0_pay8 (kAt j x4) (kAt j x5) (get rQr q)

def cH (j : ℕ) : Vec F S1x512 .f32 := k0_pay9 (kAt j x4) (kAt j x5) (get rQr q)

/-- The running maximum after the first diagonal tile, -/
def mD (j : ℕ) : Vec F S1x1024 .f32 := newM (mT q x4 x5 j) (cD q x4 x5 j)

/-- the weighted sums after it, -/
def aD (j : ℕ) : Vec F S80x1024 .f32 := newA (mT q x4 x5 j) (cD q x4 x5 j) (sD q x4 x5 j) (vAt j x6) (aT q x4 x5 x6 j)

/-- and after the second. -/
def aE (j : ℕ) : Vec F S80x1024 .f32 :=
  put rA1 (k0_pay17 k0_pay89 (get rM1 (mD q x4 x5 j)) (cH q x4 x5 (j + 1)) (sH q x4 x5 (j + 1)) (vAt (j + 1) x6)
    (get rA1 (aD q x4 x5 x6 j))) (aD q x4 x5 x6 j)

end Run

/-- The block of results of a grid point. -/
def outB (i : grid0.Coords) (x2 : Vec F S128x1024 .bf16) (x3 : Vec F S32x1024 .f32) (x4 x5 : Vec F S16384x128 .bf16)
    (x6 : Vec F S32x64x512 .bf16) : Vec F S64x1024 .bf16 :=
  k0_pay91 (aE (qaug i x2 x3) x4 x5 x6 (2 * (i 1).val))

/-! ### The same steps as the program writes them -/

section Same

variable (M C : Vec F S1x1024 .f32) (S : Vec F S512x1024 .f32) (v : Vec F S1x64x512 .bf16) (A : Vec F S80x1024 .f32)
  (q : Vec F S256x1024 .bf16) (x4 x5 : Vec F S16384x128 .bf16) (j : ℕ)

theorem pay26_eq : k0_pay26 (k0_pay23 M C) (k0_pay24 M C S) (k0_pay25 k0_pay89 v) A = newA M C S v A := rfl
theorem pay27_eq : k0_pay27 (k0_pay22 M C) = newM M C := rfl
theorem pay47_eq : k0_pay47 k0_pay89 M C S v A = newA M C S v A := rfl
theorem pay48_eq : k0_pay48 M C = newM M C := rfl
theorem pay58_eq : k0_pay58 k0_pay89 (k0_pay56 M C) (k0_pay57 M C S) v A = newA M C S v A := rfl
theorem pay59_eq : k0_pay59 (k0_pay55 M C) = newM M C := rfl
theorem pay68_eq : k0_pay68 k0_pay89 M C S v A = newA M C S v A := rfl
theorem pay69_eq : k0_pay69 M C = newM M C := rfl
theorem pay77_eq : k0_pay77 k0_pay89 (k0_pay74 M C) (k0_pay75 M C S) (k0_pay76 v) A = newA M C S v A := rfl
theorem pay78_eq : k0_pay78 (k0_pay73 M C) = newM M C := rfl
theorem pay14_eq : k0_pay14 (k0_pay11 M C S) (k0_pay12 k0_pay89 v) (k0_pay13 M C A) (constant S80x1024 .f32 0x00000000#32) = newA M C S v A := rfl
theorem pay15_eq : k0_pay15 (k0_pay10 M C) = newM M C := rfl
theorem pay20_eq : k0_pay20 (kAt j x4) (kAt j x5) q = sT q x4 x5 j := rfl
theorem pay21_eq : k0_pay21 (kAt j x4) (kAt j x5) q = cT q x4 x5 j := rfl
theorem pay29_eq : k0_pay29 (kAt j x4) (kAt j x5) q = sT q x4 x5 j := rfl
theorem pay30_eq : k0_pay30 (kAt j x4) (kAt j x5) q = cT q x4 x5 j := rfl
theorem pay44_eq : k0_pay44 (kAt j x4) (kAt j x5) q = sT q x4 x5 j := rfl
theorem pay45_eq : k0_pay45 (kAt j x4) (kAt j x5) q = cT q x4 x5 j := rfl
theorem pay53_eq : k0_pay53 (kAt j x4) (kAt j x5) q = sT q x4 x5 j := rfl
theorem pay54_eq : k0_pay54 (kAt j x4) (kAt j x5) q = cT q x4 x5 j := rfl

theorem sD_eq (X : Vec F S512x1024 .f32) :
    put rS1 (k0_pay65 (k0_pay60 (kAt j x4) (kAt j x5) q)) (put rS0 (k0_pay62 (kAt j x4) (kAt j x5) q) X) = sD q x4 x5 j := put_sCat _ _ _
theorem cD_eq (X : Vec F S1x1024 .f32) :
    put rM1 (k0_pay66 (k0_pay60 (kAt j x4) (kAt j x5) q)) (put rM0 (k0_pay64 (k0_pay63 (kAt j x4) (kAt j x5) q)) X) = cD q x4 x5 j := put_mCat _ _ _
theorem sH_eq (X : Vec F S512x1024 .f32) : get rS1 (put rS1 (k0_pay71 (kAt j x4) (kAt j x5) (get rQr q)) X) = sH q x4 x5 j := get_put _ _ _
theorem cH_eq (X : Vec F S1x1024 .f32) : get rM1 (put rM1 (k0_pay72 (kAt j x4) (kAt j x5) (get rQr q)) X) = cH q x4 x5 j := get_put _ _ _
theorem aE_eq (x6 : Vec F S32x64x512 .bf16) : put rA1 (k0_pay80 k0_pay89 (get rM1 (mD q x4 x5 j)) (cH q x4 x5 (j + 1)) (sH q x4 x5 (j + 1)) (vAt (j + 1) x6)
    (get rA1 (aD q x4 x5 x6 j))) (aD q x4 x5 x6 j) = aE q x4 x5 x6 j := rfl

end Same

/-! ### The loops' bounds -/

theorem trips1 : ∀ i : grid0.Coords, k0_cond2 i = 1#1 → (k0_t1_loop i).trips + 1 = (i 1).val := by decide +kernel
theorem trips2 (i : grid0.Coords) : (k0_t2_loop i).trips = 0 := Nat.le_zero.1 (k0_t2_abs i).2.1
theorem cond1 : ∀ i : grid0.Coords, k0_cond1 i = 1#1 → (i 1).val = 0 := by decide +kernel
theorem cond2 : ∀ i : grid0.Coords, k0_cond2 i = 1#1 → 0 < (i 1).val := by decide +kernel
theorem cond_or : ∀ i : grid0.Coords, k0_cond1 i = 1#1 ∧ ¬ k0_cond2 i = 1#1 ∨ ¬ k0_cond1 i = 1#1 ∧ k0_cond2 i = 1#1 := by decide +kernel

theorem off6a (i : grid0.Coords) (k : Fin (k0_t1_loop i).trips) : k0_off6 i k 1#32 = ![512 * (2 * k.val + 1), 0] := by
  have h : ∀ k : Fin 14, (![(Scalar.indexCast (Scalar.muli (Scalar.addi (Scalar.muli 2#32 (Scf.iv 0#32 1#32 k.val)) 1#32) 512#32)).toNat, 0] : Fin 2 → ℕ)
      = ![512 * (2 * k.val + 1), 0] := by decide +kernel
  exact h ⟨k.val, Nat.lt_of_lt_of_le k.isLt (k0_t1_abs i).2.1⟩
theorem off6b (i : grid0.Coords) (k : Fin (k0_t1_loop i).trips) : k0_off6 i k 2#32 = ![512 * (2 * k.val + 1 + 1), 0] := by
  have h : ∀ k : Fin 14, (![(Scalar.indexCast (Scalar.muli (Scalar.addi (Scalar.muli 2#32 (Scf.iv 0#32 1#32 k.val)) 2#32) 512#32)).toNat, 0] : Fin 2 → ℕ)
      = ![512 * (2 * k.val + 1 + 1), 0] := by decide +kernel
  exact h ⟨k.val, Nat.lt_of_lt_of_le k.isLt (k0_t1_abs i).2.1⟩
theorem off7 (i : grid0.Coords) (k : Fin (k0_t1_loop i).trips) : k0_off7 i k = ![2 * k.val, 0, 0] := by
  have h : ∀ k : Fin 14, (![(Scalar.indexCast (Scalar.muli 2#32 (Scf.iv 0#32 1#32 k.val))).toNat, 0, 0] : Fin 3 → ℕ)
      = ![2 * k.val, 0, 0] := by decide +kernel
  exact h ⟨k.val, Nat.lt_of_lt_of_le k.isLt (k0_t1_abs i).2.1⟩
theorem off8 (i : grid0.Coords) (k : Fin (k0_t1_loop i).trips) : k0_off8 i k = ![2 * k.val + 1, 0, 0] := by
  have h : ∀ k : Fin 14, (![(Scalar.indexCast (Scalar.addi (Scalar.muli 2#32 (Scf.iv 0#32 1#32 k.val)) 1#32)).toNat, 0, 0] : Fin 3 → ℕ)
      = ![2 * k.val + 1, 0, 0] := by decide +kernel
  exact h ⟨k.val, Nat.lt_of_lt_of_le k.isLt (k0_t1_abs i).2.1⟩
theorem off12 : ∀ i : grid0.Coords, k0_cond2 i = 1#1 → k0_off12 i = ![512 * (2 * (i 1).val - 1), 0] := by decide +kernel
theorem off13a : ∀ i : grid0.Coords, k0_cond2 i = 1#1 → k0_off13 i 2#32 = ![2 * (i 1).val - 2, 0, 0] := by decide +kernel
theorem off13b : ∀ i : grid0.Coords, k0_cond2 i = 1#1 → k0_off13 i 1#32 = ![2 * (i 1).val - 1, 0, 0] := by decide +kernel

end Cert.KernelIdeal.Own
-- ==== Proof.KernelIdeal.Trip.lean ====
module

public import proofs.«01_k».proof.Proof.KernelIdeal.Blocks
public import Idealize.ShloMosaic.Lib.Tactic

/-!
One trip of the loop over pairs of key tiles, and the loop.
-/

@[expose] public section

set_option maxRecDepth 65536
set_option maxHeartbeats 4000000

noncomputable section

namespace Cert.KernelIdeal.Own

open Cert.KernelIdeal Cert.KernelIdeal.Gen Cert.Mem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section

variable (c : Dev nD) (arg4 : Memref sig .tc .vmem S16384x128 .bf16) (arg5 : Memref sig .tc .vmem S16384x128 .bf16)
  (arg6 : Memref sig .tc .vmem S32x64x512 .bf16) (arg8 : Memref sig .tc .vmem S256x1024 .bf16) (arg9 : Memref sig .tc .vmem S80x1024 .f32)
  (arg10 : Memref sig .tc .vmem S1x1024 .f32) (arg11 arg12 : Memref sig .tc .vmem S512x1024 .f32) (arg13 arg14 : Memref sig .tc .vmem S1x1024 .f32)

/-- The buffers the steps over key tiles use, and what they hold. -/
def held (x4 x5 : Vec F S16384x128 .bf16) (x6 : Vec F S32x64x512 .bf16) (q : Vec F S256x1024 .bf16) (A : Vec F S80x1024 .f32)
    (M : Vec F S1x1024 .f32) (S0 S1 : Vec F S512x1024 .f32) (C0 C1 : Vec F S1x1024 .f32) : sProp 𝕄 :=
  iprop(owns (c : Thread nD τ) arg4 fullShare x4 ∗ owns (c : Thread nD τ) arg5 fullShare x5 ∗ owns (c : Thread nD τ) arg6 fullShare x6
    ∗ owns (c : Thread nD τ) arg8 fullShare q ∗ owns (c : Thread nD τ) arg9 fullShare A ∗ owns (c : Thread nD τ) arg10 fullShare M
    ∗ owns (c : Thread nD τ) arg11 fullShare S0 ∗ owns (c : Thread nD τ) arg12 fullShare S1
    ∗ owns (c : Thread nD τ) arg13 fullShare C0 ∗ owns (c : Thread nD τ) arg14 fullShare C1)

/-- Before trip `k`: the tiles before `2 k` are in the sums, and tile `2 k`'s scores are ready. -/
def inv (x4 x5 : Vec F S16384x128 .bf16) (x6 : Vec F S32x64x512 .bf16) (q : Vec F S256x1024 .bf16) (k : ℕ) : sProp 𝕄 :=
  iprop(∃ S1 C1, held c arg4 arg5 arg6 arg8 arg9 arg10 arg11 arg12 arg13 arg14 x4 x5 x6 q (aT q x4 x5 x6 (2 * k)) (mT q x4 x5 (2 * k))
    (sT q x4 x5 (2 * k)) S1 (cT q x4 x5 (2 * k)) C1)

end

theorem step1 (c : Dev nD) (i : grid0.Coords) (arg2 : Memref sig .tc .vmem S128x1024 .bf16) (harg2 : arg2.IsWhole) (arg3 : Memref sig .tc .vmem S32x1024 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S32x64x512 .bf16) (harg6 : arg6.IsWhole) (arg7 : Memref sig .tc .vmem S64x1024 .bf16) (harg7 : arg7.IsWhole) (arg8 : Memref sig .tc .vmem S256x1024 .bf16) (harg8 : arg8.IsWhole) (arg9 : Memref sig .tc .vmem S80x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (arg14 : Memref sig .tc .vmem S1x1024 .f32) (harg14 : arg14.IsWhole)
    (v0 : BitVec 32) (h2 : k0_cond2 i = 1#1) (a b d : BitVec 32) (x4 x5 : Vec F S16384x128 .bf16) (x6 : Vec F S32x64x512 .bf16) (q : Vec F S256x1024 .bf16)
    (k : Fin (k0_t1_loop i).trips) (acc : Unit) :
    inv c arg4 arg5 arg6 arg8 arg9 arg10 arg11 arg12 arg13 arg14 x4 x5 x6 q k.val
      ⊢ wp frame (wpE defs₀ Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 v0 k0_pay89 h2 a b d k acc)
        fun _ => inv c arg4 arg5 arg6 arg8 arg9 arg10 arg11 arg12 arg13 arg14 x4 x5 x6 q (k.val + 1) := by
  have hk : k.val < 14 := Nat.lt_of_lt_of_le k.isLt (k0_t1_abs i).2.1
  unfold k0_t1_body
  simp only [k0_part4_eq_skeleton, k0_part5_eq_skeleton]
  unfold k0_part4_skel k0_part5_skel
  simp only [Prog.lift, Prog.bind_op, Prog.bind_ret, Prog.pure_eq_ret]
  unfold inv held
  iintro ⟨%S1, %C1, H4, H5, H6, H8, H9, H10, H11, H12, H13, H14⟩
  iapply (owns_load_eq (get_kAt (2 * k.val + 1) (by omega) _ (off6a i k) _ x4)) $$ H4; iintro H4
  iapply (owns_load_eq (get_kAt (2 * k.val + 1) (by omega) _ (off6a i k) _ x5)) $$ H5; iintro H5
  iapply owns_load_whole $$ H8; iintro H8
  iapply owns_load_whole $$ H12; iintro H12
  iapply (owns_store_whole_eq (pay20_eq q x4 x5 _)) $$ H12; iintro H12
  iapply owns_load_whole $$ H14; iintro H14
  iapply (owns_store_whole_eq (pay21_eq q x4 x5 _)) $$ H14; iintro H14
  iapply owns_load_whole $$ H10; iintro H10
  iapply owns_load_whole $$ H13; iintro H13
  iapply owns_load_whole $$ H11; iintro H11
  iapply (owns_load_eq (get_vAt (2 * k.val) (by omega) _ (off7 i k) _ x6)) $$ H6; iintro H6
  iapply owns_load_whole $$ H9; iintro H9
  iapply owns_load_whole $$ H9; iintro H9
  iapply (owns_store_whole_eq (pay26_eq _ _ _ _ _)) $$ H9; iintro H9
  iapply owns_load_whole $$ H10; iintro H10
  iapply (owns_store_whole_eq (pay27_eq _ _)) $$ H10; iintro H10
  iapply (owns_load_eq (get_kAt (2 * k.val + 1 + 1) (by omega) _ (off6b i k) _ x4)) $$ H4; iintro H4
  iapply (owns_load_eq (get_kAt (2 * k.val + 1 + 1) (by omega) _ (off6b i k) _ x5)) $$ H5; iintro H5
  iapply owns_load_whole $$ H8; iintro H8
  iapply owns_load_whole $$ H11; iintro H11
  iapply (owns_store_whole_eq (pay29_eq q x4 x5 _)) $$ H11; iintro H11
  iapply owns_load_whole $$ H13; iintro H13
  iapply (owns_store_whole_eq (pay30_eq q x4 x5 _)) $$ H13; iintro H13
  iapply owns_load_whole $$ H10; iintro H10
  iapply owns_load_whole $$ H14; iintro H14
  iapply owns_load_whole $$ H12; iintro H12
  iapply (owns_load_eq (get_vAt (2 * k.val + 1) (by omega) _ (off8 i k) _ x6)) $$ H6; iintro H6
  iapply owns_load_whole $$ H9; iintro H9
  iapply owns_load_whole $$ H9; iintro H9
  iapply (owns_store_whole_eq (pay47_eq _ _ _ _ _)) $$ H9; iintro H9
  iapply owns_load_whole $$ H10; iintro H10
  iapply (owns_store_whole_eq (pay48_eq _ _)) $$ H10; iintro H10
  rw [wp_ret]; imodintro
  rw [show 2 * (k.val + 1) = 2 * k.val + 1 + 1 from rfl]
  iexists (sT q x4 x5 (2 * k.val + 1)); iexists (cT q x4 x5 (2 * k.val + 1))
  isplitl [H4]; · iexact H4
  isplitl [H5]; · iexact H5
  isplitl [H6]; · iexact H6
  isplitl [H8]; · iexact H8
  isplitl [H9]; · iexact H9
  isplitl [H10]; · iexact H10
  isplitl [H11]; · iexact H11
  isplitl [H12]; · iexact H12
  isplitl [H13]; · iexact H13
  iexact H14

end Cert.KernelIdeal.Own
-- ==== Proof.KernelIdeal.Point.lean ====
module

public import proofs.«01_k».proof.Proof.KernelIdeal.Trip

/-!
A grid point: from the blocks of its inputs to its block of results.
-/

@[expose] public section

set_option maxRecDepth 65536
set_option maxHeartbeats 4000000

noncomputable section

namespace Cert.KernelIdeal.Own

open Cert.KernelIdeal Cert.KernelIdeal.Gen Cert.Mem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section

variable (c : Dev nD) (arg2 : Memref sig .tc .vmem S128x1024 .bf16) (arg3 : Memref sig .tc .vmem S32x1024 .f32)
  (arg4 : Memref sig .tc .vmem S16384x128 .bf16) (arg5 : Memref sig .tc .vmem S16384x128 .bf16)
  (arg6 : Memref sig .tc .vmem S32x64x512 .bf16) (arg7 : Memref sig .tc .vmem S64x1024 .bf16) (arg8 : Memref sig .tc .vmem S256x1024 .bf16) (arg9 : Memref sig .tc .vmem S80x1024 .f32)
  (arg10 : Memref sig .tc .vmem S1x1024 .f32) (arg11 arg12 : Memref sig .tc .vmem S512x1024 .f32) (arg13 arg14 : Memref sig .tc .vmem S1x1024 .f32)

/-- All the buffers of a grid point, and what they hold. -/
def pts (x2 : Vec F S128x1024 .bf16) (x3 : Vec F S32x1024 .f32) (x4 x5 : Vec F S16384x128 .bf16) (x6 : Vec F S32x64x512 .bf16)
    (x7 : Vec F S64x1024 .bf16) (x8 : Vec F S256x1024 .bf16) (x9 : Vec F S80x1024 .f32) (x10 : Vec F S1x1024 .f32) (x11 x12 : Vec F S512x1024 .f32) (x13 x14 : Vec F S1x1024 .f32) : sProp 𝕄 :=
  iprop(owns (c : Thread nD τ) arg2 fullShare x2 ∗ owns (c : Thread nD τ) arg3 fullShare x3
    ∗ owns (c : Thread nD τ) arg4 fullShare x4 ∗ owns (c : Thread nD τ) arg5 fullShare x5 ∗ owns (c : Thread nD τ) arg6 fullShare x6
    ∗ owns (c : Thread nD τ) arg7 fullShare x7
    ∗ owns (c : Thread nD τ) arg8 fullShare x8 ∗ owns (c : Thread nD τ) arg9 fullShare x9 ∗ owns (c : Thread nD τ) arg10 fullShare x10
    ∗ owns (c : Thread nD τ) arg11 fullShare x11 ∗ owns (c : Thread nD τ) arg12 fullShare x12
    ∗ owns (c : Thread nD τ) arg13 fullShare x13 ∗ owns (c : Thread nD τ) arg14 fullShare x14)

end

/-- A grid point, from the blocks of its inputs: its block of results is `outB`. -/
theorem point (c : Dev nD) (i : grid0.Coords) (arg2 : Memref sig .tc .vmem S128x1024 .bf16) (harg2 : arg2.IsWhole) (arg3 : Memref sig .tc .vmem S32x1024 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S32x64x512 .bf16) (harg6 : arg6.IsWhole) (arg7 : Memref sig .tc .vmem S64x1024 .bf16) (harg7 : arg7.IsWhole) (arg8 : Memref sig .tc .vmem S256x1024 .bf16) (harg8 : arg8.IsWhole) (arg9 : Memref sig .tc .vmem S80x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (arg14 : Memref sig .tc .vmem S1x1024 .f32) (harg14 : arg14.IsWhole)
    (x2 : Vec F S128x1024 .bf16) (x3 : Vec F S32x1024 .f32) (x4 x5 : Vec F S16384x128 .bf16) (x6 : Vec F S32x64x512 .bf16)
    (x7 : Vec F S64x1024 .bf16) (x8 : Vec F S256x1024 .bf16) (x9 : Vec F S80x1024 .f32) (x10 : Vec F S1x1024 .f32) (x11 x12 : Vec F S512x1024 .f32) (x13 x14 : Vec F S1x1024 .f32) :
    pts c arg2 arg3 arg4 arg5 arg6 arg7 arg8 arg9 arg10 arg11 arg12 arg13 arg14 x2 x3 x4 x5 x6 x7 x8 x9 x10 x11 x12 x13 x14
      ⊢ wp frame (wpE defs₀ Variants.none (c : Thread nD τ) none) Set.univ (cc0_fox (F := F) i arg2 harg2 arg3 harg3 arg4 harg4 arg5 harg5 arg6 harg6 arg7 harg7 arg8 harg8 arg9 harg9 arg10 harg10 arg11 harg11 arg12 harg12 arg13 harg13 arg14 harg14)
        fun _ => iprop(∃ y8 y9 y10 y11 y12 y13 y14,
          pts c arg2 arg3 arg4 arg5 arg6 arg7 arg8 arg9 arg10 arg11 arg12 arg13 arg14 x2 x3 x4 x5 x6 (outB i x2 x3 x4 x5 x6) y8 y9 y10 y11 y12 y13 y14) := by
  have hi : (i 1).val < 16 := (i 1).isLt
  rw [cc0_fox_eq_skeleton]
  unfold cc0_fox_skel
  simp only [k0_part14_eq_skeleton, k0_part15_eq_skeleton, k0_part16_eq_skeleton]
  unfold k0_part14_skel k0_part15_skel k0_part16_skel
  simp only [Prog.lift, Prog.bind_op, Prog.bind_ret, Prog.pure_eq_ret]
  unfold pts
  iintro ⟨H2, H3, H4, H5, H6, H7, H8, H9, H10, H11, H12, H13, H14⟩
  iapply owns_load_whole $$ H9; iintro H9
  iapply owns_store_whole $$ H9; iintro H9
  iapply owns_load_whole $$ H10; iintro H10
  iapply owns_store_whole $$ H10; iintro H10
  iapply owns_load_whole $$ H2; iintro H2
  iapply owns_load $$ H8; iintro H8
  iapply owns_store $$ H8; iintro H8
  iapply owns_load $$ H3; iintro H3
  iapply owns_load $$ H3; iintro H3
  iapply owns_load $$ H3; iintro H3
  iapply owns_load $$ H8; iintro H8
  iapply (owns_store_eq (Y := qaug i x2 x3) (put_qCat _ _ _)) $$ H8; iintro H8
  rcases cond_or i with ⟨h1, h2⟩ | ⟨h1, h2⟩
  · have h0 := cond1 i h1
    simp only [dif_pos h1, dif_neg h2, k0_part3_eq_skeleton]
    unfold k0_part3_skel
    simp only [k0_part1_eq_skeleton, k0_part2_eq_skeleton]
    unfold k0_part1_skel k0_part2_skel
    simp only [Prog.lift, Prog.bind_op, Prog.bind_ret, Prog.pure_eq_ret, Prog.bind_assoc]
    generalize hq : qaug i x2 x3 = q
    iapply (owns_load_eq (get_kAt (2 * (i 1).val) (by omega) _ ((k0_off2_eq i).trans (by rw [← Nat.mul_assoc])) _ x4)) $$ H4; iintro H4
    iapply (owns_load_eq (get_kAt (2 * (i 1).val) (by omega) _ ((k0_off2_eq i).trans (by rw [← Nat.mul_assoc])) _ x5)) $$ H5; iintro H5
    iapply owns_load_whole $$ H8; iintro H8
    iapply owns_load $$ H11; iintro H11
    iapply owns_store $$ H11; iintro H11
    iapply owns_load $$ H13; iintro H13
    iapply owns_store $$ H13; iintro H13
    iapply owns_load $$ H11; iintro H11
    iapply (owns_store_eq (Y := sD q x4 x5 (2 * (i 1).val)) (put_sCat _ _ _)) $$ H11; iintro H11
    iapply owns_load $$ H13; iintro H13
    iapply (owns_store_eq (Y := cD q x4 x5 (2 * (i 1).val)) (put_mCat _ _ _)) $$ H13; iintro H13
    iapply (owns_load_eq (get_kAt (2 * (i 1).val + 1) (by omega) _ ((k0_off3_eq i).trans (by rw [Nat.mul_add, ← Nat.mul_assoc])) _ x4)) $$ H4; iintro H4
    iapply (owns_load_eq (get_kAt (2 * (i 1).val + 1) (by omega) _ ((k0_off3_eq i).trans (by rw [Nat.mul_add, ← Nat.mul_assoc])) _ x5)) $$ H5; iintro H5
    iapply owns_load $$ H8; iintro H8
    iapply owns_load $$ H12; iintro H12
    iapply owns_store $$ H12; iintro H12
    iapply owns_load $$ H14; iintro H14
    iapply owns_store $$ H14; iintro H14
    iapply owns_load_whole $$ H10; iintro H10
    iapply owns_load_whole $$ H13; iintro H13
    iapply owns_load_whole $$ H11; iintro H11
    iapply (owns_load_eq (get_vAt (2 * (i 1).val) (by omega) _ (k0_off4_eq i) _ x6)) $$ H6; iintro H6
    iapply owns_load_whole $$ H9; iintro H9
    iapply owns_load_whole $$ H9; iintro H9
    iapply (owns_store_whole_eq (w' := aD q x4 x5 x6 (2 * (i 1).val)) ((pay14_eq _ _ _ _ _).trans (by rw [h0]; rfl))) $$ H9; iintro H9
    iapply owns_load_whole $$ H10; iintro H10
    iapply (owns_store_whole_eq (w' := mD q x4 x5 (2 * (i 1).val)) ((pay15_eq _ _).trans (by rw [h0]; rfl))) $$ H10; iintro H10
    iapply owns_load $$ H10; iintro H10
    iapply (owns_load_eq (get_put rM1 _ _)) $$ H14; iintro H14
    iapply (owns_load_eq (get_put rS1 _ _)) $$ H12; iintro H12
    iapply (owns_load_eq (get_vAt (2 * (i 1).val + 1) (by omega) _ (k0_off5_eq i) _ x6)) $$ H6; iintro H6
    iapply owns_load $$ H9; iintro H9
    iapply owns_load $$ H9; iintro H9
    iapply (owns_store_eq (Y := aE q x4 x5 x6 (2 * (i 1).val)) rfl) $$ H9; iintro H9
    iapply owns_load $$ H10; iintro H10
    iapply owns_store $$ H10; iintro H10
    subst hq
    iapply (owns_load_whole) $$ H9; iintro H9
    iapply owns_load_whole $$ H7; iintro H7
    iapply (owns_store_whole_eq (w' := outB i x2 x3 x4 x5 x6) (by first | rfl | (unfold outB; rfl))) $$ H7; iintro H7
    rw [wp_ret]; imodintro
    iexists _
    iexists _
    iexists _
    iexists _
    iexists _
    iexists _
    iexists _
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · have h0 := cond2 i h2
    simp only [dif_neg h1, dif_pos h2, k0_part8_eq_skeleton, k0_part9_eq_skeleton, k0_part10_eq_skeleton, k0_part11_eq_skeleton, k0_part12_eq_skeleton, k0_part13_eq_skeleton]
    unfold k0_part8_skel k0_part9_skel k0_part10_skel k0_part11_skel k0_part12_skel k0_part13_skel
    simp only [Prog.lift, Prog.bind_op, Prog.bind_ret, Prog.pure_eq_ret, Prog.bind_assoc]
    iapply (owns_load_eq (get_kAt (0) (by omega) _ (rfl) _ x4)) $$ H4; iintro H4
    iapply (owns_load_eq (get_kAt (0) (by omega) _ (rfl) _ x5)) $$ H5; iintro H5
    iapply owns_load_whole $$ H8; iintro H8
    iapply owns_load_whole $$ H11; iintro H11
    iapply (owns_store_whole_eq (pay44_eq (qaug i x2 x3) x4 x5 0)) $$ H11; iintro H11
    iapply owns_load_whole $$ H13; iintro H13
    iapply (owns_store_whole_eq (pay45_eq (qaug i x2 x3) x4 x5 0)) $$ H13; iintro H13
    iapply (Scf.wp_for_bind frame (wpE defs₀ Variants.none (c : Thread nD τ) none) Set.univ _ _ _ _ _ _
      (fun k _ => inv c arg4 arg5 arg6 arg8 arg9 arg10 arg11 arg12 arg13 arg14 x4 x5 x6 (qaug i x2 x3) k)
      (fun k acc => step1 c i arg2 harg2 arg3 harg3 arg4 harg4 arg5 harg5 arg6 harg6 arg7 harg7 arg8 harg8 arg9 harg9 arg10 harg10 arg11 harg11 arg12 harg12 arg13 harg13 arg14 harg14 _ h2 _ _ _ x4 x5 x6 (qaug i x2 x3) k acc)) $$ [H4 H5 H6 H8 H9 H10 H11 H12 H13 H14]
    · unfold inv held; iexists _; iexists _
      isplitl [H4]; · iexact H4
      isplitl [H5]; · iexact H5
      isplitl [H6]; · iexact H6
      isplitl [H8]; · iexact H8
      isplitl [H9]; · iexact H9
      isplitl [H10]; · iexact H10
      isplitl [H11]; · iexact H11
      isplitl [H12]; · iexact H12
      isplitl [H13]; · iexact H13
      iexact H14
    iintro %u HI
    iapply (Scf.wp_for_bind frame (wpE defs₀ Variants.none (c : Thread nD τ) none) Set.univ _ _ _ _ _ _
      (fun _ _ => inv c arg4 arg5 arg6 arg8 arg9 arg10 arg11 arg12 arg13 arg14 x4 x5 x6 (qaug i x2 x3) (k0_t1_loop i).trips)
      (fun k _ => absurd k.isLt (Nat.not_lt.2 ((Nat.le_of_eq (trips2 i)).trans (Nat.zero_le _))))) $$ [HI]
    · iexact HI
    iintro %u' HI
    have ht := trips1 i h2
    obtain ⟨t, ht'⟩ : ∃ t, t = (k0_t1_loop i).trips := ⟨_, rfl⟩
    rw [← ht'] at ht ⊢
    unfold inv held
    icases HI with ⟨%S1, %C1, H4, H5, H6, H8, H9, H10, H11, H12, H13, H14⟩
    generalize hq : qaug i x2 x3 = q
    have hj : 2 * (i 1).val = 2 * t + 1 + 1 := by omega
    iapply (owns_load_eq (get_kAt (2 * t + 1) (by omega) _ ((off12 i h2).trans (by rw [hj]; rfl)) _ x4)) $$ H4; iintro H4
    iapply (owns_load_eq (get_kAt (2 * t + 1) (by omega) _ ((off12 i h2).trans (by rw [hj]; rfl)) _ x5)) $$ H5; iintro H5
    iapply owns_load_whole $$ H8; iintro H8
    iapply owns_load_whole $$ H12; iintro H12
    iapply (owns_store_whole_eq (pay53_eq q x4 x5 _)) $$ H12; iintro H12
    iapply owns_load_whole $$ H14; iintro H14
    iapply (owns_store_whole_eq (pay54_eq q x4 x5 _)) $$ H14; iintro H14
    iapply owns_load_whole $$ H10; iintro H10
    iapply owns_load_whole $$ H13; iintro H13
    iapply owns_load_whole $$ H11; iintro H11
    iapply (owns_load_eq (get_vAt (2 * t) (by omega) _ ((off13a i h2).trans (by rw [hj]; rfl)) _ x6)) $$ H6; iintro H6
    iapply owns_load_whole $$ H9; iintro H9
    iapply owns_load_whole $$ H9; iintro H9
    iapply (owns_store_whole_eq (w' := aT q x4 x5 x6 (2 * t + 1)) (pay58_eq _ _ _ _ _)) $$ H9; iintro H9
    iapply owns_load_whole $$ H10; iintro H10
    iapply (owns_store_whole_eq (w' := mT q x4 x5 (2 * t + 1)) (pay59_eq _ _)) $$ H10; iintro H10
    iapply (owns_load_eq (get_kAt (2 * t + 1 + 1) (by omega) _ ((k0_off14_eq i).trans (by rw [← hj, ← Nat.mul_assoc])) _ x4)) $$ H4; iintro H4
    iapply (owns_load_eq (get_kAt (2 * t + 1 + 1) (by omega) _ ((k0_off14_eq i).trans (by rw [← hj, ← Nat.mul_assoc])) _ x5)) $$ H5; iintro H5
    iapply owns_load_whole $$ H8; iintro H8
    iapply owns_load $$ H11; iintro H11
    iapply owns_store $$ H11; iintro H11
    iapply owns_load $$ H13; iintro H13
    iapply owns_store $$ H13; iintro H13
    iapply owns_load $$ H11; iintro H11
    iapply (owns_store_eq (sD_eq q x4 x5 _ _)) $$ H11; iintro H11
    iapply owns_load $$ H13; iintro H13
    iapply (owns_store_eq (Y := cD q x4 x5 (2 * t + 1 + 1)) (cD_eq q x4 x5 (2 * t + 1 + 1) (cT q x4 x5 (2 * t)))) $$ H13; iintro H13
    iapply owns_load_whole $$ H10; iintro H10
    iapply owns_load_whole $$ H14; iintro H14
    iapply owns_load_whole $$ H12; iintro H12
    iapply (owns_load_eq (get_vAt (2 * t + 1) (by omega) _ ((off13b i h2).trans (by rw [hj]; rfl)) _ x6)) $$ H6; iintro H6
    iapply owns_load_whole $$ H9; iintro H9
    iapply owns_load_whole $$ H9; iintro H9
    iapply (owns_store_whole_eq (w' := aT q x4 x5 x6 (2 * t + 1 + 1)) (pay68_eq _ _ _ _ _)) $$ H9; iintro H9
    iapply owns_load_whole $$ H10; iintro H10
    iapply (owns_store_whole_eq (w' := mT q x4 x5 (2 * t + 1 + 1)) (pay69_eq _ _)) $$ H10; iintro H10
    iapply (owns_load_eq (get_kAt (2 * t + 1 + 1 + 1) (by omega) _ ((k0_off15_eq i).trans (by rw [← hj, Nat.mul_add, ← Nat.mul_assoc])) _ x4)) $$ H4; iintro H4
    iapply (owns_load_eq (get_kAt (2 * t + 1 + 1 + 1) (by omega) _ ((k0_off15_eq i).trans (by rw [← hj, Nat.mul_add, ← Nat.mul_assoc])) _ x5)) $$ H5; iintro H5
    iapply owns_load $$ H8; iintro H8
    iapply owns_load $$ H12; iintro H12
    iapply owns_store $$ H12; iintro H12
    iapply owns_load $$ H14; iintro H14
    iapply owns_store $$ H14; iintro H14
    iapply owns_load_whole $$ H10; iintro H10
    iapply owns_load_whole $$ H13; iintro H13
    iapply owns_load_whole $$ H11; iintro H11
    iapply (owns_load_eq (get_vAt (2 * t + 1 + 1) (by omega) _ ((k0_off16_eq i).trans (by rw [hj])) _ x6)) $$ H6; iintro H6
    iapply owns_load_whole $$ H9; iintro H9
    iapply owns_load_whole $$ H9; iintro H9
    iapply (owns_store_whole_eq (w' := aD q x4 x5 x6 (2 * t + 1 + 1)) (pay77_eq _ _ _ _ _)) $$ H9; iintro H9
    iapply owns_load_whole $$ H10; iintro H10
    iapply (owns_store_whole_eq (w' := mD q x4 x5 (2 * t + 1 + 1)) (pay78_eq _ _)) $$ H10; iintro H10
    iapply owns_load $$ H10; iintro H10
    iapply (owns_load_eq (cH_eq q x4 x5 _ _)) $$ H14; iintro H14
    iapply (owns_load_eq (sH_eq q x4 x5 _ _)) $$ H12; iintro H12
    iapply (owns_load_eq (get_vAt (2 * t + 1 + 1 + 1) (by omega) _ ((k0_off17_eq i).trans (by rw [hj])) _ x6)) $$ H6; iintro H6
    iapply owns_load $$ H9; iintro H9
    iapply owns_load $$ H9; iintro H9
    iapply (owns_store_eq (aE_eq q x4 x5 _ x6)) $$ H9; iintro H9
    iapply owns_load $$ H10; iintro H10
    iapply owns_store $$ H10; iintro H10
    rw [← hj]; subst hq
    iapply (owns_load_whole) $$ H9; iintro H9
    iapply owns_load_whole $$ H7; iintro H7
    iapply (owns_store_whole_eq (w' := outB i x2 x3 x4 x5 x6) (by first | rfl | (unfold outB; rfl))) $$ H7; iintro H7
    rw [wp_ret]; imodintro
    iexists _
    iexists _
    iexists _
    iexists _
    iexists _
    iexists _
    iexists _
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end Cert.KernelIdeal.Own
-- ==== Proof.KernelIdeal.Run.lean ====
module

public import proofs.«01_k».proof.Proof.KernelIdeal.Point

/-!
The launch: the grid points of the kernel, one after another, each leaving `outB` of its blocks in the block of
results; the run of the whole program, and the frame it gives.
-/

@[expose] public section

set_option maxRecDepth 65536
set_option maxHeartbeats 4000000

noncomputable section

namespace Cert.KernelIdeal.Own

open Cert.KernelIdeal Cert.KernelIdeal.Gen Cert.Mem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What grid point `t` leaves in its block of results, from the blocks of the arrays as launched. -/
def outAt (c : Dev nD) (t : Fin cfg0.N) : Vec F S64x1024 .bf16 :=
  outB (grid0.coords t) (iblk m c 0 t) (iblk m c 1 t) (iblk m c 2 t) (iblk m c 3 t) (iblk m c 4 t)

/-- The proof data of the pipeline: the arrays as launched; every input block left in place, the results' block at
    `outAt`; the scratch buffers at anything between points; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- What a grid point starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What a grid point leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- A scratch buffer held as a buffer is held as a memory reference, -/
theorem scratch_in (c : Dev nD) (b : Ref sig .tc) (f : Buf (Elt F) ((c : Thread nD τ).loc b)) :
    (((c : Thread nD τ).loc b) ↦{fullShare} f : sProp 𝕄) ⊢ owns (c : Thread nD τ) (Memref.whole b) fullShare f := by
  rw [owns_whole_eq]
  iintro H
  iexists f
  isplitr
  · ipureintro; rfl
  iexact H

/-- and the other way round. -/
theorem scratch_out (c : Dev nD) (b : Ref sig .tc) (f : b.ty.Contents (Elt F)) :
    (owns (c : Thread nD τ) (Memref.whole b) fullShare f : sProp 𝕄)
      ⊢ iprop(∃ f : Buf (Elt F) ((c : Thread nD τ).loc b), ((c : Thread nD τ).loc b) ↦{fullShare} f) := by
  rw [owns_whole_eq]
  iintro ⟨%f, -, H⟩
  iexists f
  iexact H

/-- The body at a grid point, from what it starts from to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after_0, after_1, after_2, after_3, after_4, after_5]
  rw [show (dats m 0 c).Φ t.castSucc = Pipeline.ΦA spec0 c from rfl]
  simp only [before0_0_of m (dats m 0 c) (A_eq m c 0) (after_0 m c) t, before0_1_of m (dats m 0 c) (A_eq m c 1) (after_1 m c) t,
    before0_2_of m (dats m 0 c) (A_eq m c 2) (after_2 m c) t, before0_3_of m (dats m 0 c) (A_eq m c 3) (after_3 m c) t,
    before0_4_of m (dats m 0 c) (A_eq m c 4) (after_4 m c) t]
  unfold Pipeline.ΦA Dat.owesAt Pipeline.owesWithin
  rw [show (dats m 0 c).owed t.castSucc = 0 from rfl, show (dats m 0 c).owed t.succ = 0 from rfl, scopedRest0_eq]
  iintro ⟨⟨⟨⟨%f0, S0⟩, ⟨%f1, S1⟩, ⟨%f2, S2⟩, ⟨%f3, S3⟩, ⟨%f4, S4⟩, ⟨%f5, S5⟩, ⟨%f6, S6⟩⟩, Hg⟩, HW, ⟨%d0, H0⟩, ⟨%d1, H1⟩, ⟨%d2, H2⟩, ⟨%d3, H3⟩, ⟨%d4, H4⟩, ⟨%d5, H5⟩⟩
  iapply (wp_wand_r frame (wpE (defs₀ (F := F)) Variants.none (c : Thread nD τ) none) Set.univ)
  isplitl [S0 S1 S2 S3 S4 S5 S6 H0 H1 H2 H3 H4 H5]
  · iapply (point c (grid0.coords t) _ _ _ _ _ _ _ _ _ _ _ _ _ _ _ _ _ _ _ _ _ _ _ _ _ _ (iblk m c 0 t) (iblk m c 1 t) (iblk m c 2 t) (iblk m c 3 t) (iblk m c 4 t)
      ((dats m 0 c).before 5 t d5) f0 f1 f2 f3 f4 f5 f6)
    unfold pts
    isplitl [H0]; · iexact H0
    isplitl [H1]; · iexact H1
    isplitl [H2]; · iexact H2
    isplitl [H3]; · iexact H3
    isplitl [H4]; · iexact H4
    isplitl [H5]; · iexact H5
    isplitl [S0]; · iapply scratch_in; iexact S0
    isplitl [S1]; · iapply scratch_in; iexact S1
    isplitl [S2]; · iapply scratch_in; iexact S2
    isplitl [S3]; · iapply scratch_in; iexact S3
    isplitl [S4]; · iapply scratch_in; iexact S4
    isplitl [S5]; · iapply scratch_in; iexact S5
    iapply scratch_in; iexact S6
  iintro %_u ⟨%y0, %y1, %y2, %y3, %y4, %y5, %y6, HP⟩
  unfold pts
  icases HP with ⟨H0, H1, H2, H3, H4, H5, S0, S1, S2, S3, S4, S5, S6⟩
  isplitl [Hg S0 S1 S2 S3 S4 S5 S6]
  · isplitl [S0 S1 S2 S3 S4 S5 S6]
    · isplitl [S0]; · iapply scratch_out $$ S0
      isplitl [S1]; · iapply scratch_out $$ S1
      isplitl [S2]; · iapply scratch_out $$ S2
      isplitl [S3]; · iapply scratch_out $$ S3
      isplitl [S4]; · iapply scratch_out $$ S4
      isplitl [S5]; · iapply scratch_out $$ S5
      iapply scratch_out $$ S6
    iexact Hg
  isplitl [HW]; · iexact HW
  isplitl [H0]; · iexact H0
  isplitl [H1]; · iexact H1
  isplitl [H2]; · iexact H2
  isplitl [H3]; · iexact H3
  isplitl [H4]; · iexact H4
  iexact H5

/-- The body the pipeline calls at a grid point is the kernel on its buffers. -/
theorem defs₀_row (t : Fin cfg0.N) :
    defs₀ (F := F) .tc cfg0.body (cfg0.bodyArgs t (cfg0.slots t)) = bodyAt0 t := by
  unfold defs₀; rw [Defs.onTc_tc]

/-- The obligation the launch asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: it ends, every array at what the proof data say, every semaphore at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The contents of the results after the run. -/
def final (c : Dev nD) : Buf (Elt F) ((c : Thread nD τ).loc main_v0) := (dats m 0 c).arrAt 5 cfg0.N

/-- The run: it ends with the arguments as launched, the results at `final`, every semaphore at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v0) = final m c)
      ∧ r.2.sem = fun _ => 0) :=
  (θ_run defs _ _).mono (fun _ h => ⟨fun c => ⟨⟨
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c)))⟩,
      (h.1 c).1 5⟩, h.2⟩) (run_main m ρ)

/-- The frame: the run ends with the arguments as launched and every semaphore at zero. -/
theorem frame' : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).1, h.2⟩) (run m ρ)

end Cert.KernelIdeal.Own

end
-- ==== Proof.Frames.lean ====
module

public import proofs.«01_k».proof.Defs
public import proofs.«01_k».proof.Proof.Kernel.Run
public import proofs.«01_k».proof.Proof.KernelIdeal.Run
public import proofs.«01_k».proof.Proof.Gen.ReferenceIdeal.Run
public import Idealize.ShloMosaic.Adequacy
public import Idealize.ShloMosaic.Init

/-!
The claims that say nothing of the results' values: the three programs run, leave their arguments as they were and every
semaphore at zero; and the one constant given a name.
-/

@[expose] public section

noncomputable section

namespace Cert.Proof

open Idealize.ShloMosaic Idealize.SL.Sem Cert.Kernel

/-- The kernel runs, with the machine's floats. -/
theorem frame_kernel : Cert.quiescent_Kernel := fun m ρ _ => Cert.Kernel.Own.frame' m ρ

/-- The kernel runs, with extended reals. -/
theorem frame_kernelIdeal : Cert.quiescent_KernelIdeal := fun m ρ _ => Cert.KernelIdeal.Own.frame' m ρ

/-- The reference runs, with extended reals. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The constant `mask` stands for −∞. -/
theorem preserves : Cert.preserves_Kernel_KernelIdeal :=
  IdealRules.named_const.statement Cert.KernelIdeal.κ "mask" .f32 0xF149F2CA#32 ⊥ rfl

end Cert.Proof

end
-- ==== Proof.Softmax.lean ====
module

public import Idealize.ShloMosaic.PureOps.Ideal

/-!
Softmax-weighted sums over the extended reals, taken a tile at a time: the running maximum, the running
weighted sum and how both go on by a tile, and the division at the end.
-/

@[expose] public section

noncomputable section

namespace Cert.Softmax

open Idealize.ShloMosaic Finset

/-! ### The exponential -/

theorem exp_bot : Ideal.exp ⊥ = 0 := rfl
theorem exp_coe (r : ℝ) : Ideal.exp (r : EReal) = (Real.exp r : EReal) := rfl

theorem bot_sub (x : EReal) : (⊥ : EReal) - x = ⊥ := by rw [sub_eq_add_neg, EReal.bot_add]

theorem sub_top (x : EReal) : x - ⊤ = ⊥ := by rw [sub_eq_add_neg, EReal.neg_top, EReal.add_bot]

theorem exp_nonneg (x : EReal) : 0 ≤ Ideal.exp x := by
  induction x with
  | bot => exact le_rfl
  | top => exact le_top
  | coe r => rw [exp_coe]; exact_mod_cast (Real.exp_pos r).le

/-- Below the maximum the exponential is a number. -/
theorem exp_sub_ne_top {z M : EReal} (h : z ≤ M) : Ideal.exp (z - M) ≠ ⊤ := by
  induction M with
  | top => rw [sub_top]; exact EReal.zero_ne_top
  | bot => rw [le_bot_iff.1 h, bot_sub]; exact EReal.zero_ne_top
  | coe y => induction z with
    | top => exact absurd (top_le_iff.1 h) (EReal.coe_ne_top y)
    | bot => rw [bot_sub]; exact EReal.zero_ne_top
    | coe x => rw [← EReal.coe_sub, exp_coe]; exact EReal.coe_ne_top _

/-- Rescaling from one maximum to a later one. -/
theorem exp_mul_exp {z M N : EReal} (h : z ≤ M) (h' : M ≤ N) : Ideal.exp (M - N) * Ideal.exp (z - M) = Ideal.exp (z - N) := by
  induction N with
  | top => rw [sub_top, sub_top, exp_bot, zero_mul]
  | bot => rw [le_bot_iff.1 h', bot_sub, exp_bot, zero_mul, le_bot_iff.1 (h.trans h'), bot_sub, exp_bot]
  | coe y => induction M with
    | top => exact absurd (top_le_iff.1 h') (EReal.coe_ne_top y)
    | bot => rw [le_bot_iff.1 h, bot_sub, exp_bot, zero_mul]
    | coe x => induction z with
      | top => exact absurd (top_le_iff.1 h) (EReal.coe_ne_top x)
      | bot => rw [bot_sub, bot_sub, exp_bot, mul_zero]
      | coe w =>
        rw [← EReal.coe_sub, ← EReal.coe_sub, ← EReal.coe_sub, exp_coe, exp_coe, exp_coe, ← EReal.coe_mul, ← Real.exp_add]
        congr 2; ring

/-- A sum of numbers is a number. -/
theorem coe_sum {ι : Type} (S : Finset ι) (f : ι → ℝ) : ∑ s ∈ S, (f s : EReal) = ((∑ s ∈ S, f s : ℝ) : EReal) := by
  classical
  induction S using Finset.induction_on with
  | empty => simp
  | insert s S hs ih => rw [sum_insert hs, sum_insert hs, EReal.coe_add, ih]

/-- A number that is not negative multiplies a sum term by term. -/
theorem mul_sum' {ι : Type} (S : Finset ι) (f : ι → EReal) {a : EReal} (h0 : 0 ≤ a) (h1 : a ≠ ⊤) :
    a * ∑ s ∈ S, f s = ∑ s ∈ S, a * f s := by
  classical
  induction S using Finset.induction_on with
  | empty => simp
  | insert s S hs ih => rw [sum_insert hs, sum_insert hs, EReal.left_distrib_of_nonneg_of_ne_top h0 h1, ih]

/-! ### The running maximum and the running sum -/

variable (z v : ℕ → EReal)

/-- The greatest of the first `n` scores. -/
def peak (n : ℕ) : EReal := (range n).sup z

/-- The values of the first `n` keys, weighted by the exponentials of their scores, relative to the greatest. -/
def wsum (n : ℕ) : EReal := ∑ s ∈ range n, v s * Ideal.exp (z s - peak z n)

theorem peak_zero : peak z 0 = ⊥ := rfl
theorem wsum_zero : wsum z v 0 = 0 := rfl

theorem le_peak {n s : ℕ} (h : s < n) : z s ≤ peak z n := le_sup (f := z) (mem_range.2 h)

theorem fold_eq_sup {b : ℕ} (f : Fin b → EReal) : Finset.fold max ⊥ f univ = univ.sup f := rfl

/-- The maximum of a tile. -/
def tileMax (n b : ℕ) : EReal := Finset.fold max ⊥ (fun k : Fin b => z (n + k.val)) univ

theorem peak_add (n b : ℕ) : peak z (n + b) = max (peak z n) (tileMax z n b) := by
  unfold tileMax
  rw [fold_eq_sup]
  apply le_antisymm
  · refine Finset.sup_le fun s hs => ?_
    rcases lt_or_ge s n with h | h
    · exact (le_peak z h).trans (le_max_left _ _)
    · refine le_trans ?_ (le_max_right _ _)
      have hb : s - n < b := by have := mem_range.1 hs; omega
      have := le_sup (f := fun k : Fin b => z (n + k.val)) (mem_univ ⟨s - n, hb⟩)
      simpa [Nat.add_sub_cancel' h] using this
  · refine max_le (Finset.sup_le fun s hs => le_peak z ?_) (Finset.sup_le fun k _ => le_peak z ?_)
    · have := mem_range.1 hs; omega
    · have := k.isLt; omega

theorem peak_mono (n b : ℕ) : peak z n ≤ peak z (n + b) := by rw [peak_add]; exact le_max_left _ _

theorem wsum_add (n b : ℕ) : wsum z v (n + b)
    = Ideal.exp (peak z n - peak z (n + b)) * wsum z v n + ∑ k : Fin b, v (n + k.val) * Ideal.exp (z (n + k.val) - peak z (n + b)) := by
  unfold wsum
  rw [sum_range_add, mul_sum' _ _ (exp_nonneg _) (exp_sub_ne_top (peak_mono z n b))]
  congr 1
  · refine sum_congr rfl fun s hs => ?_
    rw [mul_left_comm, exp_mul_exp (le_peak z (mem_range.1 hs)) (peak_mono z n b)]
  · exact (Finset.sum_range fun k => v (n + k) * Ideal.exp (z (n + k) - peak z (n + b)))

/-! ### Keys that are masked away -/

theorem peak_eq_of_bot {n N : ℕ} (h : n ≤ N) (hz : ∀ s, n ≤ s → z s = ⊥) : peak z N = peak z n := by
  apply le_antisymm
  · refine Finset.sup_le fun s _ => ?_
    rcases lt_or_ge s n with h' | h'
    · exact le_peak z h'
    · rw [hz s h']; exact bot_le
  · exact Finset.sup_le fun s hs => le_peak z ((mem_range.1 hs).trans_le h)

theorem wsum_eq_of_bot {n N : ℕ} (h : n ≤ N) (hz : ∀ s, n ≤ s → z s = ⊥) : wsum z v N = wsum z v n := by
  unfold wsum
  rw [peak_eq_of_bot z h hz]
  refine (sum_subset (range_subset_range.2 h) fun s _ hs => ?_).symm
  rw [hz s (by rw [mem_range] at hs; omega), bot_sub, exp_bot, mul_zero]

/-! ### The division -/

/-- The sum of the exponentials is a positive number where the greatest score is a number. -/
theorem wsum_one_pos {n : ℕ} (h0 : peak z n ≠ ⊥) (h1 : peak z n ≠ ⊤) :
    ∃ l : ℝ, 0 < l ∧ wsum z (fun _ => 1) n = (l : EReal) := by
  have hx : ∀ s ∈ range n, ∃ x : ℝ, 0 ≤ x ∧ Ideal.exp (z s - peak z n) = (x : EReal) := fun s hs => by
    refine ⟨(Ideal.exp (z s - peak z n)).toReal, EReal.toReal_nonneg (exp_nonneg _), (EReal.coe_toReal (exp_sub_ne_top (le_peak z (mem_range.1 hs))) ?_).symm⟩
    exact (lt_of_lt_of_le EReal.bot_lt_zero (exp_nonneg _)).ne'
  choose! x hx0 hx using hx
  have hs : ∃ s ∈ range n, z s ≠ ⊥ := by
    by_contra h; push Not at h
    exact h0 ((Finset.sup_eq_bot_iff _ _).2 h)
  obtain ⟨s, hs, hzs⟩ := hs
  have pos : 0 < x s := by
    have hle := le_peak z (mem_range.1 hs)
    have e := hx s hs
    lift peak z n to ℝ using ⟨h1, h0⟩ with p
    lift z s to ℝ using ⟨fun ht => by rw [ht] at hle; exact absurd (top_le_iff.1 hle) (EReal.coe_ne_top _), hzs⟩ with w
    rw [← EReal.coe_sub, exp_coe] at e
    rw [← EReal.coe_eq_coe_iff.1 e]; exact Real.exp_pos _
  refine ⟨∑ s ∈ range n, x s, sum_pos' hx0 ⟨s, hs, pos⟩, ?_⟩
  unfold wsum
  exact (sum_congr rfl fun s hs => (one_mul _).trans (hx s hs)).trans (coe_sum _ x)

/-- Dividing the weighted sum is dividing the weights. -/
theorem div_wsum {n : ℕ} (h0 : peak z n ≠ ⊥) (h1 : peak z n ≠ ⊤) :
    Ideal.div (wsum z v n) (wsum z (fun _ => 1) n)
      = ∑ s ∈ range n, v s * Ideal.div (Ideal.exp (z s - peak z n)) (wsum z (fun _ => 1) n) := by
  obtain ⟨l, hl, e⟩ := wsum_one_pos z h0 h1
  rw [e]
  have hne : (l : EReal) ≠ 0 := by exact_mod_cast hl.ne'
  have hinv : (l : EReal)⁻¹ = ((l⁻¹ : ℝ) : EReal) := (EReal.coe_inv l).symm
  unfold Ideal.div
  simp only [if_neg hne, hinv]
  rw [mul_comm]
  conv_lhs => unfold wsum
  rw [mul_sum' _ _ (by exact_mod_cast (inv_pos.2 hl).le) (EReal.coe_ne_top _)]
  refine sum_congr rfl fun s _ => ?_
  rw [mul_comm, mul_assoc]

end Cert.Softmax
-- ==== Proof.Attention.lean ====
module

public import proofs.«01_k».proof.Proof.Softmax
public import Idealize.ShloMosaic.Lib.Pointwise
public import Idealize.ShloMosaic.Lib.WordCmp

/-!
The forgetting attention of eight heads over 16384 positions, element by element: the logit of a query and a key,
the score (the logit, or `⊥` where the key follows the query), and the result.
-/

@[expose] public section

noncomputable section

namespace Cert.Attention

open Idealize.ShloMosaic Idealize.ShloMosaic.WordCmp Cert.Softmax

abbrev Queries : Type := (⟨2, ![512, 16384]⟩ : Shape).Idx → EReal
abbrev Gates : Type := (⟨2, ![32, 16384]⟩ : Shape).Idx → EReal
abbrev Keys : Type := (⟨2, ![16384, 512]⟩ : Shape).Idx → EReal
abbrev KeyGates : Type := (⟨2, ![16384, 128]⟩ : Shape).Idx → EReal
abbrev Values : Type := (⟨3, ![32, 512, 512]⟩ : Shape).Idx → EReal

variable (q : Queries) (c : Gates) (k : Keys) (g : KeyGates) (v : Values)

/-- The row of head `h`'s dimension `d`. -/
def lane (h : Fin 8) (d : Fin 64) : Fin 512 := ⟨h.val * 64 + d.val, by omega⟩

/-- The logit of query `T` and key `s` in head `h`: the product of the two, and the gates' difference, whose parts are
    three for the query and three, negated, for the key. -/
def logit (h : Fin 8) (T s : Fin 16384) : EReal :=
  (∑ d : Fin 64, q (ix2 (lane h d) T) * k (ix2 s (lane h d)))
    + ((∑ r : Fin 3, c (ix2 ⟨r.val * 8 + h.val, by omega⟩ T)) + ∑ r : Fin 3, g (ix2 s ⟨r.val * 8 + h.val, by omega⟩))

/-- The score: the logit, or `⊥` where the key follows the query. -/
def score (h : Fin 8) (T : Fin 16384) (s : ℕ) : EReal :=
  if H : s ≤ T.val then logit q c k g h T ⟨s, by omega⟩ else ⊥

/-- The value of key `s` in row `R`. -/
def val (R : Fin 512) (s : ℕ) : EReal :=
  if H : s < 16384 then v (ix3 ⟨s / 512, by omega⟩ R ⟨s % 512, by omega⟩) else 0

/-- The head of a row. -/
def head (R : Fin 512) : Fin 8 := ⟨R.val / 64, by omega⟩

/-- The key gates' three columns of ones, by which a query's gate is added. -/
def Ones : Prop := ∀ (s : Fin 16384) (r : Fin 3), g (ix2 s ⟨24 + r.val, by omega⟩) = 1

/-- The result: the weighted sum of the values over the sum of the weights. -/
def out (R : Fin 512) (T : Fin 16384) : EReal :=
  Ideal.div (wsum (score q c k g (head R) T) (val v R) 16384) (wsum (score q c k g (head R) T) (fun _ => 1) 16384)

/-! ### Words -/

theorem select_le {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [cmpi_sle_eq, toInt_ofNat_of_lt ha, toInt_ofNat_of_lt hb, Scalar.select_def]
  simp only [Int.ofNat_le, ofBool_eq_one_iff', decide_eq_true_eq]

theorem select_eq {α : Type} {a b : ℕ} (ha : a < 2 ^ 32) (hb : b < 2 ^ 32) (x y : α) :
    Scalar.select (IntOp.cmpi .eq (BitVec.ofNat 32 a) (BitVec.ofNat 32 b)) x y = if a = b then x else y := by
  rw [Scalar.select_def]
  simp only [IntOp.cmpi, ofBool_eq_one_iff', beq_iff_eq, ofNat_eq_ofNat_iff ha hb]

theorem neg_inf : Ideal.ofBits .f32 0xFF800000#32 = ⊥ := by
  simp [Ideal.ofBits, Ideal.ieee]

/-- The maximum over all keys. -/
theorem fold_peak (z : ℕ → EReal) : Finset.fold max ⊥ (fun s : Fin 16384 => z s.val) Finset.univ = peak z 16384 := by
  have e := peak_add z 0 16384
  rw [peak_zero, max_eq_right bot_le, Nat.zero_add] at e
  rw [e]; unfold tileMax; simp only [Nat.zero_add]

/-- Where the scores of a query have a number for a maximum, the result is the sum of the values by the normalised weights. -/
theorem out_eq (R : Fin 512) (T : Fin 16384) (h0 : peak (score q c k g (head R) T) 16384 ≠ ⊥) (h1 : peak (score q c k g (head R) T) 16384 ≠ ⊤) :
    out q c k g v R T = ∑ s : Fin 16384, v (ix3 ⟨s.val / 512, by omega⟩ R ⟨s.val % 512, by omega⟩)
      * Ideal.div (Ideal.exp (score q c k g (head R) T s.val - peak (score q c k g (head R) T) 16384))
        (∑ u : Fin 16384, Ideal.exp (score q c k g (head R) T u.val - peak (score q c k g (head R) T) 16384)) := by
  unfold out
  rw [div_wsum _ _ h0 h1, Finset.sum_range]
  refine Finset.sum_congr rfl fun s _ => ?_
  unfold val wsum
  rw [dif_pos s.isLt, Finset.sum_range]
  simp only [one_mul]

/-- A score that is not masked away is a number where its parts are. -/
theorem peak_ne (h : Fin 8) (T : Fin 16384) (hl : ∀ s, logit q c k g h T s ≠ ⊥ ∧ logit q c k g h T s ≠ ⊤) :
    peak (score q c k g h T) 16384 ≠ ⊥ ∧ peak (score q c k g h T) 16384 ≠ ⊤ := by
  constructor
  · intro e
    have := le_peak (score q c k g h T) T.isLt
    rw [e, le_bot_iff] at this
    unfold score at this
    rw [dif_pos le_rfl] at this
    exact (hl _).1 this
  · intro e
    have h : peak (score q c k g h T) 16384 < ⊤ := by
      refine (Finset.sup_lt_iff (by exact bot_lt_top)).2 fun s _ => ?_
      unfold score
      split
      · exact lt_top_iff_ne_top.2 (hl _).2
      · exact bot_lt_top
    exact h.ne e

theorem logit_ne (h : Fin 8) (T s : Fin 16384) (hq : ∀ i, ∃ x : ℝ, q i = x) (hc : ∀ (r : Fin 32), r.val < 24 → ∃ x : ℝ, c (ix2 r T) = x)
    (hk : ∀ i, ∃ x : ℝ, k i = x) (hg : ∀ (r : Fin 128), r.val < 24 → ∃ x : ℝ, g (ix2 s r) = x) :
    logit q c k g h T s ≠ ⊥ ∧ logit q c k g h T s ≠ ⊤ := by
  have sum : ∀ {n : ℕ} (f : Fin n → EReal), (∀ i, ∃ x : ℝ, f i = x) → ∃ x : ℝ, ∑ i, f i = x := fun f hf => by
    choose x hx using hf
    exact ⟨∑ i, x i, (Finset.sum_congr rfl fun i _ => hx i).trans (coe_sum _ x)⟩
  obtain ⟨a, ha⟩ := sum (fun d : Fin 64 => q (ix2 (lane h d) T) * k (ix2 s (lane h d))) fun d => by
    obtain ⟨x, hx⟩ := hq (ix2 (lane h d) T)
    obtain ⟨y, hy⟩ := hk (ix2 s (lane h d))
    exact ⟨x * y, by rw [hx, hy, EReal.coe_mul]⟩
  obtain ⟨b, hb⟩ := sum (fun r : Fin 3 => c (ix2 ⟨r.val * 8 + h.val, by omega⟩ T)) fun r => hc _ (by show r.val * 8 + h.val < 24; omega)
  obtain ⟨d, hd⟩ := sum (fun r : Fin 3 => g (ix2 s ⟨r.val * 8 + h.val, by omega⟩)) fun r => hg _ (by show r.val * 8 + h.val < 24; omega)
  unfold logit
  rw [ha, hb, hd, ← EReal.coe_add, ← EReal.coe_add]
  exact ⟨EReal.coe_ne_bot _, EReal.coe_ne_top _⟩

end Cert.Attention
-- ==== Proof.Pre.lean ====
module

public import proofs.«01_k».proof.Defs
public import proofs.«01_k».proof.Proof.Gen.Pre_finite_with_ones
public import proofs.«01_k».proof.Proof.Attention
public import Idealize.ShloMosaic.Lib.ReduceAll

/-!
What the precondition says, element by element: the queries, the query gates' 24 rows, the keys and the key gates' first 24
columns are numbers, and the key gates' columns 24, 25 and 26 are ones.
-/

@[expose] public section

noncomputable section

namespace Cert.Pre_finite_with_ones.Own

open Cert.Pre_finite_with_ones Cert.Pre_finite_with_ones.Facts
open Idealize.ShloMosaic Cert.Attention

theorem pos_inf : Ideal.ofBits .f32 0x7F800000#32 = ⊤ := by
  simp [Ideal.ofBits, Ideal.ieee]

theorem one_bits : Ideal.ofBits .f32 0x3F800000#32 = 1 := by
  simp [Ideal.ofBits, Ideal.ieee]
  rw [← EReal.coe_mul]
  norm_num

/-- An extended real whose absolute value is less than `⊤` is a number. -/
theorem real_of_abs (x : EReal) (h : max x (-x) < ⊤) : ∃ r : ℝ, x = r := by
  induction x using EReal.rec with
  | bot => simp at h
  | top => simp at h
  | coe r => exact ⟨r, rfl⟩

theorem and_one {s : Shape} (x y : IVec s 1) (h : andi x y = fun _ => 1#1) : (x = fun _ => 1#1) ∧ y = fun _ => 1#1 := by
  have e : ∀ a b : BitVec 1, a &&& b = 1#1 → a = 1#1 ∧ b = 1#1 := by decide
  exact ⟨funext fun i => (e _ _ (congrFun h i)).1, funext fun i => (e _ _ (congrFun h i)).2⟩

theorem of_bit : ∀ b : Bool, BitVec.ofBool b = 1#1 → b = true := by decide

/-- What an array compared with infinity says of an element. -/
theorem real_at {s : Shape} (x : FVec Ideal s .f32) (hb : S_.BroadcastsInDim s (![] : Fin 0 → Fin s.rank)) (i : s.Idx)
    (e : cmpf .olt (Host.absf x) (broadcastInDim s ![] hb (constant S_ .f32 0x7F800000#32)) i = 1#1) : ∃ r : ℝ, (x i : EReal) = r := by
  have e' : BitVec.ofBool (decide (max (x i : EReal) (-(x i : EReal)) < Ideal.ofBits .f32 0x7F800000#32)) = 1#1 := e
  rw [pos_inf] at e'
  have e' := of_decide_eq_true (of_bit _ e')
  exact real_of_abs _ e'

/-- What an array compared with one says of an element. -/
theorem one_at {s : Shape} (x : FVec Ideal s .f32) (hb : S_.BroadcastsInDim s (![] : Fin 0 → Fin s.rank)) (i : s.Idx)
    (e : cmpf .oeq x (broadcastInDim s ![] hb (constant S_ .f32 0x3F800000#32)) i = 1#1) : (x i : EReal) = 1 := by
  have e' : BitVec.ofBool (decide ((x i : EReal) = Ideal.ofBits .f32 0x3F800000#32)) = 1#1 := e
  rw [one_bits] at e'
  exact of_decide_eq_true (of_bit _ e')

variable (q : FVec Ideal S512x16384 .bf16) (c : FVec Ideal S32x16384 .f32) (k : FVec Ideal S16384x512 .bf16) (g : FVec Ideal S16384x128 .bf16)
  (v : FVec Ideal S32x512x512 .bf16)

theorem says_all (h : fn (F := Ideal) q c k g v = fun _ => 1#1) :
    (∀ i, ∃ x : ℝ, (q i : EReal) = x) ∧ (∀ (r : Fin 32) (T : Fin 16384), r.val < 24 → ∃ x : ℝ, (c (ix2 r T) : EReal) = x)
    ∧ (∀ i, ∃ x : ℝ, (k i : EReal) = x) ∧ (∀ (s : Fin 16384) (r : Fin 128), r.val < 24 → ∃ x : ℝ, (g (ix2 s r) : EReal) = x)
    ∧ Ones g := by
  unfold fn fn_part1 at h
  dsimp only at h
  obtain ⟨h, h4⟩ := and_one _ _ h
  obtain ⟨h, h3⟩ := and_one _ _ h
  obtain ⟨h, h2⟩ := and_one _ _ h
  obtain ⟨h0, h1⟩ := and_one _ _ h
  have a0 := fun i => real_at _ _ i (Host.reduce_andi_all _ _ _ _ _ (congrFun h0 ix0) i)
  have a1 := fun i => real_at _ _ i (Host.reduce_andi_all _ _ _ _ _ (congrFun h1 ix0) i)
  have a2 := fun i => real_at _ _ i (Host.reduce_andi_all _ _ _ _ _ (congrFun h2 ix0) i)
  have a3 := fun i => real_at _ _ i (Host.reduce_andi_all _ _ _ _ _ (congrFun h3 ix0) i)
  have a4 := fun i => one_at _ _ i (Host.reduce_andi_all _ _ _ _ _ (congrFun h4 ix0) i)
  clear h0 h1 h2 h3 h4
  refine ⟨a0, fun r T hr => ?_, a2, fun s r hr => ?_, fun s r => ?_⟩
  · have e := a1 (ix2 ⟨r.val, hr⟩ T)
    pointwise at e
    exact e
  · have e := a3 (ix2 s ⟨r.val, hr⟩)
    pointwise at e
    exact e
  · have e := a4 (ix2 s r)
    pointwise at e
    exact e

end Cert.Pre_finite_with_ones.Own
-- ==== Proof.Reference.lean ====
module

public import proofs.«01_k».proof.Proof.Gen.ReferenceIdeal.Run
public import proofs.«01_k».proof.Proof.Attention

/-!
The reference's result, element by element: the forgetting attention of `Attention.lean`. The reference's term is
taken in pieces: the logits, the scores, their maxima, the exponentials, the weights and the weighted sums.
-/

@[expose] public section

set_option maxRecDepth 16384

noncomputable section

namespace Cert.ReferenceIdeal.Own

open Cert.ReferenceIdeal Cert.ReferenceIdeal.Gen Cert.ReferenceIdeal.Value Cert.Attention Cert.Softmax
open Idealize.ShloMosaic Idealize.ShloMosaic.TcCoe

variable (q : FVec Ideal S512x16384 .bf16) (c : FVec Ideal S32x16384 .f32) (k : FVec Ideal S16384x512 .bf16)
  (g : FVec Ideal S16384x128 .bf16) (v : FVec Ideal S32x512x512 .bf16) (z : FVec Ideal S8x16384x16384 .f32)

/-- The logits of all queries and keys. -/
def lg : FVec Ideal S8x16384x16384 .f32 :=
  addf (Host.dotGeneral dot_S16384x8x64_S16384x8x64_S8x16384x16384_2_2_0_0_1_1 none (shapeCast S16384x8x64 (transpose S16384x512 [1, 0] (extf .f32 q bitsLt_bf16_f32) transposes_S512x16384_S16384x512_1_0) shapeCasts_S16384x512_S16384x8x64) (shapeCast S16384x8x64 (extf .f32 k bitsLt_bf16_f32) shapeCasts_S16384x512_S16384x8x64)) (subf (broadcastInDim S8x16384x16384 ![0, 1, 2] bcast_S8x16384x1_S8x16384x16384_0_1_2 (broadcastInDim S8x16384x1 ![0, 1] bcast_S8x16384_S8x16384x1_0_1 (Host.reduceAdd (shapeCast S3x8x16384 (extractStridedSlice S24x16384 ![0, 0] c slices_S32x16384_S24x16384_0_0) shapeCasts_S24x16384_S3x8x16384) (constant S_ .f32 0x00000000#32) reducesTo_S3x8x16384_S8x16384_d0 h_S_))) (broadcastInDim S8x16384x16384 ![0, 1, 2] bcast_S8x1x16384_S8x16384x16384_0_1_2 (broadcastInDim S8x1x16384 ![0, 2] bcast_S8x16384_S8x1x16384_0_2 (Host.negf (transpose S8x16384 [1, 0] (Host.reduceAdd (shapeCast S16384x3x8 (extf .f32 (extractStridedSlice S16384x24 ![0, 0] g slices_S16384x128_S16384x24_0_0) bitsLt_bf16_f32) shapeCasts_S16384x24_S16384x3x8) (constant S_ .f32 0x00000000#32) reducesTo_S16384x3x8_S16384x8_d1 h_S_) transposes_S16384x8_S8x16384_1_0)))))

/-- The scores: the logits where the key does not follow the query. -/
def sc : FVec Ideal S8x16384x16384 .f32 :=
  select (broadcastInDim S8x16384x16384 ![1, 2] bcast_S16384x16384_S8x16384x16384_1_2 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))) (lg q c k g) (broadcastInDim S8x16384x16384 ![] bcast_S_S8x16384x16384 (id (constant S_ .f32 0xFF800000#32)))

/-- Each query's greatest score. -/
def mx : FVec Ideal S8x16384 .f32 :=
  maximumf (broadcastInDim S8x16384 ![] bcast_S_S8x16384 (constant S_ .f32 0xFF800000#32)) (Host.reduce FloatOps.maximumf z (constant S_ .f32 0xFF800000#32) reducesTo_S8x16384x16384_S8x16384_d2 h_S_)

/-- The exponentials of the scores, relative to the greatest. -/
def ex : FVec Ideal S8x16384x16384 .f32 :=
  Host.exp (subf z (broadcastInDim S8x16384x16384 ![0, 1, 2] bcast_S8x16384x1_S8x16384x16384_0_1_2 (broadcastInDim S8x16384x1 ![0, 1] bcast_S8x16384_S8x16384x1_0_1 (mx z))))

/-- The weights. -/
def pr : FVec Ideal S8x16384x16384 .f32 :=
  Host.divf (ex z) (broadcastInDim S8x16384x16384 ![0, 1, 2] bcast_S8x16384x1_S8x16384x16384_0_1_2 (broadcastInDim S8x16384x1 ![0, 1] bcast_S8x16384_S8x16384x1_0_1 (Host.reduceAdd (ex z) (constant S_ .f32 0x00000000#32) reducesTo_S8x16384x16384_S8x16384_d2 h_S_)))

/-- The weighted sums of the values. -/
def rs : FVec Ideal S512x16384 .bf16 :=
  truncf .bf16 (transpose S512x16384 [1, 0] (shapeCast S16384x512 (transpose S16384x8x64 [2, 0, 1] (Host.dotGeneral dot_S16384x8x64_S8x16384x16384_S8x64x16384_0_2_2_1_1_0 none (shapeCast S16384x8x64 (transpose S32x512x512 [0, 2, 1] (extf .f32 v bitsLt_bf16_f32) transposes_S32x512x512_S32x512x512_0_2_1) shapeCasts_S32x512x512_S16384x8x64) (pr z)) transposes_S8x64x16384_S16384x8x64_2_0_1) shapeCasts_S16384x8x64_S16384x512) transposes_S16384x512_S512x16384_1_0) bitsLt_bf16_f32

theorem lg_at (h : Fin 8) (T s : Fin 16384) : lg q c k g (ix3 h T s) = logit q c k g h T s := by
  have e : ∀ a b x : EReal, a + (b - -x) = a + (b + x) := fun a b x => by rw [sub_eq_add_neg, neg_neg]
  unfold lg
  pointwise
  unfold logit lane
  exact e _ _ _

theorem sc_at (h : Fin 8) (T s : Fin 16384) : sc q c k g (ix3 h T s) = score q c k g h T s.val := by
  unfold sc
  pointwise
  rw [select_le (by omega) (by omega), lg_at]
  unfold score
  simp only [id, constant_apply, Fin.eta]
  exact if_congr Iff.rfl rfl neg_inf

/-- A maximum along the last of three axes, of any sizes. -/
theorem reduce_max {a b n : ℕ} (x : FVec Ideal ⟨3, ![a, b, n]⟩ .f32) (h : (⟨3, ![a, b, n]⟩ : Shape).ReducesTo [2] ⟨2, ![a, b]⟩)
    (hu : 0 < S_.numel) (i : Fin a) (j : Fin b) :
    Host.reduce FloatOps.maximumf x (constant (F := Ideal) S_ .f32 0xFF800000#32) h hu (ix2 i j)
      = Finset.fold max ⊥ (fun s : Fin n => x (ix3 i j s)) Finset.univ := by
  rw [Host.reduce_eq_fold, Shape.ReducesTo.fold_fiber_r3_a2]
  exact congrArg (fun e => Finset.fold max e (fun s : Fin n => x (ix3 i j s)) Finset.univ) neg_inf

theorem mx_at (h : Fin 8) (T : Fin 16384) : mx z (ix2 h T) = Finset.fold max ⊥ (fun s : Fin 16384 => z (ix3 h T s)) Finset.univ := by
  have e : ∀ y : FVec Ideal S8x16384 .f32, maximumf (broadcastInDim S8x16384 ![] bcast_S_S8x16384 (constant S_ .f32 0xFF800000#32)) y (ix2 h T) = y (ix2 h T) :=
    fun y => (congrArg (fun b => max b (y (ix2 h T))) neg_inf).trans (max_eq_right bot_le)
  exact (e _).trans (reduce_max z reducesTo_S8x16384x16384_S8x16384_d2 h_S_ h T)

theorem ex_at (h : Fin 8) (T s : Fin 16384) : ex z (ix3 h T s) = Ideal.exp (z (ix3 h T s) - mx z (ix2 h T)) := by
  unfold ex
  pointwise

theorem pr_at (h : Fin 8) (T s : Fin 16384) : pr z (ix3 h T s) = Ideal.div (ex z (ix3 h T s)) (∑ u : Fin 16384, ex z (ix3 h T u)) := by
  unfold pr
  pointwise

theorem rs_at (R : Fin 512) (T : Fin 16384) : rs v z (ix2 R T)
    = ∑ s : Fin 16384, v (ix3 ⟨s.val / 512, by omega⟩ R ⟨s.val % 512, by omega⟩) * pr z (ix3 (head R) T s) := by
  unfold rs
  pointwise
  rfl

theorem res_eq (m : (ℓ : Loc nD τ sig) → Buf (Elt Ideal) ℓ) (d : Dev nD) : res_main_v46 m d
    = rs (m ((d.tc : Thread nD τ).loc main_arg4)) (sc (m ((d.tc : Thread nD τ).loc main_arg0)) (m ((d.tc : Thread nD τ).loc main_arg1))
      (m ((d.tc : Thread nD τ).loc main_arg2)) (m ((d.tc : Thread nD τ).loc main_arg3))) := rfl

/-- The reference's result, where each query's scores have a number for a maximum. -/
theorem rs_sc (R : Fin 512) (T : Fin 16384)
    (h0 : peak (score q c k g (head R) T) 16384 ≠ ⊥) (h1 : peak (score q c k g (head R) T) 16384 ≠ ⊤) :
    rs v (sc q c k g) (ix2 R T) = out q c k g v R T := by
  rw [out_eq _ _ _ _ _ _ _ h0 h1, rs_at]
  simp only [pr_at, ex_at, mx_at, sc_at, fold_peak]

end Cert.ReferenceIdeal.Own
-- ==== Proof.KernelIdeal.Windows.lean ====
module

public import proofs.«01_k».proof.Proof.KernelIdeal.Run
public import Idealize.ShloMosaic.Lib.Pointwise
public import Idealize.ShloMosaic.Lib.Pipeline.ValueKit

/-!
The blocks of a grid point, element by element: which element of the arguments each is.
-/

@[expose] public section

set_option maxRecDepth 16384

noncomputable section

namespace Cert.KernelIdeal.Own

open Cert.KernelIdeal Cert.KernelIdeal.Gen Cert.Mem
open Idealize.ShloMosaic Idealize.ShloMosaic.TcCoe Idealize.ShloMosaic.Pipeline

theorem e0 : ∀ t : Fin cfg0.N, win0_0.index t = ![(grid0.coords t 0).val / 2, (grid0.coords t 1).val] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![0, (grid0.coords t 0).val / 2] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, (grid0.coords t 0).val, 0] := (by decide +kernel : ∀ t : Fin grid0.N, _)
theorem e5 : ∀ t : Fin cfg0.N, win0_5.index t = ![(grid0.coords t 0).val, (grid0.coords t 1).val] := (by decide +kernel : ∀ t : Fin grid0.N, _)

/-- The point of the head `a` and the query tile `b`. -/
theorem point_of : ∀ (a : Fin 8) (b : Fin 16), ∃ t : Fin cfg0.N, (grid0.coords t 0).val = a.val ∧ (grid0.coords t 1).val = b.val :=
  (by decide +kernel : ∀ (a : Fin 8) (b : Fin 16), ∃ t : Fin grid0.N, (grid0.coords t 0).val = a.val ∧ (grid0.coords t 1).val = b.val)

section Blocks

variable (m : (ℓ : Loc nD τ sig) → Buf (Elt Ideal) ℓ) (c : Dev nD) (t : Fin cfg0.N)

/-- The queries: the 128 rows of the head's pair, the columns of the query tile. -/
theorem blk0 (r : Fin 128) (u : Fin 1024) (R : Fin 512) (T : Fin 16384) (hr : R.val = 128 * ((grid0.coords t 0).val / 2) + r.val)
    (hu : T.val = 1024 * (grid0.coords t 1).val + u.val) :
    (iblk m c 0 t : Vec Ideal S128x1024 .bf16) (ix2 r u) = (V m c main_arg0 : S512x16384.Idx → EReal) (ix2 R T) := by
  show iblk m c 0 t (ix2 r u) = V m c main_arg0 (ix2 R T)
  blk_simp [iblk, e0]
  refine congrArg (V m c main_arg0) ?_
  blk_ext [e0]

/-- The query gates: every row, the columns of the query tile. -/
theorem blk1 (r : Fin 32) (u : Fin 1024) (T : Fin 16384) (hu : T.val = 1024 * (grid0.coords t 1).val + u.val) :
    (iblk m c 1 t : Vec Ideal S32x1024 .f32) (ix2 r u) = (V m c main_arg1 : S32x16384.Idx → EReal) (ix2 r T) := by
  show iblk m c 1 t (ix2 r u) = V m c main_arg1 (ix2 r T)
  blk_simp [iblk, e1]
  refine congrArg (V m c main_arg1) ?_
  blk_ext [e1]

/-- The keys: every row, the 128 columns of the head's pair. -/
theorem blk2 (s : Fin 16384) (d : Fin 128) (D : Fin 512) (hd : D.val = 128 * ((grid0.coords t 0).val / 2) + d.val) :
    (iblk m c 2 t : Vec Ideal S16384x128 .bf16) (ix2 s d) = (V m c main_arg2 : S16384x512.Idx → EReal) (ix2 s D) := by
  show iblk m c 2 t (ix2 s d) = V m c main_arg2 (ix2 s D)
  blk_simp [iblk, e2]
  refine congrArg (V m c main_arg2) ?_
  blk_ext [e2]

/-- The key gates: the whole array. -/
theorem blk3 (s : Fin 16384) (d : Fin 128) :
    (iblk m c 3 t : Vec Ideal S16384x128 .bf16) (ix2 s d) = (V m c main_arg3 : S16384x128.Idx → EReal) (ix2 s d) := by
  show iblk m c 3 t (ix2 s d) = V m c main_arg3 (ix2 s d)
  blk_simp [iblk, e3]
  refine congrArg (V m c main_arg3) ?_
  blk_ext [e3]

/-- The values: the 64 rows of the head in every key tile. -/
theorem blk4 (j : Fin 32) (r : Fin 64) (k : Fin 512) (R : Fin 512) (hr : R.val = 64 * (grid0.coords t 0).val + r.val) :
    (iblk m c 4 t : Vec Ideal S32x64x512 .bf16) (ix3 j r k) = (V m c main_arg4 : S32x512x512.Idx → EReal) (ix3 j R k) := by
  show iblk m c 4 t (ix3 j r k) = V m c main_arg4 (ix3 j R k)
  blk_simp [iblk, e4]
  refine congrArg (V m c main_arg4) ?_
  blk_ext [e4]

/-- A block of the results holds its elements of `f`, told by row and column. -/
theorem out_at (f : S512x16384.Idx → EReal)
    (h : ∀ (r : Fin 64) (u : Fin 1024) (R : Fin 512) (T : Fin 16384), R.val = 64 * (grid0.coords t 0).val + r.val →
      T.val = 1024 * (grid0.coords t 1).val + u.val → (outAt m c t : Vec Ideal S64x1024 .bf16) (ix2 r u) = f (ix2 R T))
    (y : S64x1024.Idx) : outAt m c t y = f ((win0_5.blk t).view.emb y) := by
  have h0 := (grid0.coords t 0).isLt
  have h1 := (grid0.coords t 1).isLt
  have hy : y = ix2 (y 0) (y 1) := eq_ix2 y
  have y0 : (y 0).val < 64 := (y 0).isLt
  have y1 : (y 1).val < 1024 := (y 1).isLt
  rw [hy]
  refine (h (y 0) (y 1) ⟨64 * (grid0.coords t 0).val + (y 0).val, ?_⟩ ⟨1024 * (grid0.coords t 1).val + (y 1).val, ?_⟩ rfl rfl).trans (congrArg f ?_)
  · have : (grid0.coords t 0).val < 8 := h0
    omega
  · have : (grid0.coords t 1).val < 16 := h1
    omega
  · symm
    blk_ext [e5]

/-- The results are those of `f`, where each block holds its elements of `f`. -/
theorem final_eq (f : S512x16384.Idx → EReal)
    (h : ∀ (t : Fin cfg0.N) (r : Fin 64) (u : Fin 1024) (R : Fin 512) (T : Fin 16384), R.val = 64 * (grid0.coords t 0).val + r.val →
      T.val = 1024 * (grid0.coords t 1).val + u.val → (outAt m c t : Vec Ideal S64x1024 .bf16) (ix2 r u) = f (ix2 R T)) :
    final m c = f := by
  refine (dats m 0 c).arrAt_eq_of_covers 5 _ (by decide +kernel) fun t hf y => ?_
  blk_simp [e5]
  rw [after_5]
  exact out_at m c t f (h t) y

end Blocks

end Cert.KernelIdeal.Own
-- ==== Proof.KernelIdeal.Steps.lean ====
module

public import proofs.«01_k».proof.Proof.KernelIdeal.Blocks
public import proofs.«01_k».proof.Proof.Attention

/-!
The steps of a grid point, element by element over the extended reals: the score tiles, their column maxima, and
how a tile takes the running maximum and the running weighted sums on.
-/

@[expose] public section

set_option maxRecDepth 16384

noncomputable section

namespace Cert.KernelIdeal.Own

open Cert.KernelIdeal Cert.KernelIdeal.Gen Cert.Mem Cert.Softmax Cert.Attention
open Idealize.ShloMosaic Idealize.ShloMosaic.TcCoe

/-! ### Places of rectangles -/

theorem emb_ix2 {A B a b : ℕ} (off : Fin 2 → ℕ) (h : ∀ x, off x + (⟨2, ![a, b]⟩ : Shape).size x ≤ (⟨2, ![A, B]⟩ : Shape).size x)
    (i : Fin a) (j : Fin b) (I : Fin A) (J : Fin B) (hI : I.val = off 0 + i.val) (hJ : J.val = off 1 + j.val) :
    (Rect.unit (s := ⟨2, ![A, B]⟩) off (⟨2, ![a, b]⟩ : Shape).size h).emb (ix2 i j) = ix2 I J := by
  funext x
  apply Fin.ext
  match x with
  | ⟨0, _⟩ => show off 0 + 1 * i.val = I.val; omega
  | ⟨1, _⟩ => show off 1 + 1 * j.val = J.val; omega

theorem emb_ix3 {A B C a b c : ℕ} (off : Fin 3 → ℕ) (h : ∀ x, off x + (⟨3, ![a, b, c]⟩ : Shape).size x ≤ (⟨3, ![A, B, C]⟩ : Shape).size x)
    (i : Fin a) (j : Fin b) (k : Fin c) (I : Fin A) (J : Fin B) (K : Fin C) (hI : I.val = off 0 + i.val) (hJ : J.val = off 1 + j.val)
    (hK : K.val = off 2 + k.val) :
    (Rect.unit (s := ⟨3, ![A, B, C]⟩) off (⟨3, ![a, b, c]⟩ : Shape).size h).emb (ix3 i j k) = ix3 I J K := by
  funext x
  apply Fin.ext
  match x with
  | ⟨0, _⟩ => show off 0 + 1 * i.val = I.val; omega
  | ⟨1, _⟩ => show off 1 + 1 * j.val = J.val; omega
  | ⟨2, _⟩ => show off 2 + 1 * k.val = K.val; omega

theorem kAt_at (j : ℕ) (X : Vec Ideal S16384x128 .bf16) (k : Fin 512) (d : Fin 128) (hj : j < 32) :
    kAt j X (ix2 k d) = X (ix2 ⟨512 * j + k.val, by omega⟩ d) := by
  refine congrArg X (emb_ix2 _ (kInb j) k d _ _ ?_ ?_)
  · show 512 * j + k.val = 512 * (j % 32) + k.val; rw [Nat.mod_eq_of_lt hj]
  · show d.val = 0 + d.val; omega

theorem vAt_at (j : ℕ) (X : Vec Ideal S32x64x512 .bf16) (r : Fin 64) (k : Fin 512) (hj : j < 32) :
    vAt j X (ix3 0 r k) = X (ix3 ⟨j, hj⟩ r k) := by
  refine congrArg X (emb_ix3 _ (vInb j) 0 r k _ _ _ ?_ ?_ ?_)
  · show j = j % 32 + 0; rw [Nat.mod_eq_of_lt hj, Nat.add_zero]
  · show r.val = 0 + r.val; omega
  · show k.val = 0 + k.val; omega

section Halves

variable {α : Type}

/-- Two writes side by side, read in the first, -/
theorem put_left {A B a b w : ℕ} (h1 : ∀ x, (![0, w] : Fin 2 → ℕ) x + (⟨2, ![A, b]⟩ : Shape).size x ≤ (⟨2, ![A, B]⟩ : Shape).size x)
    (h0 : ∀ x, (![0, 0] : Fin 2 → ℕ) x + (⟨2, ![A, a]⟩ : Shape).size x ≤ (⟨2, ![A, B]⟩ : Shape).size x)
    (R : (⟨2, ![A, b]⟩ : Shape).Idx → α) (L : (⟨2, ![A, a]⟩ : Shape).Idx → α) (X : (⟨2, ![A, B]⟩ : Shape).Idx → α)
    (i : Fin A) (j : Fin B) (hj : j.val < a) (hw : a ≤ w) :
    put (Rect.unit (s := ⟨2, ![A, B]⟩) ![0, w] (⟨2, ![A, b]⟩ : Shape).size h1) R
      (put (Rect.unit (s := ⟨2, ![A, B]⟩) ![0, 0] (⟨2, ![A, a]⟩ : Shape).size h0) L X) (ix2 i j) = L (ix2 i ⟨j.val, hj⟩) := by
  have e : (Rect.unit (s := ⟨2, ![A, B]⟩) ![0, 0] (⟨2, ![A, a]⟩ : Shape).size h0).emb (ix2 i ⟨j.val, hj⟩) = ix2 i j :=
    emb_ix2 _ _ _ _ _ _ (Nat.zero_add _).symm (Nat.zero_add _).symm
  rw [← e, put_miss, put_emb]
  exact fun j' => emb_ne_of_axis _ _ 1 rfl rfl (.inl (by show 0 + a ≤ w; omega)) _ j'

/-- and in the second. -/
theorem put_right {A B b w : ℕ} (h1 : ∀ x, (![0, w] : Fin 2 → ℕ) x + (⟨2, ![A, b]⟩ : Shape).size x ≤ (⟨2, ![A, B]⟩ : Shape).size x)
    (R : (⟨2, ![A, b]⟩ : Shape).Idx → α) (X : (⟨2, ![A, B]⟩ : Shape).Idx → α)
    (i : Fin A) (j : Fin B) (J : Fin b) (hJ : j.val = w + J.val) :
    put (Rect.unit (s := ⟨2, ![A, B]⟩) ![0, w] (⟨2, ![A, b]⟩ : Shape).size h1) R X (ix2 i j) = R (ix2 i J) := by
  have e : (Rect.unit (s := ⟨2, ![A, B]⟩) ![0, w] (⟨2, ![A, b]⟩ : Shape).size h1).emb (ix2 i J) = ix2 i j :=
    emb_ix2 _ _ _ _ _ _ (Nat.zero_add _).symm hJ
  rw [← e, put_emb]

/-- One write, read to the left of it. -/
theorem put_before {A B b w : ℕ} (h1 : ∀ x, (![0, w] : Fin 2 → ℕ) x + (⟨2, ![A, b]⟩ : Shape).size x ≤ (⟨2, ![A, B]⟩ : Shape).size x)
    (R : (⟨2, ![A, b]⟩ : Shape).Idx → α) (X : (⟨2, ![A, B]⟩ : Shape).Idx → α)
    (i : Fin A) (j : Fin B) (hj : j.val < w) :
    put (Rect.unit (s := ⟨2, ![A, B]⟩) ![0, w] (⟨2, ![A, b]⟩ : Shape).size h1) R X (ix2 i j) = X (ix2 i j) := by
  refine put_miss _ _ _ _ fun J e => ?_
  have e' := congrArg (fun y : (⟨2, ![A, B]⟩ : Shape).Idx => (y 1).val) e
  have e'' : w + 1 * (J 1).val = j.val := e'
  omega

end Halves

theorem sCat_left (L R : Vec Ideal S512x512 .f32) (k : Fin 512) (t : Fin 1024) (h : t.val < 512) :
    sCat L R (ix2 k t) = L (ix2 k ⟨t.val, h⟩) := put_left _ _ _ _ _ _ _ h (le_refl _)
theorem sCat_right (L R : Vec Ideal S512x512 .f32) (k : Fin 512) (t : Fin 1024) (u : Fin 512) (h : t.val = 512 + u.val) :
    sCat L R (ix2 k t) = R (ix2 k u) := put_right _ _ _ _ _ _ h
theorem mCat_left (L R : Vec Ideal S1x512 .f32) (t : Fin 1024) (h : t.val < 512) :
    mCat L R (ix2 0 t) = L (ix2 0 ⟨t.val, h⟩) := put_left _ _ _ _ _ _ _ h (le_refl _)
theorem mCat_right (L R : Vec Ideal S1x512 .f32) (t : Fin 1024) (u : Fin 512) (h : t.val = 512 + u.val) :
    mCat L R (ix2 0 t) = R (ix2 0 u) := put_right _ _ _ _ _ _ h

/-! ### The score tiles -/

section Scores

variable (a b : Vec Ideal S512x128 .bf16) (q : Vec Ideal S256x1024 .bf16)

/-- The product of a key row and a query column: the keys' part and the augmenting part. -/
def tile (k : Fin 512) (t : Fin 1024) : EReal :=
  (∑ x : Fin 128, a (ix2 k x) * q (ix2 ⟨x.val, by omega⟩ t)) + ∑ x : Fin 128, b (ix2 k x) * q (ix2 ⟨128 + x.val, by omega⟩ t)

theorem mask_eq : (Named.named κ "mask" 0xF149F2CA#32 : Ideal .f32) = (⊥ : EReal) := rfl

theorem pay19_at (k : Fin 512) (t : Fin 1024) : k0_pay19 a b q (ix2 k t) = tile a b q k t := by
  pointwise [k0_pay19]
  rfl

theorem pay20_at (k : Fin 512) (t : Fin 1024) : k0_pay20 a b q (ix2 k t) = tile a b q k t := by
  pointwise [k0_pay20]
  exact pay19_at a b q k t

theorem pay21_at (t : Fin 1024) : k0_pay21 a b q (ix2 0 t) = Finset.fold max ⊥ (fun k : Fin 512 => tile a b q k t) Finset.univ := by
  pointwise [k0_pay21]
  rw [neg_inf]
  simp only [pay19_at]

theorem pay2_at (k u : Fin 512) : k0_pay2 a b q (ix2 k u) = if k.val ≤ u.val then tile a b q k ⟨u.val, by omega⟩ else ⊥ := by
  pointwise [k0_pay2]
  rw [select_le (by omega) (by omega), mask_eq]
  exact if_congr Iff.rfl (pay19_at a b q k _) rfl

theorem pay3_at (k u : Fin 512) : k0_pay3 a b q (ix2 k u) = if k.val ≤ u.val then tile a b q k ⟨u.val, by omega⟩ else ⊥ := by
  pointwise [k0_pay3]
  exact pay2_at a b q k u

theorem pay4_at (u : Fin 512) : k0_pay4 a b q (ix2 0 u)
    = Finset.fold max ⊥ (fun k : Fin 512 => if k.val ≤ u.val then tile a b q k ⟨u.val, by omega⟩ else ⊥) Finset.univ := by
  pointwise [k0_pay4]
  rw [neg_inf]
  simp only [pay2_at]

theorem pay5_at (k u : Fin 512) : k0_pay5 a b q (ix2 k u) = tile a b q k ⟨512 + u.val, by omega⟩ := by
  pointwise [k0_pay5]
  exact pay19_at a b q k _

theorem pay6_at (u : Fin 512) : k0_pay6 a b q (ix2 0 u)
    = Finset.fold max ⊥ (fun k : Fin 512 => tile a b q k ⟨512 + u.val, by omega⟩) Finset.univ := by
  pointwise [k0_pay6]
  rw [neg_inf]
  exact congrArg (fun f => Finset.fold max ⊥ f Finset.univ) (funext fun k => pay19_at a b q k _)

theorem getQ_at (r : Fin 256) (u : Fin 512) : get rQr q (ix2 r u) = q (ix2 r ⟨512 + u.val, by omega⟩) :=
  congrArg q (emb_ix2 _ _ _ _ _ _ (Nat.zero_add _).symm rfl)

theorem pay7_at (k u : Fin 512) : k0_pay7 a b (get rQr q) (ix2 k u) = if k.val ≤ u.val then tile a b q k ⟨512 + u.val, by omega⟩ else ⊥ := by
  generalize hp : get rQr q = p
  pointwise [k0_pay7]
  rw [select_le (by omega) (by omega), mask_eq]
  subst hp
  refine if_congr Iff.rfl ?_ rfl
  exact congrArg₂ (· + ·) (Finset.sum_congr rfl fun x _ => congrArg (a (ix2 k x) * ·) (getQ_at q _ u))
    (Finset.sum_congr rfl fun x _ => congrArg (b (ix2 k x) * ·) (getQ_at q _ u))

theorem pay8_at (k u : Fin 512) : k0_pay8 a b (get rQr q) (ix2 k u) = if k.val ≤ u.val then tile a b q k ⟨512 + u.val, by omega⟩ else ⊥ := by
  rw [← pay7_at]
  generalize get rQr q = p
  pointwise [k0_pay8]

theorem pay9_at (u : Fin 512) : k0_pay9 a b (get rQr q) (ix2 0 u)
    = Finset.fold max ⊥ (fun k : Fin 512 => if k.val ≤ u.val then tile a b q k ⟨512 + u.val, by omega⟩ else ⊥) Finset.univ := by
  simp only [← pay7_at]
  generalize get rQr q = p
  pointwise [k0_pay9]
  rw [neg_inf]

end Scores

/-! ### One tile -/

/-- The row a tile's values, or its ones, are taken from. -/
def vrow (v : Vec Ideal S1x64x512 .bf16) (r : Fin 80) (k : Fin 512) : EReal := if h : r.val < 64 then v (ix3 0 ⟨r.val, h⟩ k) else 1

theorem newM_at (M C : Vec Ideal S1x1024 .f32) (t : Fin 1024) : newM M C (ix2 0 t) = max (M (ix2 0 t)) (C (ix2 0 t)) := by
  unfold newM
  pointwise [k0_pay27, k0_pay22]

theorem newA_at (M C : Vec Ideal S1x1024 .f32) (S : Vec Ideal S512x1024 .f32) (v : Vec Ideal S1x64x512 .bf16) (A : Vec Ideal S80x1024 .f32)
    (r : Fin 80) (t : Fin 1024) : newA M C S v A (ix2 r t)
      = Ideal.exp (M (ix2 0 t) - max (M (ix2 0 t)) (C (ix2 0 t))) * A (ix2 r t)
        + ∑ k : Fin 512, vrow v r k * Ideal.exp (S (ix2 k t) - max (M (ix2 0 t)) (C (ix2 0 t))) := by
  unfold newA
  pointwise [k0_pay26, k0_pay23, k0_pay24, k0_pay25, k0_pay89, k0_pay22]
  rfl

theorem pay17_at (M C : Vec Ideal S1x512 .f32) (S : Vec Ideal S512x512 .f32) (v : Vec Ideal S1x64x512 .bf16) (A : Vec Ideal S80x512 .f32)
    (r : Fin 80) (t : Fin 512) : k0_pay17 k0_pay89 M C S v A (ix2 r t)
      = Ideal.exp (M (ix2 0 t) - max (M (ix2 0 t)) (C (ix2 0 t))) * A (ix2 r t)
        + ∑ k : Fin 512, vrow v r k * Ideal.exp (S (ix2 k t) - max (M (ix2 0 t)) (C (ix2 0 t))) := by
  pointwise [k0_pay17, k0_pay16, k0_pay89]
  rfl

theorem pay81_at (r : Fin 80) (t : Fin 1024) : (k0_pay81 (F := Ideal)) (ix2 r t) = (0 : EReal) := by
  pointwise [k0_pay81]

theorem pay82_at (t : Fin 1024) : (k0_pay82 (F := Ideal)) (ix2 0 t) = (⊥ : EReal) := by
  pointwise [k0_pay82]
  exact mask_eq

theorem pay91_at (A : Vec Ideal S80x1024 .f32) (r : Fin 64) (t : Fin 1024) :
    k0_pay91 A (ix2 r t) = Ideal.div (A (ix2 ⟨r.val, by omega⟩ t)) (A (ix2 64 t)) := by
  pointwise [k0_pay91]

end Cert.KernelIdeal.Own
-- ==== Proof.KernelIdeal.Queries.lean ====
module

public import proofs.«01_k».proof.Proof.KernelIdeal.Steps

/-!
The queries of a grid point with their augmenting rows, element by element, and the product of a key row and a query
column: the head's logit.
-/

@[expose] public section

set_option maxRecDepth 16384

noncomputable section

namespace Cert.KernelIdeal.Own

open Cert.KernelIdeal Cert.KernelIdeal.Gen Cert.Mem Cert.Softmax Cert.Attention
open Idealize.ShloMosaic Idealize.ShloMosaic.TcCoe

/-! ### Which rows are the head's -/

/-- The bit that says row `r` of the query block is head `h`'s. -/
def headBit (r h : ℕ) : BitVec 1 :=
  IntOp.cmpi CmpIPredicate.eq
    (Scalar.select
      (IntOp.andi
        (IntOp.cmpi CmpIPredicate.ne
          (IntOp.subi (BitVec.setWidth 32 (IntOp.cmpi CmpIPredicate.sgt (BitVec.ofNat 32 r) 0#32))
            (BitVec.setWidth 32 (IntOp.cmpi CmpIPredicate.slt (BitVec.ofNat 32 r) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 r) 64#32) 0#32))
      (IntOp.subi (IntOp.divsi ArithUnit.vector (BitVec.ofNat 32 r) 64#32) 1#32)
      (IntOp.divsi ArithUnit.vector (BitVec.ofNat 32 r) 64#32))
    (Scalar.select
      (Scalar.andi
        (Scalar.xori
          (Scalar.cmpi CmpIPredicate.slt
            (Scalar.remsi (BitVec.ofNat 32 h) (Scalar.select (Scalar.cmpi CmpIPredicate.eq 2#32 0#32) 1#32 2#32)) 0#32)
          (Scalar.cmpi CmpIPredicate.slt (Scalar.select (Scalar.cmpi CmpIPredicate.eq 2#32 0#32) 1#32 2#32) 0#32))
        (Scalar.cmpi CmpIPredicate.ne
          (Scalar.remsi (BitVec.ofNat 32 h) (Scalar.select (Scalar.cmpi CmpIPredicate.eq 2#32 0#32) 1#32 2#32)) 0#32))
      (Scalar.addi (Scalar.remsi (BitVec.ofNat 32 h) (Scalar.select (Scalar.cmpi CmpIPredicate.eq 2#32 0#32) 1#32 2#32))
        (Scalar.select (Scalar.cmpi CmpIPredicate.eq 2#32 0#32) 1#32 2#32))
      (Scalar.remsi (BitVec.ofNat 32 h) (Scalar.select (Scalar.cmpi CmpIPredicate.eq 2#32 0#32) 1#32 2#32)))

theorem headBit_eq : ∀ (r : Fin 128) (h : Fin 8), headBit r.val h.val = BitVec.ofBool (decide (r.val / 64 = h.val % 2)) := by decide +kernel

/-- The bit that says augmenting row `r` is one of the three of head `h`'s key gates. -/
def rowBit (r h : ℕ) : BitVec 1 :=
  IntOp.andi (IntOp.cmpi CmpIPredicate.slt (BitVec.ofNat 32 r) 24#32)
    (IntOp.cmpi CmpIPredicate.eq
      (Scalar.select
        (IntOp.andi
          (IntOp.xori
            (IntOp.cmpi CmpIPredicate.slt
              (IntOp.remsi ArithUnit.vector (BitVec.ofNat 32 r)
                (Scalar.select (Scalar.cmpi CmpIPredicate.eq 8#32 0#32) 1#32 8#32))
              0#32)
            (Scalar.cmpi CmpIPredicate.slt (Scalar.select (Scalar.cmpi CmpIPredicate.eq 8#32 0#32) 1#32 8#32)
              0#32))
          (IntOp.cmpi CmpIPredicate.ne
            (IntOp.remsi ArithUnit.vector (BitVec.ofNat 32 r)
              (Scalar.select (Scalar.cmpi CmpIPredicate.eq 8#32 0#32) 1#32 8#32))
            0#32))
        (IntOp.addi
          (IntOp.remsi ArithUnit.vector (BitVec.ofNat 32 r)
            (Scalar.select (Scalar.cmpi CmpIPredicate.eq 8#32 0#32) 1#32 8#32))
          (Scalar.select (Scalar.cmpi CmpIPredicate.eq 8#32 0#32) 1#32 8#32))
        (IntOp.remsi ArithUnit.vector (BitVec.ofNat 32 r)
          (Scalar.select (Scalar.cmpi CmpIPredicate.eq 8#32 0#32) 1#32 8#32)))
      (BitVec.ofNat 32 h))

theorem rowBit_eq : ∀ (r : Fin 128) (h : Fin 8), rowBit r.val h.val = BitVec.ofBool (decide (r.val < 24 ∧ r.val % 8 = h.val)) := by decide +kernel

/-! ### The queries with their augmenting rows -/

theorem off1_eq : ∀ (i : grid0.Coords) (r : Fin 3), k0_off1 i (BitVec.ofNat 32 (8 * r.val)) = ![8 * r.val + (i 0).val, 0] := by decide +kernel

section At

variable (i : grid0.Coords) (x2 : Vec Ideal S128x1024 .bf16) (x3 : Vec Ideal S32x1024 .f32)

/-- The head of a grid point. -/
def hd : Fin 8 := i 0

theorem cAt_at (r : Fin 3) (t : Fin 1024) : cAt i r x3 (ix2 0 t) = x3 (ix2 ⟨8 * r.val + (hd i).val, by omega⟩ t) := by
  have e := off1_eq i r
  refine congrArg x3 (emb_ix2 (k0_off1 i (BitVec.ofNat 32 (8 * r.val))) (k0_off1_inb i r) 0 t _ _ ?_ ?_)
  · rw [e]; rfl
  · rw [e]; exact (Nat.zero_add _).symm

theorem qaug_top (r : Fin 128) (t : Fin 1024) :
    qaug i x2 x3 (ix2 ⟨r.val, by omega⟩ t) = if r.val / 64 = (hd i).val % 2 then x2 (ix2 r t) else 0 := by
  have e : (rQ0 : Rect S256x1024).emb (ix2 r t) = ix2 ⟨r.val, by omega⟩ t :=
    emb_ix2 _ _ _ _ _ _ (Nat.zero_add _).symm (Nat.zero_add _).symm
  unfold qaug qCat
  rw [← e, put_miss _ _ _ _ (fun j' => emb_ne_of_axis _ _ 0 rfl rfl (.inl (by show 0 + 128 ≤ 128; omega)) _ j'), put_emb]
  pointwise [k0_pay85, k0_pay84, k0_pay83]
  show Scalar.select (headBit r.val (hd i).val) (x2 (ix2 r t)) 0 = _
  rw [headBit_eq, Scalar.select_ofBool]
  simp only [decide_eq_true_eq]

/-- The augmenting rows: the three parts of the query's gate, and ones where the key's parts stand. -/
def augRow (h : Fin 8) (g0 g1 g2 : EReal) (r : Fin 128) : EReal :=
  if r.val = 26 then g2 else if r.val = 25 then g1 else if r.val = 24 then g0 else if r.val < 24 ∧ r.val % 8 = h.val then 1 else 0

theorem qaug_bot (r : Fin 128) (t : Fin 1024) :
    qaug i x2 x3 (ix2 ⟨128 + r.val, by omega⟩ t) = augRow (hd i) (cAt i 0 x3 (ix2 0 t)) (cAt i 1 x3 (ix2 0 t)) (cAt i 2 x3 (ix2 0 t)) r := by
  have e : (rQ1 : Rect S256x1024).emb (ix2 r t) = ix2 ⟨128 + r.val, by omega⟩ t :=
    emb_ix2 _ _ _ _ _ _ rfl (Nat.zero_add _).symm
  unfold qaug qCat
  rw [← e, put_emb]
  generalize cAt i 0 x3 = g0
  generalize cAt i 1 x3 = g1
  generalize cAt i 2 x3 = g2
  pointwise [k0_pay88, k0_pay86, k0_pay87]
  show Scalar.select (IntOp.cmpi CmpIPredicate.eq (BitVec.ofNat 32 r.val) (BitVec.ofNat 32 26)) (g2 (ix2 0 t))
      (Scalar.select (IntOp.cmpi CmpIPredicate.eq (BitVec.ofNat 32 r.val) (BitVec.ofNat 32 25)) (g1 (ix2 0 t))
        (Scalar.select (IntOp.cmpi CmpIPredicate.eq (BitVec.ofNat 32 r.val) (BitVec.ofNat 32 24)) (g0 (ix2 0 t))
          (Scalar.select (rowBit r.val (hd i).val) 1 0))) = _
  rw [select_eq (by omega) (by omega), select_eq (by omega) (by omega), select_eq (by omega) (by omega), rowBit_eq, Scalar.select_ofBool]
  simp only [decide_eq_true_eq]
  rfl

end At

/-! ### Sums over the rows -/

/-- A product with queries that are zero off one half. -/
theorem sum_half (a b : Fin 128 → EReal) (h : ℕ) : (∑ x : Fin 128, a x * if x.val / 64 = h % 2 then b x else 0)
    = ∑ d : Fin 64, a ⟨h % 2 * 64 + d.val, by omega⟩ * b ⟨h % 2 * 64 + d.val, by omega⟩ := by
  rw [Fin.sum_univ_two_halves 64 64 rfl]
  have hit : ∀ (x y : Fin 128), x.val / 64 = h % 2 → x = y → (a x * if x.val / 64 = h % 2 then b x else 0) = a y * b y := fun x y hx e => by
    subst e; rw [if_pos hx]
  have miss : ∀ (x : Fin 128), x.val / 64 ≠ h % 2 → (a x * if x.val / 64 = h % 2 then b x else 0) = 0 := fun x hx => by
    rw [if_neg hx, mul_zero]
  rcases Nat.mod_two_eq_zero_or_one h with e | e
  · refine (congrArg₂ (· + ·) (Finset.sum_congr rfl fun d _ => hit _ ⟨h % 2 * 64 + d.val, by omega⟩ ?_ ?_)
      (Finset.sum_eq_zero fun d _ => miss _ ?_)).trans (add_zero _)
    · show d.val / 64 = _; omega
    · exact Fin.ext (by show d.val = h % 2 * 64 + d.val; omega)
    · show (64 + d.val) / 64 ≠ _; omega
  · refine (congrArg₂ (· + ·) (Finset.sum_eq_zero fun d _ => miss _ ?_)
      (Finset.sum_congr rfl fun d _ => hit _ ⟨h % 2 * 64 + d.val, by omega⟩ ?_ ?_)).trans (zero_add _)
    · show d.val / 64 ≠ _; omega
    · show (64 + d.val) / 64 = _; omega
    · exact Fin.ext (by show 64 + d.val = h % 2 * 64 + d.val; omega)

/-- A product with the augmenting rows. -/
theorem sum_rows (a : Fin 128 → EReal) (h : Fin 8) (g0 g1 g2 : EReal) : (∑ x : Fin 128, a x * augRow h g0 g1 g2 x)
    = (∑ r : Fin 3, a ⟨r.val * 8 + h.val, by omega⟩) + (a ⟨24, by omega⟩ * g0 + (a ⟨25, by omega⟩ * g1 + a ⟨26, by omega⟩ * g2)) := by
  have hs : (∑ x ∈ ({⟨h.val, by omega⟩, ⟨8 + h.val, by omega⟩, ⟨16 + h.val, by omega⟩, ⟨24, by omega⟩, ⟨25, by omega⟩, ⟨26, by omega⟩} : Finset (Fin 128)), a x * augRow h g0 g1 g2 x)
      = ∑ x : Fin 128, a x * augRow h g0 g1 g2 x := by
    refine Finset.sum_subset (Finset.subset_univ _) fun x _ hx => ?_
    simp only [Finset.mem_insert, Finset.mem_singleton, Fin.ext_iff, not_or] at hx
    obtain ⟨h0, h1, h2, h3, h4, h5⟩ := hx
    have h3' : x.val ≠ 24 := h3
    have h4' : x.val ≠ 25 := h4
    have h5' : x.val ≠ 26 := h5
    unfold augRow
    rw [if_neg h5', if_neg h4', if_neg h3', if_neg (by omega), mul_zero]
  have one : ∀ n : ℕ, ∀ hn : n < 3, augRow h g0 g1 g2 ⟨n * 8 + h.val, by omega⟩ = 1 := fun n hn => by
    unfold augRow
    rw [if_neg (by show n * 8 + h.val ≠ 26; omega), if_neg (by show n * 8 + h.val ≠ 25; omega), if_neg (by show n * 8 + h.val ≠ 24; omega),
      if_pos (by show n * 8 + h.val < 24 ∧ (n * 8 + h.val) % 8 = h.val; omega)]
  rw [← hs, Finset.sum_insert, Finset.sum_insert, Finset.sum_insert, Finset.sum_insert, Finset.sum_insert, Finset.sum_singleton]
  · have e0 : augRow h g0 g1 g2 ⟨h.val, by omega⟩ = 1 := (congrArg (augRow h g0 g1 g2) (Fin.ext (by show h.val = 0 * 8 + h.val; omega))).trans (one 0 (by omega))
    have e1 : augRow h g0 g1 g2 ⟨8 + h.val, by omega⟩ = 1 := one 1 (by omega)
    have e2 : augRow h g0 g1 g2 ⟨16 + h.val, by omega⟩ = 1 := one 2 (by omega)
    rw [e0, e1, e2, mul_one, mul_one, mul_one, Fin.sum_univ_three, add_assoc, add_assoc]
    exact congrArg₂ (· + ·) (congrArg a (Fin.ext (by show h.val = 0 * 8 + h.val; omega))) rfl
  all_goals
    simp only [Finset.mem_insert, Finset.mem_singleton, Fin.ext_iff, not_or]
    omega

/-! ### A key tile against the queries -/

/-- The product of a key row and a query column is the head's product and the difference of the gates, where the keys'
    three columns of ones are ones. -/
theorem tile_qaug (i : grid0.Coords) (x2 : Vec Ideal S128x1024 .bf16) (x3 : Vec Ideal S32x1024 .f32) (x4 x5 : Vec Ideal S16384x128 .bf16)
    (j : ℕ) (hj : j < 32) (k : Fin 512) (t : Fin 1024)
    (h1 : ∀ r : Fin 3, (x5 : S16384x128.Idx → EReal) (ix2 ⟨512 * j + k.val, by omega⟩ ⟨24 + r.val, by omega⟩) = 1) :
    tile (kAt j x4) (kAt j x5) (qaug i x2 x3) k t
      = (∑ d : Fin 64, (x2 : S128x1024.Idx → EReal) (ix2 ⟨(hd i).val % 2 * 64 + d.val, by omega⟩ t)
          * (x4 : S16384x128.Idx → EReal) (ix2 ⟨512 * j + k.val, by omega⟩ ⟨(hd i).val % 2 * 64 + d.val, by omega⟩))
        + ((∑ r : Fin 3, (x3 : S32x1024.Idx → EReal) (ix2 ⟨r.val * 8 + (hd i).val, by omega⟩ t))
          + ∑ r : Fin 3, (x5 : S16384x128.Idx → EReal) (ix2 ⟨512 * j + k.val, by omega⟩ ⟨r.val * 8 + (hd i).val, by omega⟩)) := by
  unfold tile
  have e0 : ∀ x : Fin 128, kAt j x4 (ix2 k x) * qaug i x2 x3 (ix2 ⟨x.val, by omega⟩ t)
      = (x4 : S16384x128.Idx → EReal) (ix2 ⟨512 * j + k.val, by omega⟩ x) * if x.val / 64 = (hd i).val % 2 then (x2 : S128x1024.Idx → EReal) (ix2 x t) else 0 := fun x =>
    congrArg₂ (fun a b : EReal => a * b) (kAt_at j x4 k x hj) (qaug_top i x2 x3 x t)
  have e1 : ∀ x : Fin 128, kAt j x5 (ix2 k x) * qaug i x2 x3 (ix2 ⟨128 + x.val, by omega⟩ t)
      = (x5 : S16384x128.Idx → EReal) (ix2 ⟨512 * j + k.val, by omega⟩ x)
        * augRow (hd i) (cAt i 0 x3 (ix2 0 t)) (cAt i 1 x3 (ix2 0 t)) (cAt i 2 x3 (ix2 0 t)) x := fun x =>
    congrArg₂ (fun a b : EReal => a * b) (kAt_at j x5 k x hj) (qaug_bot i x2 x3 x t)
  have c : ∀ r : Fin 3, cAt i r x3 (ix2 0 t) = (x3 : S32x1024.Idx → EReal) (ix2 ⟨r.val * 8 + (hd i).val, by omega⟩ t) := fun r =>
    (cAt_at i x3 r t).trans (congrArg (fun a : Fin 32 => (x3 : S32x1024.Idx → EReal) (ix2 a t)) (Fin.ext (by show 8 * r.val + _ = r.val * 8 + _; omega)))
  refine congrArg₂ (· + ·) ((Finset.sum_congr rfl fun x _ => e0 x).trans ?_) ((Finset.sum_congr rfl fun x _ => e1 x).trans ?_)
  · exact (sum_half (fun x => (x4 : S16384x128.Idx → EReal) (ix2 ⟨512 * j + k.val, by omega⟩ x)) (fun x => (x2 : S128x1024.Idx → EReal) (ix2 x t)) _).trans
      (Finset.sum_congr rfl fun d _ => mul_comm _ _)
  · refine (sum_rows (fun x => (x5 : S16384x128.Idx → EReal) (ix2 ⟨512 * j + k.val, by omega⟩ x)) _ _ _ _).trans ?_
    rw [add_comm]
    refine congrArg (· + _) ?_
    have a0 := h1 0
    have a1 := h1 1
    have a2 := h1 2
    refine (congrArg₂ (· + ·) (congrArg₂ (· * ·) a0 (c 0)) (congrArg₂ (· + ·) (congrArg₂ (· * ·) a1 (c 1)) (congrArg₂ (· * ·) a2 (c 2)))).trans ?_
    rw [one_mul, one_mul, one_mul, Fin.sum_univ_three, add_assoc]

end Cert.KernelIdeal.Own
-- ==== Proof.KernelIdeal.Recur.lean ====
module

public import proofs.«01_k».proof.Proof.KernelIdeal.Steps

/-!
The tiles of a grid point, one after another: the running maximum and the running weighted sums are those of the keys
seen so far, and after the two diagonal tiles those of all keys.
-/

@[expose] public section

set_option maxRecDepth 16384

noncomputable section

namespace Cert.KernelIdeal.Own

open Cert.KernelIdeal Cert.KernelIdeal.Gen Cert.Mem Cert.Softmax Cert.Attention
open Idealize.ShloMosaic Idealize.ShloMosaic.TcCoe

section Step

variable (z w : ℕ → EReal) (n : ℕ)

/-- A column whose scores are the next 512: the running maximum and a running sum go on by them. -/
theorem step (M C : Vec Ideal S1x1024 .f32) (S : Vec Ideal S512x1024 .f32) (v : Vec Ideal S1x64x512 .bf16) (A : Vec Ideal S80x1024 .f32)
    (t : Fin 1024) (r : Fin 80) (hM : M (ix2 0 t) = peak z n) (hC : C (ix2 0 t) = tileMax z n 512) (hS : ∀ k, S (ix2 k t) = z (n + k.val))
    (hv : ∀ k, vrow v r k = w (n + k.val)) (hA : A (ix2 r t) = wsum z w n) :
    newM M C (ix2 0 t) = peak z (n + 512) ∧ newA M C S v A (ix2 r t) = wsum z w (n + 512) := by
  rw [newM_at, newA_at, hM, hC, ← peak_add, wsum_add, hA]
  simp only [hS, hv, and_self]

theorem step_half (M C : Vec Ideal S1x512 .f32) (S : Vec Ideal S512x512 .f32) (v : Vec Ideal S1x64x512 .bf16) (A : Vec Ideal S80x512 .f32)
    (t : Fin 512) (r : Fin 80) (hM : M (ix2 0 t) = peak z n) (hC : C (ix2 0 t) = tileMax z n 512) (hS : ∀ k, S (ix2 k t) = z (n + k.val))
    (hv : ∀ k, vrow v r k = w (n + k.val)) (hA : A (ix2 r t) = wsum z w n) :
    k0_pay17 k0_pay89 M C S v A (ix2 r t) = wsum z w (n + 512) := by
  rw [pay17_at, hM, hC, ← peak_add, wsum_add, hA]
  simp only [hS, hv]

end Step

section Point

variable (q : Vec Ideal S256x1024 .bf16) (x4 x5 : Vec Ideal S16384x128 .bf16) (x6 : Vec Ideal S32x64x512 .bf16)
  (L Z : Fin 1024 → ℕ → EReal) (V : Fin 80 → ℕ → EReal) (n : ℕ)

/-- What the blocks of a grid point say: `L` its products of keys and queries, `V` its values and ones, `Z` the products
    masked where the key follows the query. -/
structure Says : Prop where
  lt : n < 16
  hL : ∀ j, j < 32 → ∀ k t, tile (kAt j x4) (kAt j x5) q k t = L t (512 * j + k.val)
  hV : ∀ j, j < 32 → ∀ r k, vrow (vAt j x6) r k = V r (512 * j + k.val)
  hZ : ∀ t s, Z t s = if s ≤ 1024 * n + t.val then L t s else ⊥

variable {q x4 x5 x6 L Z V n} (H : Says q x4 x5 x6 L Z V n)

include H

/-- Before key tile `j` at most the first on the diagonal: the keys seen are the first `512 j`. -/
theorem before_tile (t : Fin 1024) (r : Fin 80) : ∀ j, j ≤ 2 * n →
    mT q x4 x5 j (ix2 0 t) = peak (Z t) (512 * j) ∧ aT q x4 x5 x6 j (ix2 r t) = wsum (Z t) (V r) (512 * j)
  | 0, _ => ⟨pay82_at t, pay81_at r t⟩
  | j + 1, hj => by
    have hj' : j < 32 := by have := H.lt; omega
    obtain ⟨hm, ha⟩ := before_tile t r j (by omega)
    have hz : ∀ k : Fin 512, tile (kAt j x4) (kAt j x5) q k t = Z t (512 * j + k.val) := fun k => by
      rw [H.hL j hj', H.hZ, if_pos (by omega)]
    exact step (Z t) (V r) (512 * j) _ _ _ _ _ t r hm
      ((pay21_at _ _ _ t).trans (by simp only [hz]; rfl)) (fun k => (pay20_at _ _ _ k t).trans (hz k)) (H.hV j hj' r) ha

/-- The masked scores of the first diagonal tile. -/
theorem diag_score (k : Fin 512) (t : Fin 1024) : sD q x4 x5 (2 * n) (ix2 k t) = Z t (512 * (2 * n) + k.val) := by
  have hn : 2 * n < 32 := by have := H.lt; omega
  unfold sD
  rcases lt_or_ge t.val 512 with h | h
  · rw [sCat_left _ _ _ _ h, pay3_at, H.hZ, H.hL _ hn]
    exact if_congr (by show k.val ≤ t.val ↔ _; omega) rfl rfl
  · rw [sCat_right _ _ _ _ ⟨t.val - 512, by omega⟩ (by show t.val = 512 + (t.val - 512); omega), pay5_at, H.hZ, H.hL _ hn, if_pos (by omega)]
    congr 1; exact Fin.ext (by show 512 + (t.val - 512) = t.val; omega)

/-- Their column maxima. -/
theorem diag_max (t : Fin 1024) : cD q x4 x5 (2 * n) (ix2 0 t) = tileMax (Z t) (512 * (2 * n)) 512 := by
  have hn : 2 * n < 32 := by have := H.lt; omega
  unfold tileMax
  simp only [← diag_score H]
  unfold cD sD
  rcases lt_or_ge t.val 512 with h | h
  · rw [mCat_left _ _ _ h, pay4_at]
    simp only [sCat_left _ _ _ _ h, pay3_at]
  · have e : t.val = 512 + (⟨t.val - 512, by omega⟩ : Fin 512).val := by show t.val = 512 + (t.val - 512); omega
    rw [mCat_right _ _ _ _ e, pay6_at]
    simp only [sCat_right _ _ _ _ _ e, pay5_at]

/-- After the first diagonal tile. -/
theorem after_diag (t : Fin 1024) (r : Fin 80) :
    mD q x4 x5 (2 * n) (ix2 0 t) = peak (Z t) (512 * (2 * n) + 512) ∧ aD q x4 x5 x6 (2 * n) (ix2 r t) = wsum (Z t) (V r) (512 * (2 * n) + 512) := by
  have hn : 2 * n < 32 := by have := H.lt; omega
  obtain ⟨hm, ha⟩ := before_tile H t r (2 * n) le_rfl
  exact step (Z t) (V r) _ _ _ _ _ _ t r hm (diag_max H t) (fun k => diag_score H k t) (H.hV _ hn r) ha

/-- The scores of the second diagonal tile. -/
theorem half_score (k u : Fin 512) : sH q x4 x5 (2 * n + 1) (ix2 k u) = Z ⟨512 + u.val, by omega⟩ (512 * (2 * n) + 512 + k.val) := by
  have hn : 2 * n + 1 < 32 := by have := H.lt; omega
  unfold sH
  rw [pay8_at, H.hL _ hn, H.hZ]
  exact if_congr (by show k.val ≤ u.val ↔ 512 * (2 * n) + 512 + k.val ≤ 1024 * n + (512 + u.val); omega) (by congr 1) rfl

theorem half_max (u : Fin 512) : cH q x4 x5 (2 * n + 1) (ix2 0 u) = tileMax (Z ⟨512 + u.val, by omega⟩) (512 * (2 * n) + 512) 512 := by
  exact (pay9_at _ _ _ u).trans (congrArg (fun f => Finset.fold max ⊥ f Finset.univ) (funext fun k => (pay8_at _ _ _ k u).symm.trans (half_score H k u)))

/-- After the second: the sums over all keys. -/
theorem after_all (t : Fin 1024) (r : Fin 80) : aE q x4 x5 x6 (2 * n) (ix2 r t) = wsum (Z t) (V r) 16384 := by
  have hn : 2 * n + 1 < 32 := by have := H.lt; omega
  unfold aE
  rcases lt_or_ge t.val 512 with h | h
  · refine (put_before _ _ _ r t h).trans ((after_diag H t r).2.trans (wsum_eq_of_bot _ _ (by omega) fun s hs => ?_).symm)
    rw [H.hZ, if_neg (by omega)]
  · have ht : (⟨512 + (t.val - 512), by omega⟩ : Fin 1024) = t := Fin.ext (by show 512 + (t.val - 512) = t.val; omega)
    have e : t.val = 512 + (⟨t.val - 512, by omega⟩ : Fin 512).val := by show t.val = 512 + (t.val - 512); omega
    have gM : get rM1 (mD q x4 x5 (2 * n)) (ix2 0 ⟨t.val - 512, by omega⟩) = mD q x4 x5 (2 * n) (ix2 0 t) :=
      congrArg (mD q x4 x5 (2 * n)) (emb_ix2 _ _ _ _ _ _ rfl e)
    have gA : get rA1 (aD q x4 x5 x6 (2 * n)) (ix2 r ⟨t.val - 512, by omega⟩) = aD q x4 x5 x6 (2 * n) (ix2 r t) :=
      congrArg (aD q x4 x5 x6 (2 * n)) (emb_ix2 _ _ _ _ _ _ (Nat.zero_add _).symm e)
    refine (put_right _ _ _ r t ⟨t.val - 512, by omega⟩ e).trans ?_
    refine (step_half (Z t) (V r) (512 * (2 * n) + 512) _ _ _ _ _ ⟨t.val - 512, by omega⟩ r (gM.trans (after_diag H t r).1) ?_ ?_ ?_
      (gA.trans (after_diag H t r).2)).trans (wsum_eq_of_bot _ _ (by omega) fun s hs => ?_).symm
    · exact (half_max H _).trans (by rw [ht])
    · exact fun k => (half_score H k _).trans (by rw [ht])
    · exact fun k => (H.hV _ hn r k).trans (by congr 1)
    · rw [H.hZ, if_neg (by omega)]

/-- The block of results: the weighted sums of the values over the sums of the weights. -/
theorem block_at (r : Fin 64) (t : Fin 1024) : k0_pay91 (aE q x4 x5 x6 (2 * n)) (ix2 r t)
    = Ideal.div (wsum (Z t) (V ⟨r.val, by omega⟩) 16384) (wsum (Z t) (V 64) 16384) := by
  rw [pay91_at, after_all H, after_all H]

end Point

end Cert.KernelIdeal.Own
-- ==== Proof.KernelIdeal.Value.lean ====
module

public import proofs.«01_k».proof.Proof.KernelIdeal.Windows
public import proofs.«01_k».proof.Proof.KernelIdeal.Queries
public import proofs.«01_k».proof.Proof.KernelIdeal.Recur

/-!
The results of the kernel are the forgetting attention, element by element.
-/

@[expose] public section

set_option maxRecDepth 16384

noncomputable section

namespace Cert.KernelIdeal.Own

open Cert.KernelIdeal Cert.KernelIdeal.Gen Cert.Mem Cert.Softmax Cert.Attention
open Idealize.ShloMosaic Idealize.ShloMosaic.TcCoe Idealize.ShloMosaic.Pipeline

variable (m : (ℓ : Loc nD τ sig) → Buf (Elt Ideal) ℓ) (c : Dev nD)

/-- The queries, the query gates, the keys, the key gates and the values the call is given. -/
def aQ : Queries := V m c main_arg0
def aC : Gates := V m c main_arg1
def aK : Keys := V m c main_arg2
def aG : KeyGates := V m c main_arg3
def aV : Values := V m c main_arg4

/-- The logits of a query with every key, told by the key's number. -/
def logits (h : Fin 8) (T : Fin 16384) (s : ℕ) : EReal :=
  if H : s < 16384 then logit (aQ m c) (aC m c) (aK m c) (aG m c) h T ⟨s, H⟩ else ⊥

/-- The values of a head's row with every key, told by the key's number, and the ones beneath them. -/
def values (h : Fin 8) (r : Fin 80) (s : ℕ) : EReal :=
  if H : r.val < 64 then val (aV m c) ⟨64 * h.val + r.val, by omega⟩ s else 1

/-- The query's number at a grid point. -/
def pos (t : Fin cfg0.N) (u : Fin 1024) : Fin 16384 :=
  ⟨1024 * (grid0.coords t 1).val + u.val, by have : (grid0.coords t 1).val < 16 := (grid0.coords t 1).isLt; omega⟩

variable (h1 : Ones (aG m c))

include h1

theorem hL_at (t : Fin cfg0.N) (j : ℕ) (hj : j < 32) (k : Fin 512) (u : Fin 1024) :
    tile (kAt j (iblk m c 2 t)) (kAt j (iblk m c 3 t)) (qaug (grid0.coords t) (iblk m c 0 t) (iblk m c 1 t)) k u
      = logits m c (hd (grid0.coords t)) (pos t u) (512 * j + k.val) := by
  have hh : (hd (grid0.coords t)).val < 8 := (hd (grid0.coords t)).isLt
  have hv : (grid0.coords t 0).val = (hd (grid0.coords t)).val := rfl
  refine (tile_qaug (grid0.coords t) (iblk m c 0 t) (iblk m c 1 t) (iblk m c 2 t) (iblk m c 3 t) j hj k u fun r => ?_).trans ?_
  · exact (blk3 m c t _ _).trans (h1 _ r)
  unfold logits
  rw [dif_pos (by omega)]
  unfold logit
  refine congrArg₂ (· + ·) (Finset.sum_congr rfl fun d _ => congrArg₂ (· * ·) ?_ ?_)
    (congrArg₂ (· + ·) (Finset.sum_congr rfl fun r _ => ?_) (Finset.sum_congr rfl fun r _ => ?_))
  · refine blk0 m c t _ u (lane _ d) (pos t u) ?_ rfl
    rw [hv]; show (hd (grid0.coords t)).val * 64 + d.val = 128 * ((hd (grid0.coords t)).val / 2) + ((hd (grid0.coords t)).val % 2 * 64 + d.val); omega
  · refine blk2 m c t _ _ (lane _ d) ?_
    rw [hv]; show (hd (grid0.coords t)).val * 64 + d.val = 128 * ((hd (grid0.coords t)).val / 2) + ((hd (grid0.coords t)).val % 2 * 64 + d.val); omega
  · exact blk1 m c t _ u (pos t u) rfl
  · exact blk3 m c t _ _

omit h1 in
theorem hV_at (t : Fin cfg0.N) (j : ℕ) (hj : j < 32) (r : Fin 80) (k : Fin 512) :
    vrow (vAt j (iblk m c 4 t)) r k = values m c (hd (grid0.coords t)) r (512 * j + k.val) := by
  unfold vrow values
  split
  · rename_i hr
    refine ((vAt_at j (iblk m c 4 t) ⟨r.val, hr⟩ k hj).trans (blk4 m c t ⟨j, hj⟩ ⟨r.val, hr⟩ k ⟨64 * (hd (grid0.coords t)).val + r.val, by omega⟩ rfl)).trans ?_
    unfold val
    rw [dif_pos (by omega)]
    refine congrArg (aV m c) ?_
    have a : (⟨j, hj⟩ : Fin 32) = ⟨(512 * j + k.val) / 512, by omega⟩ := Fin.ext (by show j = (512 * j + k.val) / 512; omega)
    have b : k = ⟨(512 * j + k.val) % 512, by omega⟩ := Fin.ext (by show k.val = (512 * j + k.val) % 512; omega)
    exact congrArg₂ (fun x y => ix3 x _ y) a b
  · rfl

/-- What the blocks of a grid point say, in terms of the arguments. -/
theorem blocks_say (t : Fin cfg0.N) : Says (qaug (grid0.coords t) (iblk m c 0 t) (iblk m c 1 t)) (iblk m c 2 t) (iblk m c 3 t) (iblk m c 4 t)
    (fun u => logits m c (hd (grid0.coords t)) (pos t u)) (fun u => score (aQ m c) (aC m c) (aK m c) (aG m c) (hd (grid0.coords t)) (pos t u))
    (values m c (hd (grid0.coords t))) (grid0.coords t 1).val where
  lt := (grid0.coords t 1).isLt
  hL j hj k u := hL_at m c h1 t j hj k u
  hV j hj r k := hV_at m c t j hj r k
  hZ u s := by
    unfold score logits
    have : (pos t u).val = 1024 * (grid0.coords t 1).val + u.val := rfl
    have lt := (pos t u).isLt
    by_cases hs : s ≤ 1024 * (grid0.coords t 1).val + u.val
    · rw [dif_pos (by omega), if_pos hs, dif_pos (by omega)]
    · rw [dif_neg (by omega), if_neg hs]

/-- The results of the kernel are the forgetting attention. -/
theorem final_out : final m c = fun i : S512x16384.Idx => out (aQ m c) (aC m c) (aK m c) (aG m c) (aV m c) (i 0) (i 1) := by
  refine final_eq m c _ fun t r u R T hR hT => ?_
  have hh : head R = hd (grid0.coords t) := Fin.ext (by
    have e : (grid0.coords t 0).val = (hd (grid0.coords t)).val := rfl
    show R.val / 64 = _; omega)
  have hp : T = pos t u := Fin.ext hT
  refine (block_at (blocks_say m c h1 t) r u).trans ?_
  show _ = out (aQ m c) (aC m c) (aK m c) (aG m c) (aV m c) R T
  unfold out
  rw [hh, hp]
  have hv : values m c (hd (grid0.coords t)) ⟨r.val, by omega⟩ = val (aV m c) R := by
    funext s
    unfold values
    rw [dif_pos r.isLt]
    exact congrArg (fun R => val (aV m c) R s) (Fin.ext hR.symm)
  have ho : values m c (hd (grid0.coords t)) 64 = fun _ => 1 := by
    funext s
    unfold values
    exact dif_neg (by show ¬ (64 < 64); omega)
  rw [hv, ho]

end Cert.KernelIdeal.Own
-- ==== Proof.Algebraic.lean ====
module

public import proofs.«01_k».proof.Proof.Pre
public import proofs.«01_k».proof.Proof.Reference
public import proofs.«01_k».proof.Proof.KernelIdeal.Value

/-!
The value claim: the kernel and the reference, given the same arguments, end with the same results.
-/

@[expose] public section

noncomputable section

namespace Cert.Proof

open Idealize.ShloMosaic Idealize.SL.Sem Cert.Softmax Cert.Attention

/-- The reference's results are the kernel's, where the precondition holds of the arguments. -/
theorem results (q : Queries) (c : Gates) (k : Keys) (g : KeyGates) (v : Values)
    (h : Cert.Pre_finite_with_ones.fn (F := Ideal) q c k g v = fun _ => 1#1) :
    Cert.ReferenceIdeal.Own.rs v (Cert.ReferenceIdeal.Own.sc q c k g) = fun i => out q c k g v (i 0) (i 1) := by
  obtain ⟨hq, hc, hk, hg, -⟩ := Cert.Pre_finite_with_ones.Own.says_all q c k g v h
  funext i
  have hp := peak_ne q c k g (head (i 0)) (i 1) fun s => logit_ne q c k g (head (i 0)) (i 1) s hq (fun r hr => hc r _ hr) hk (fun r hr => hg s r hr)
  exact (congrArg _ (eq_ix2 i)).trans (Cert.ReferenceIdeal.Own.rs_sc q c k g v (i 0) (i 1) hp.1 hp.2)

/-- The kernel computes the reference. -/
theorem algebraic : Cert.algebraic_KernelIdeal_ReferenceIdeal_pre_finite_with_ones := by
  intro m ρ m' ρ' hpre hargs
  refine ⟨fun c => Cert.KernelIdeal.Own.final m c, (θ_run Cert.KernelIdeal.defs _ _).mono (fun r h c => ⟨(h.1 c).2, (h.1 c).1⟩) (Cert.KernelIdeal.Own.run m ρ),
    (θ_run Cert.ReferenceIdeal.defs _ _).mono (fun r h c => ⟨(h c).1.trans ?_, (h c).2⟩) (Cert.ReferenceIdeal.Value.run (F := Ideal) m' ρ')⟩
  obtain ⟨a0, a1, a2, a3, a4⟩ := hargs c
  rw [Cert.ReferenceIdeal.Own.res_eq, a0, a1, a2, a3, a4]
  have h1 := (Cert.Pre_finite_with_ones.Own.says_all _ _ _ _ _ (hpre c)).2.2.2.2
  exact (results _ _ _ _ _ (hpre c)).trans (Cert.KernelIdeal.Own.final_out m c h1).symm

end Cert.Proof
-- ==== Proof.Ffn.Frames.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import Idealize.ShloMosaic.Adequacy
public import Idealize.ShloMosaic.Init

/-!
The half step's claims that say nothing of the results' values: the three programs run, leave their arguments as they were and
every semaphore at zero.
-/

@[expose] public section

noncomputable section

namespace Cert.Proof

open Idealize.ShloMosaic Idealize.SL.Sem

/-- The half step runs, with the machine's floats. -/
theorem frame_kernel2 : Cert.quiescent_Kernel2 := fun m ρ _ => Cert.Kernel2.Gen.frame m ρ

/-- The half step runs, with extended reals. -/
theorem frame_kernel2Ideal : Cert.quiescent_Kernel2Ideal := fun m ρ _ => Cert.Kernel2Ideal.Gen.frame m ρ

/-- The half step's reference runs, with extended reals. -/
theorem frame_reference2Ideal : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

end Cert.Proof

end
-- ==== Proof.Ffn.Math.lean ====
module

public import Idealize.ShloMosaic.PureOps.Ideal
public import Mathlib.Analysis.SpecialFunctions.Trigonometric.DerivHyp
public import Mathlib.Algebra.BigOperators.Fin

/-!
The feed-forward half step in plain numbers: the root-mean-square normalisation of a row, the gated unit, the sum over the hidden
columns taken 256 at a time, and the sigmoid told by the hyperbolic tangent.
-/

@[expose] public section

noncomputable section

namespace Cert.Ffn

open Idealize.ShloMosaic

/-- The numbers a half, one, 1024 and the normalisation's epsilon, as the programs write them. -/
abbrev half : EReal := Ideal.ofBits .f32 0x3F000000#32
abbrev one : EReal := Ideal.ofBits .f32 0x3F800000#32
abbrev width : EReal := Ideal.ofBits .f32 0x44800000#32
abbrev eps : EReal := Ideal.ofBits .f32 0x358637BD#32

/-- A row over the root of its mean square, scaled by a gain for each column. -/
def rms (x g : Fin 1024 → EReal) (i : Fin 1024) : EReal :=
  x i * Ideal.rsqrt (Ideal.div (∑ j, x j * x j) width + eps) * g i

/-- The sigmoid. -/
def sigmoid (x : EReal) : EReal := Ideal.div one (one + Ideal.exp (-x))

/-- A row times a matrix, at a column. -/
def times {n p : ℕ} (x : Fin n → EReal) (w : Fin n → Fin p → EReal) (k : Fin p) : EReal := ∑ i, x i * w i k

/-- The gated unit at a hidden column. -/
def unit (x : Fin 1024 → EReal) (wg wu : Fin 1024 → Fin 2816 → EReal) (k : Fin 2816) : EReal :=
  times x wg k * sigmoid (times x wg k) * times x wu k

/-- The gated unit, brought back to the row's width. -/
def swiglu (x : Fin 1024 → EReal) (wg wu : Fin 1024 → Fin 2816 → EReal) (wd : Fin 2816 → Fin 1024 → EReal) : Fin 1024 → EReal :=
  times (unit x wg wu) wd

/-- The half step: a row and half its normalised gated unit. -/
def halfStep (x gpre gpost : Fin 1024 → EReal) (wg wu : Fin 1024 → Fin 2816 → EReal) (wd : Fin 2816 → Fin 1024 → EReal)
    (i : Fin 1024) : EReal :=
  x i + half * rms (swiglu (rms x gpre) wg wu wd) gpost i

theorem half_eq : half = ((1 / 2 : ℝ) : EReal) := by
  simp [half, Ideal.ofBits, Ideal.ieee]
  rw [← EReal.coe_mul]
  norm_num

theorem one_eq : one = 1 := by
  simp [one, Ideal.ofBits, Ideal.ieee]
  rw [← EReal.coe_mul]
  norm_num

/-- On reals, half of one and the hyperbolic tangent of half of `r` is the sigmoid of `r`. -/
theorem tanh_real (r : ℝ) : 1 / 2 * (1 + Real.tanh (1 / 2 * r)) = (1 + Real.exp (-r))⁻¹ := by
  have h1 : Real.exp (-r) = Real.exp (-(1 / 2 * r)) * Real.exp (-(1 / 2 * r)) := by
    rw [← Real.exp_add]; ring_nf
  have h2 : Real.exp (1 / 2 * r) * Real.exp (-(1 / 2 * r)) = 1 := by
    rw [← Real.exp_add]; simp
  have p := Real.exp_pos (1 / 2 * r)
  have q := Real.exp_pos (-(1 / 2 * r))
  rw [Real.tanh_eq_sinh_div_cosh, Real.sinh_eq, Real.cosh_eq, h1]
  generalize Real.exp (1 / 2 * r) = a at *
  generalize Real.exp (-(1 / 2 * r)) = b at *
  have : a + b ≠ 0 := by positivity
  have : 1 + b * b ≠ 0 := by positivity
  field_simp
  linear_combination (2 * b) * h2

/-- Half of one and the hyperbolic tangent of half of `x` is the sigmoid of `x`, at the infinities as well. -/
theorem sigmoid_tanh (x : EReal) : half * (one + Ideal.tanh (half * x)) = sigmoid x := by
  rw [sigmoid, half_eq, one_eq]
  induction x with
  | bot =>
    rw [EReal.coe_mul_bot_of_pos (by norm_num)]
    show ((1 / 2 : ℝ) : EReal) * (1 + -1) = Ideal.div 1 (1 + Ideal.exp (-⊥))
    rw [EReal.neg_bot]
    show _ = Ideal.div 1 (1 + ⊤)
    rw [show (1 : EReal) + ⊤ = ⊤ from rfl, Ideal.div, if_neg (by simp), EReal.inv_top, mul_zero]
    rw [show (1 : EReal) + -1 = ((1 + -1 : ℝ) : EReal) from rfl]
    norm_num
  | top =>
    rw [EReal.coe_mul_top_of_pos (by norm_num)]
    show ((1 / 2 : ℝ) : EReal) * (1 + 1) = Ideal.div 1 (1 + Ideal.exp (-⊤))
    rw [EReal.neg_top]
    show _ = Ideal.div 1 (1 + 0)
    rw [add_zero, Ideal.div, if_neg one_ne_zero, show (1 : EReal) + 1 = ((1 + 1 : ℝ) : EReal) from rfl, ← EReal.coe_mul]
    norm_num
  | coe r =>
    rw [← EReal.coe_mul, ← EReal.coe_neg]
    show ((1 / 2 : ℝ) : EReal) * (1 + ((Real.tanh (1 / 2 * r) : ℝ) : EReal)) = Ideal.div 1 (1 + ((Real.exp (-r) : ℝ) : EReal))
    have h : (1 + Real.exp (-r) : ℝ) ≠ 0 := by positivity
    rw [show (1 : EReal) = ((1 : ℝ) : EReal) from rfl, ← EReal.coe_add, ← EReal.coe_add, ← EReal.coe_mul, Ideal.div,
      if_neg (by exact_mod_cast h), ← EReal.coe_inv, ← EReal.coe_mul, one_mul, tanh_real]

/-- The 256 terms of a sum from the `a`-th on. -/
def part (f : Fin 2816 → EReal) (a : ℕ) (ha : a + 256 ≤ 2816) : EReal := ∑ k : Fin 256, f ⟨a + k.val, Nat.lt_of_lt_of_le (Nat.add_lt_add_left k.isLt a) ha⟩

/-- A sum's terms, told on every natural number. -/
def past (f : Fin 2816 → EReal) (n : ℕ) : EReal := if h : n < 2816 then f ⟨n, h⟩ else 0

theorem part_eq (f : Fin 2816 → EReal) (a : ℕ) (ha : a + 256 ≤ 2816) : part f a ha = ∑ k ∈ Finset.range 256, past f (a + k) := by
  rw [← Fin.sum_univ_eq_sum_range (fun k => past f (a + k)) 256, part]
  refine Finset.sum_congr rfl fun k _ => ?_
  rw [past, dif_pos]

theorem part_step (g : ℕ → EReal) (a : ℕ) :
    (∑ k ∈ Finset.range a, g k) + ∑ k ∈ Finset.range 256, g (a + k) = ∑ k ∈ Finset.range (a + 256), g k :=
  (Finset.sum_range_add g a 256).symm

/-- Eleven times 256 terms, one batch after another, are the whole sum. -/
theorem parts (f : Fin 2816 → EReal) : part f 0 (by decide) + part f 256 (by decide) + part f 512 (by decide) + part f 768 (by decide)
    + part f 1024 (by decide) + part f 1280 (by decide) + part f 1536 (by decide) + part f 1792 (by decide) + part f 2048 (by decide)
    + part f 2304 (by decide) + part f 2560 (by decide) = ∑ k, f k := by
  simp only [part_eq]
  rw [show (∑ k ∈ Finset.range 256, past f (0 + k)) = ∑ k ∈ Finset.range 256, past f k from Finset.sum_congr rfl fun k _ => by rw [Nat.zero_add]]
  rw [part_step, part_step, part_step, part_step, part_step, part_step, part_step, part_step, part_step, part_step]
  rw [← Fin.sum_univ_eq_sum_range (past f) 2816]
  exact Finset.sum_congr rfl fun k _ => dif_pos k.isLt

end Cert.Ffn
-- ==== Proof.Ffn.Body.lean ====
module

public import proofs.«01_k».proof.Proof.Ffn.Math
public import proofs.«01_k».proof.Proof.Gen.Kernel2Ideal.Frame
public import Idealize.ShloMosaic.Lib.Pointwise
public import Idealize.ShloMosaic.Lib.Pipeline.ValueKit

/-!
What the feed-forward half step's body leaves of its blocks: first as vectors (the normalised rows, eleven batches of 256 hidden
columns, the closing normalisation and sum), then at a row and a column.
-/

@[expose] public section

set_option maxRecDepth 16384

noncomputable section

namespace Cert.Kernel2Ideal.Own

open Cert.Kernel2Ideal Cert.Kernel2Ideal.Gen Cert.Ffn
open Idealize.ShloMosaic Idealize.ShloMosaic.TcCoe

/-- The product with a batch of 256 hidden columns. -/
def gateV (xn : FVec Ideal S512x1024 .bf16) (w : Vec Ideal S1024x256 .bf16) : FVec Ideal S512x256 .f32 :=
  matmul dot_S512x1024_S1024x256_S512x256_1_0_0_1_n_n none xn (shapeCast S1024x256 w shapeCasts_S1024x256_S1024x256 : FVec Ideal S1024x256 .bf16) (constant S512x256 .f32 0x00000000#32)

/-- The gated unit of a batch. -/
def unitV (g u : FVec Ideal S512x256 .f32) : FVec Ideal S512x256 .bf16 :=
  truncf .bf16 (mulf (mulf g (mulf (broadcast S512x256 (Scalar.ofBits .f32 0x3F000000#32))
    (addf (broadcast S512x256 (Scalar.ofBits .f32 0x3F800000#32)) (tanh (mulf (broadcast S512x256 (Scalar.ofBits .f32 0x3F000000#32)) g))))) u) bitsLt_bf16_f32

/-- A batch's share of the product with the second matrix. -/
def shareV (xn : FVec Ideal S512x1024 .bf16) (wg wu : Vec Ideal S1024x256 .bf16) (wd : Vec Ideal S256x1024 .bf16) : FVec Ideal S512x1024 .f32 :=
  matmul dot_S512x256_S256x1024_S512x1024_1_0_0_1_n_n none (unitV (gateV xn wg) (gateV xn wu)) (shapeCast S256x1024 wd shapeCasts_S256x1024_S256x1024 : FVec Ideal S256x1024 .bf16) (constant S512x1024 .f32 0x00000000#32)

/-- The rows over the root of their mean square, scaled. -/
def rmsV (x : FVec Ideal S512x1024 .f32) (g : FVec Ideal S1x1024 .f32) : FVec Ideal S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- The rows and half their normalised sum. -/
def endV (x h : FVec Ideal S512x1024 .f32) (g : FVec Ideal S1x1024 .f32) : FVec Ideal S512x1024 .f32 :=
  addf x (mulf (broadcast S512x1024 (Scalar.ofBits .f32 0x3F000000#32)) (rmsV h g))

section

variable (x0 : Vec Ideal S512x1024 .f32) (x1 x2 : Vec Ideal S1x1024 .f32) (x3 x4 : Vec Ideal S1024x2816 .bf16) (x5 : Vec Ideal S2816x1024 .bf16)

/-- The rows of the block. -/
def rowsV : FVec Ideal S512x1024 .f32 := shapeCast S512x1024 (View.ld x0 r0_0) shapeCasts_S512x1024_S512x1024

/-- The normalised rows of the block. -/
def normV : FVec Ideal S512x1024 .bf16 := truncf .bf16 (rmsV (rowsV x0) (View.ld x1 r0_1)) bitsLt_bf16_f32

/-- The sum of the eleven batches. -/
def sumV (xn : FVec Ideal S512x1024 .bf16) : FVec Ideal S512x1024 .f32 :=
  addf (addf (addf (addf (addf (addf (addf (addf (addf (addf
    (shareV xn (View.ld x3 r0_2) (View.ld x4 r0_2) (View.ld x5 r0_3))
    (shareV xn (View.ld x3 r0_4) (View.ld x4 r0_4) (View.ld x5 r0_5)))
    (shareV xn (View.ld x3 r0_6) (View.ld x4 r0_6) (View.ld x5 r0_7)))
    (shareV xn (View.ld x3 r0_8) (View.ld x4 r0_8) (View.ld x5 r0_9)))
    (shareV xn (View.ld x3 r0_10) (View.ld x4 r0_10) (View.ld x5 r0_11)))
    (shareV xn (View.ld x3 r0_12) (View.ld x4 r0_12) (View.ld x5 r0_13)))
    (shareV xn (View.ld x3 r0_14) (View.ld x4 r0_14) (View.ld x5 r0_15)))
    (shareV xn (View.ld x3 r0_16) (View.ld x4 r0_16) (View.ld x5 r0_17)))
    (shareV xn (View.ld x3 r0_18) (View.ld x4 r0_18) (View.ld x5 r0_19)))
    (shareV xn (View.ld x3 r0_20) (View.ld x4 r0_20) (View.ld x5 r0_21)))
    (shareV xn (View.ld x3 r0_22) (View.ld x4 r0_22) (View.ld x5 r0_23))

/-- What the body leaves in the results' block, as one vector. -/
theorem body_eq : out0_6 x0 x1 x2 x3 x4 x5 =
    View.canon [⟨r0_0, endV (rowsV x0) (sumV x3 x4 x5 (normV x0 x1)) (View.ld x2 r0_1)⟩] := by
  unfold_out out0_6
  rfl

end

/-- A batch's product at a row and a column of the batch. -/
theorem gateV_at (xn : FVec Ideal S512x1024 .bf16) (w : Vec Ideal S1024x256 .bf16) (r : Fin 512) (k : Fin 256) :
    gateV xn w (ix2 r k) = ∑ i : Fin 1024, (xn (ix2 r i) : EReal) * (w (ix2 i k) : EReal) := by
  pointwise [gateV]

theorem unitV_at (g u : FVec Ideal S512x256 .f32) (r : Fin 512) (k : Fin 256) :
    (unitV g u (ix2 r k) : EReal) = g (ix2 r k) * (half * (one + Ideal.tanh (half * g (ix2 r k)))) * u (ix2 r k) := by
  pointwise [unitV]

theorem shareV_at (xn : FVec Ideal S512x1024 .bf16) (wg wu : Vec Ideal S1024x256 .bf16) (wd : Vec Ideal S256x1024 .bf16) (r : Fin 512) (o : Fin 1024) :
    (shareV xn wg wu wd (ix2 r o) : EReal) = ∑ k : Fin 256, (unitV (gateV xn wg) (gateV xn wu) (ix2 r k) : EReal) * (wd (ix2 k o) : EReal) := by
  pointwise [shareV]

theorem rmsV_at (x : FVec Ideal S512x1024 .f32) (g : FVec Ideal S1x1024 .f32) (r : Fin 512) (o : Fin 1024) :
    (rmsV x g (ix2 r o) : EReal) = rms (fun i => x (ix2 r i)) (fun i => g (ix2 0 i)) o := by
  pointwise [rmsV]
  rfl

theorem endV_at (x h : FVec Ideal S512x1024 .f32) (g : FVec Ideal S1x1024 .f32) (r : Fin 512) (o : Fin 1024) :
    (endV x h g (ix2 r o) : EReal) = x (ix2 r o) + half * rms (fun i => h (ix2 r i)) (fun i => g (ix2 0 i)) o := by
  rw [← rmsV_at]
  pointwise [endV]

end Cert.Kernel2Ideal.Own

end
-- ==== Proof.Ffn.Value.lean ====
module

public import proofs.«01_k».proof.Proof.Ffn.Body
public import proofs.«01_k».proof.Proof.Gen.Kernel2Ideal.Value
public import Idealize.ShloMosaic.Lib.StableHlo.ReadAt

/-!
The feed-forward half step's results: what each block holds of the arguments, and the results' array told by row and column.
-/

@[expose] public section

set_option maxRecDepth 16384

noncomputable section

namespace Cert.Kernel2Ideal.Own

open Cert.Kernel2Ideal Cert.Kernel2Ideal.Gen Cert.Ffn
open Idealize.ShloMosaic Idealize.ShloMosaic.TcCoe Idealize.ShloMosaic.Pipeline

section

variable (x0 : Vec Ideal S512x1024 .f32) (x1 x2 : Vec Ideal S1x1024 .f32) (x3 x4 : Vec Ideal S1024x2816 .bf16) (x5 : Vec Ideal S2816x1024 .bf16)

/-- The gated unit of a row, from the block's matrices. -/
def unitB (xn : FVec Ideal S512x1024 .bf16) (r : Fin 512) (o : Fin 1024) (k : Fin 2816) : EReal :=
  unit (fun i => xn (ix2 r i)) (fun i k => x3 (ix2 i k)) (fun i k => x4 (ix2 i k)) k * x5 (ix2 k o)

/-- A batch's share is its part of the whole sum. -/
theorem share_part (xn : FVec Ideal S512x1024 .bf16) (wg wu : Vec Ideal S1024x256 .bf16) (wd : Vec Ideal S256x1024 .bf16) (a : ℕ) (ha : a + 256 ≤ 2816)
    (hg : ∀ (i : Fin 1024) (k : Fin 256) (K : Fin 2816), K.val = a + k.val → (wg (ix2 i k) : EReal) = x3 (ix2 i K))
    (hu : ∀ (i : Fin 1024) (k : Fin 256) (K : Fin 2816), K.val = a + k.val → (wu (ix2 i k) : EReal) = x4 (ix2 i K))
    (hd : ∀ (k : Fin 256) (K : Fin 2816) (o : Fin 1024), K.val = a + k.val → (wd (ix2 k o) : EReal) = x5 (ix2 K o)) (r : Fin 512) (o : Fin 1024) :
    (shareV xn wg wu wd (ix2 r o) : EReal) = part (unitB x3 x4 x5 xn r o) a ha := by
  rw [shareV_at, part]
  refine Finset.sum_congr rfl fun k _ => ?_
  have hK : a + k.val < 2816 := Nat.lt_of_lt_of_le (Nat.add_lt_add_left k.isLt a) ha
  rw [unitV_at, sigmoid_tanh, gateV_at, gateV_at, hd k ⟨a + k.val, hK⟩ o rfl, unitB, unit, times, times]
  simp only [fun i => hg i k ⟨a + k.val, hK⟩ rfl, fun i => hu i k ⟨a + k.val, hK⟩ rfl]

/-- The eleven batches are the gated unit brought back to the row's width. -/
theorem sumV_at (xn : FVec Ideal S512x1024 .bf16) (r : Fin 512) (o : Fin 1024) :
    (sumV x3 x4 x5 xn (ix2 r o) : EReal) = swiglu (fun i => xn (ix2 r i)) (fun i k => x3 (ix2 i k)) (fun i k => x4 (ix2 i k)) (fun k o => x5 (ix2 k o)) o := by
  refine Eq.trans ?_ (parts (unitB x3 x4 x5 xn r o))
  unfold sumV
  simp only [addf_apply]
  refine congrArg₂ _ (congrArg₂ _ (congrArg₂ _ (congrArg₂ _ (congrArg₂ _ (congrArg₂ _ (congrArg₂ _ (congrArg₂ _ (congrArg₂ _ (congrArg₂ _
    ?_ ?_) ?_) ?_) ?_) ?_) ?_) ?_) ?_) ?_) ?_
  all_goals
    refine share_part x3 x4 x5 xn _ _ _ _ _ (fun i k K h => ?_) (fun i k K h => ?_) (fun k K o h => ?_) r o
    · pointwise
      exact congrArg x3 (by blk_ext)
    · pointwise
      exact congrArg x4 (by blk_ext)
    · pointwise
      exact congrArg x5 (by blk_ext)

/-- What the body leaves in the results' block, at a row and a column. -/
theorem body_at (r : Fin 512) (o : Fin 1024) : (out0_6 x0 x1 x2 x3 x4 x5 (ix2 r o) : EReal)
    = halfStep (fun i => x0 (ix2 r i)) (fun i => x1 (ix2 0 i)) (fun i => x2 (ix2 0 i)) (fun i k => x3 (ix2 i k)) (fun i k => x4 (ix2 i k)) (fun k o => x5 (ix2 k o)) o := by
  have e0 : ∀ i, (rowsV x0 (ix2 r i) : EReal) = x0 (ix2 r i) := fun i => by pointwise [rowsV]
  have e1 : ∀ i, (View.ld x1 r0_1 (ix2 0 i) : EReal) = x1 (ix2 0 i) := fun i => by pointwise
  have e2 : ∀ i, (View.ld x2 r0_1 (ix2 0 i) : EReal) = x2 (ix2 0 i) := fun i => by pointwise
  have e3 : ∀ i, (normV x0 x1 (ix2 r i) : EReal) = rms (fun i => x0 (ix2 r i)) (fun i => x1 (ix2 0 i)) i := fun i => by
    refine (show _ = (rmsV (rowsV x0) (View.ld x1 r0_1) (ix2 r i) : EReal) by pointwise [normV]).trans ?_
    rw [rmsV_at]
    simp only [e0, e1]
  have e : out0_6 x0 x1 x2 x3 x4 x5 (ix2 r o) = endV (rowsV x0) (sumV x3 x4 x5 (normV x0 x1)) (View.ld x2 r0_1) (ix2 r o) := by
    rw [body_eq]
    exact congrFun (View.canon_cons_unit_lit _ _ _ (by decide)) (ix2 r o)
  refine e.trans ?_
  rw [endV_at]
  simp only [sumV_at, e0, e2, e3]
  rfl

end

end Cert.Kernel2Ideal.Own

end
-- ==== Proof.Ffn.Windows.lean ====
module

public import proofs.«01_k».proof.Proof.Ffn.Value
public import Idealize.ShloMosaic.Lib.StableHlo.ReadAt

/-!
The half step's blocks, element by element: which element of the arguments each is; and the results' array told by row and column.
-/

@[expose] public section

set_option maxRecDepth 16384

noncomputable section

namespace Cert.Kernel2Ideal.Own

open Cert.Kernel2Ideal Cert.Kernel2Ideal.Gen Cert.Ffn
open Idealize.ShloMosaic Idealize.ShloMosaic.TcCoe Idealize.ShloMosaic.Pipeline

theorem e0 : ∀ t : Fin cfg0.N, win0_0.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![(grid0.coords t 0).val, 0] := (by decide +kernel : ∀ t : Fin grid0.N, _)

variable (m : (ℓ : Loc nD τ sig) → Buf (Elt Ideal) ℓ) (c : Dev nD) (t : Fin cfg0.N)

/-- The rows' block: 512 rows of the argument. -/
theorem blk0 (r : Fin 512) (i : Fin 1024) (T : Fin 16384) (hr : T.val = 512 * (grid0.coords t 0).val + r.val) :
    (iblk m c 0 t : Vec Ideal S512x1024 .f32) (ix2 r i) = (m ((c.tc : Thread nD τ).loc main_arg0) : S1x16384x1024.Idx → EReal) (ix3 0 T i) := by
  refine Eq.trans (b := (V m c main_v0 : S16384x1024.Idx → EReal) (ix2 T i)) ?_ (by unfold V; after_reads_at)
  show iblk m c 0 t (ix2 r i) = V m c main_v0 (ix2 T i)
  blk_simp [iblk, e0]
  refine congrArg (V m c main_v0) ?_
  blk_ext [e0]

/-- The first gains. -/
theorem blk1 (i : Fin 1024) :
    (iblk m c 1 t : Vec Ideal S1x1024 .f32) (ix2 0 i) = (m ((c.tc : Thread nD τ).loc main_arg1) : S1x1024.Idx → EReal) (ix2 0 i) := by
  refine Eq.trans (b := (V m c main_v2 : S1x1024.Idx → EReal) (ix2 0 i)) ?_ (by unfold V; after_reads_at)
  show iblk m c 1 t (ix2 0 i) = V m c main_v2 (ix2 0 i)
  blk_simp [iblk, e1]
  refine congrArg (V m c main_v2) ?_
  blk_ext [e1]

/-- The last gains. -/
theorem blk2 (i : Fin 1024) :
    (iblk m c 2 t : Vec Ideal S1x1024 .f32) (ix2 0 i) = (m ((c.tc : Thread nD τ).loc main_arg2) : S1x1024.Idx → EReal) (ix2 0 i) := by
  refine Eq.trans (b := (V m c main_v4 : S1x1024.Idx → EReal) (ix2 0 i)) ?_ (by unfold V; after_reads_at)
  show iblk m c 2 t (ix2 0 i) = V m c main_v4 (ix2 0 i)
  blk_simp [iblk, e2]
  refine congrArg (V m c main_v4) ?_
  blk_ext [e2]

/-- The first matrix, whole. -/
theorem blk3 (i : Fin 1024) (k : Fin 2816) :
    (iblk m c 3 t : Vec Ideal S1024x2816 .bf16) (ix2 i k) = (m ((c.tc : Thread nD τ).loc main_arg3) : S1x1024x2816.Idx → EReal) (ix3 0 i k) := by
  refine Eq.trans (b := (V m c main_v6 : S1024x2816.Idx → EReal) (ix2 i k)) ?_ (by unfold V; after_reads_at)
  show iblk m c 3 t (ix2 i k) = V m c main_v6 (ix2 i k)
  blk_simp [iblk, e3]
  refine congrArg (V m c main_v6) ?_
  blk_ext [e3]

/-- The second matrix, whole. -/
theorem blk4 (i : Fin 1024) (k : Fin 2816) :
    (iblk m c 4 t : Vec Ideal S1024x2816 .bf16) (ix2 i k) = (m ((c.tc : Thread nD τ).loc main_arg4) : S1x1024x2816.Idx → EReal) (ix3 0 i k) := by
  refine Eq.trans (b := (V m c main_v8 : S1024x2816.Idx → EReal) (ix2 i k)) ?_ (by unfold V; after_reads_at)
  show iblk m c 4 t (ix2 i k) = V m c main_v8 (ix2 i k)
  blk_simp [iblk, e4]
  refine congrArg (V m c main_v8) ?_
  blk_ext [e4]

/-- The third matrix, whole. -/
theorem blk5 (k : Fin 2816) (i : Fin 1024) :
    (iblk m c 5 t : Vec Ideal S2816x1024 .bf16) (ix2 k i) = (m ((c.tc : Thread nD τ).loc main_arg5) : S1x2816x1024.Idx → EReal) (ix3 0 k i) := by
  refine Eq.trans (b := (V m c main_v10 : S2816x1024.Idx → EReal) (ix2 k i)) ?_ (by unfold V; after_reads_at)
  show iblk m c 5 t (ix2 k i) = V m c main_v10 (ix2 k i)
  blk_simp [iblk, e5]
  refine congrArg (V m c main_v10) ?_
  blk_ext [e5]

/-- The half step of row `T` of the arguments, at a column. -/
def stepOf (T : Fin 16384) (o : Fin 1024) : EReal :=
  halfStep (fun i => (m ((c.tc : Thread nD τ).loc main_arg0) : S1x16384x1024.Idx → EReal) (ix3 0 T i))
    (fun i => (m ((c.tc : Thread nD τ).loc main_arg1) : S1x1024.Idx → EReal) (ix2 0 i))
    (fun i => (m ((c.tc : Thread nD τ).loc main_arg2) : S1x1024.Idx → EReal) (ix2 0 i))
    (fun i k => (m ((c.tc : Thread nD τ).loc main_arg3) : S1x1024x2816.Idx → EReal) (ix3 0 i k))
    (fun i k => (m ((c.tc : Thread nD τ).loc main_arg4) : S1x1024x2816.Idx → EReal) (ix3 0 i k))
    (fun k o => (m ((c.tc : Thread nD τ).loc main_arg5) : S1x2816x1024.Idx → EReal) (ix3 0 k o)) o

/-- A block of the results, at a row and a column. -/
theorem out_at (r : Fin 512) (o : Fin 1024) (T : Fin 16384) (hr : T.val = 512 * (grid0.coords t 0).val + r.val) :
    (out0_6 (iblk m c 0 t) (iblk m c 1 t) (iblk m c 2 t) (iblk m c 3 t) (iblk m c 4 t) (iblk m c 5 t) : Vec Ideal S512x1024 .f32) (ix2 r o)
      = stepOf m c T o := by
  refine (body_at _ _ _ _ _ _ r o).trans ?_
  rw [stepOf]
  simp only [blk0 m c t r _ T hr, blk1, blk2, blk3, blk4, blk5]

/-- The results' array. -/
theorem final_eq : (dats m 0 c).arrAt 6 cfg0.N = fun i : S16384x1024.Idx => stepOf m c (i 0) (i 1) := by
  refine (dats m 0 c).arrAt_eq_of_covers 6 _ (by decide +kernel) fun t hf y => ?_
  blk_simp [e6]
  rw [after0_6]
  have h0 : (grid0.coords t 0).val < 32 := (grid0.coords t 0).isLt
  have y0 : (y 0).val < 512 := (y 0).isLt
  have hy : y = ix2 (y 0) (y 1) := eq_ix2 y
  have hT : 512 * (grid0.coords t 0).val + (y 0).val < 16384 := by omega
  have e : (win0_6.blk t).view.emb y = ix2 (⟨512 * (grid0.coords t 0).val + (y 0).val, hT⟩ : Fin 16384) (y 1 : Fin 1024) := by
    blk_ext [e6]
  rw [e]
  exact (congrArg _ hy).trans (out_at m c t (y 0) (y 1) _ rfl)

end Cert.Kernel2Ideal.Own

end
-- ==== Proof.Ffn.Reference.lean ====
module

public import proofs.«01_k».proof.Proof.Ffn.Math
public import proofs.«01_k».proof.Proof.Gen.Reference2Ideal.Run
public import Idealize.ShloMosaic.Lib.Pointwise

/-!
The feed-forward half step's reference: its term in pieces, each read at a row and a column.
-/

@[expose] public section

set_option maxRecDepth 16384

noncomputable section

namespace Cert.Reference2Ideal.Own

open Cert.Reference2Ideal Cert.Reference2Ideal.Gen Cert.Reference2Ideal.Value Cert.Ffn
open Idealize.ShloMosaic Idealize.ShloMosaic.TcCoe

variable (x h : FVec Ideal S1x16384x1024 .f32) (g : FVec Ideal S1x1024 .f32) (w : FVec Ideal S1x1024x2816 .f32) (wd : FVec Ideal S1x2816x1024 .f32)
  (G U : FVec Ideal S1x16384x2816 .f32)

/-- The rows over the root of their mean square, scaled. -/
def rmsR : FVec Ideal S1x16384x1024 .f32 :=
  mulf (mulf x (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 (shapeCast S1024 g shapeCasts_S1x1024_S1024)))

/-- The product with a first matrix. -/
def gateR : FVec Ideal S1x16384x2816 .f32 :=
  Host.dotGeneral dot_S1x16384x1024_S1024x2816_S1x16384x2816_2_0_01_1_n_n none x (shapeCast S1024x2816 w shapeCasts_S1x1024x2816_S1024x2816 : FVec Ideal S1024x2816 .f32)

/-- The gated unit. -/
def unitR : FVec Ideal S1x16384x2816 .f32 :=
  mulf (mulf G (Host.divf (broadcastInDim S1x16384x2816 ![] bcast_S_S1x16384x2816 (constant S_ .f32 0x3F800000#32)) (addf (broadcastInDim S1x16384x2816 ![] bcast_S_S1x16384x2816 (constant S_ .f32 0x3F800000#32)) (Host.exp (Host.negf G))))) U

/-- The product with the second matrix. -/
def downR : FVec Ideal S1x16384x1024 .f32 :=
  Host.dotGeneral dot_S1x16384x2816_S2816x1024_S1x16384x1024_2_0_01_1_n_n none G (shapeCast S2816x1024 wd shapeCasts_S1x2816x1024_S2816x1024 : FVec Ideal S2816x1024 .f32)

/-- The rows and half the normalised rows. -/
def endR : FVec Ideal S1x16384x1024 .f32 :=
  addf x (mulf (broadcastInDim S1x16384x1024 ![] bcast_S_S1x16384x1024 (constant S_ .f32 0x3F000000#32)) (rmsR h g))

/-- The half step. -/
def stepR (x : FVec Ideal S1x16384x1024 .f32) (gpre gpost : FVec Ideal S1x1024 .f32) (wg wu : FVec Ideal S1x1024x2816 .f32) (wd : FVec Ideal S1x2816x1024 .f32) :
    FVec Ideal S1x16384x1024 .f32 :=
  endR x (downR wd (unitR (gateR (rmsR x gpre) wg) (gateR (rmsR x gpre) wu))) gpost

theorem rmsR_at (T : Fin 16384) (o : Fin 1024) :
    (rmsR x g (ix3 0 T o) : EReal) = rms (fun i => x (ix3 0 T i)) (fun i => g (ix2 0 i)) o := by
  pointwise [rmsR]
  rfl

theorem gateR_at (T : Fin 16384) (k : Fin 2816) :
    (gateR x w (ix3 0 T k) : EReal) = times (fun i => x (ix3 0 T i)) (fun i k => w (ix3 0 i k)) k := by
  pointwise [gateR]
  rfl

theorem unitR_at (T : Fin 16384) (k : Fin 2816) :
    (unitR G U (ix3 0 T k) : EReal) = G (ix3 0 T k) * sigmoid (G (ix3 0 T k)) * U (ix3 0 T k) := by
  rw [sigmoid, one_eq]
  pointwise [unitR]

theorem downR_at (T : Fin 16384) (o : Fin 1024) :
    (downR wd G (ix3 0 T o) : EReal) = times (fun i => G (ix3 0 T i)) (fun i k => wd (ix3 0 i k)) o := by
  pointwise [downR]
  rfl

theorem endR_at (T : Fin 16384) (o : Fin 1024) :
    (endR x h g (ix3 0 T o) : EReal) = x (ix3 0 T o) + half * rms (fun i => h (ix3 0 T i)) (fun i => g (ix2 0 i)) o := by
  rw [← rmsR_at]
  pointwise [endR]

/-- The half step at a row and a column. -/
theorem stepR_at (gpre gpost : FVec Ideal S1x1024 .f32) (wg wu : FVec Ideal S1x1024x2816 .f32) (T : Fin 16384) (o : Fin 1024) :
    (stepR x gpre gpost wg wu wd (ix3 0 T o) : EReal) = halfStep (fun i => x (ix3 0 T i)) (fun i => gpre (ix2 0 i)) (fun i => gpost (ix2 0 i))
      (fun i k => wg (ix3 0 i k)) (fun i k => wu (ix3 0 i k)) (fun i k => wd (ix3 0 i k)) o := by
  unfold stepR
  rw [endR_at]
  simp only [downR_at, unitR_at, gateR_at, rmsR_at]
  rfl

theorem res_eq (m : (ℓ : Loc nD τ sig) → Buf (Elt Ideal) ℓ) (d : Dev nD) : res_main_v39 m d
    = shapeCast S16384x1024 (stepR (m ((d.tc : Thread nD τ).loc main_arg0)) (m ((d.tc : Thread nD τ).loc main_arg1)) (m ((d.tc : Thread nD τ).loc main_arg2))
      (m ((d.tc : Thread nD τ).loc main_arg3)) (m ((d.tc : Thread nD τ).loc main_arg4)) (m ((d.tc : Thread nD τ).loc main_arg5))) shapeCasts_S1x16384x1024_S16384x1024 := rfl

/-- The reference's result at a row and a column. -/
theorem res_at (v : FVec Ideal S1x16384x1024 .f32) (T : Fin 16384) (o : Fin 1024) :
    (shapeCast S16384x1024 v shapeCasts_S1x16384x1024_S16384x1024 : FVec Ideal S16384x1024 .f32) (ix2 T o) = v (ix3 0 T o) := by
  pointwise

end Cert.Reference2Ideal.Own

end
-- ==== Proof.Ffn.Algebraic.lean ====
module

public import proofs.«01_k».proof.Defs
public import proofs.«01_k».proof.Proof.Ffn.Windows
public import proofs.«01_k».proof.Proof.Ffn.Reference

/-!
The half step's value claim: the kernel and the reference, given the same arguments, end with the same results.
-/

@[expose] public section

noncomputable section

namespace Cert.Proof

open Idealize.ShloMosaic Idealize.SL.Sem Cert.Ffn

/-- The kernel computes the half step's reference. -/
theorem algebraic2 : Cert.algebraic_Kernel2Ideal_Reference2Ideal := by
  intro m ρ m' ρ' _ hargs
  refine ⟨fun c => (Cert.Kernel2Ideal.Gen.dats m 0 c).arrAt 6 Cert.Kernel2Ideal.cfg0.N, Cert.Kernel2Ideal.Value.run_blocks m ρ,
    (θ_run Cert.Reference2Ideal.defs _ _).mono (fun r h c => ⟨(h c).1.trans ?_, (h c).2⟩) (Cert.Reference2Ideal.Value.run (F := Ideal) m' ρ')⟩
  obtain ⟨a0, a1, a2, a3, a4, a5⟩ := hargs c
  rw [Cert.Reference2Ideal.Own.res_eq, a0, a1, a2, a3, a4, a5]
  refine Eq.trans ?_ (Cert.Kernel2Ideal.Own.final_eq m c).symm
  funext i
  exact (congrArg _ (eq_ix2 i)).trans ((Cert.Reference2Ideal.Own.res_at _ (i 0) (i 1)).trans (Cert.Reference2Ideal.Own.stepR_at _ _ _ _ _ _ (i 0) (i 1)))

end Cert.Proof

end
-- ==== Proof.Out.Math.lean ====
module

public import proofs.«01_k».proof.Proof.Ffn.Math

/-!
The last call's mathematics, a row at a time: the two attentions' rows brought to the layer's width, gated, mixed and added to the
stream; then the second feed-forward half step.
-/

@[expose] public section

noncomputable section

namespace Cert.Out

open Cert.Ffn Idealize.ShloMosaic

/-- The two attentions' rows `oa` and `ob`, each through its own matrix and gated. -/
def merged {n d : ℕ} (oa ob : Fin n → EReal) (wa wb : Fin n → Fin d → EReal) (ga gb : Fin d → EReal) (k : Fin d) : EReal :=
  ga k * times oa wa k + gb k * times ob wb k

/-- The stream's row with the mixed attention added. -/
def mixStep {n : ℕ} (x : Fin 1024 → EReal) (oa ob : Fin n → EReal) (wa wb : Fin n → Fin 1024 → EReal) (ga gb : Fin 1024 → EReal)
    (wout : Fin 1024 → Fin 1024 → EReal) (g : Fin 1024 → EReal) (i : Fin 1024) : EReal :=
  x i + rms (times (merged oa ob wa wb ga gb) wout) g i

end Cert.Out

end
-- ==== Proof.Out.Reference.lean ====
module

public import proofs.«01_k».proof.Proof.Out.Math
public import proofs.«01_k».proof.Proof.Gen.Reference3Ideal
public import Idealize.ShloMosaic.Lib.Pointwise

/-!
The last call's reference in pieces, each read at a row and a column.
-/

@[expose] public section

set_option maxRecDepth 16384

noncomputable section

namespace Cert.Reference3Ideal.Own

open Cert.Reference3Ideal Cert.Reference3Ideal.Gen Cert.Ffn Cert.Out
open Idealize.ShloMosaic Idealize.ShloMosaic.TcCoe

variable (x h : FVec Ideal S16384x1024 .f32) (g : FVec Ideal S1x1024 .f32) (w : FVec Ideal S1x1024x2816 .f32) (wd : FVec Ideal S1x2816x1024 .f32)
  (G U : FVec Ideal S16384x2816 .f32) (oat : FVec Ideal S512x16384 .bf16) (ob : FVec Ideal S16384x512 .bf16) (o : FVec Ideal S16384x512 .f32)
  (ga gb : FVec Ideal S16384x1024 .bf16) (wb : FVec Ideal S1x512x1024 .f32) (wout : FVec Ideal S1x1024x1024 .f32)

/-- The rows over the root of their mean square, scaled. -/
def rmsR : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast S1024 g shapeCasts_S1x1024_S1024)))

/-- The first attention's rows. -/
def turnR : FVec Ideal S16384x512 .f32 := extf .f32 (transpose S16384x512 [1, 0] oat transposes_S512x16384_S16384x512_1_0 : FVec Ideal S16384x512 .bf16) bitsLt_bf16_f32

/-- An attention's rows brought to the layer's width and gated. -/
def wideR : FVec Ideal S16384x1024 .f32 :=
  mulf (extf .f32 ga bitsLt_bf16_f32) (Host.dotGeneral dot_S16384x512_S512x1024_S16384x1024_1_0_0_1_n_n none o (shapeCast S512x1024 wb shapeCasts_S1x512x1024_S512x1024 : FVec Ideal S512x1024 .f32))

/-- The mixed rows. -/
def outR : FVec Ideal S16384x1024 .f32 :=
  Host.dotGeneral dot_S16384x1024_S1024x1024_S16384x1024_1_0_0_1_n_n none h (shapeCast S1024x1024 wout shapeCasts_S1x1024x1024_S1024x1024 : FVec Ideal S1024x1024 .f32)

/-- The stream with the mixed attention added. -/
def mixR (wa wb : FVec Ideal S1x512x1024 .f32) : FVec Ideal S16384x1024 .f32 :=
  addf x (rmsR (outR (addf (wideR (turnR oat) ga wa) (wideR (extf .f32 ob bitsLt_bf16_f32) gb wb)) wout) g)

/-- The product with a first matrix. -/
def gateR : FVec Ideal S16384x2816 .f32 :=
  Host.dotGeneral dot_S16384x1024_S1024x2816_S16384x2816_1_0_0_1_n_n none x (shapeCast S1024x2816 w shapeCasts_S1x1024x2816_S1024x2816 : FVec Ideal S1024x2816 .f32)

/-- The gated unit. -/
def unitR : FVec Ideal S16384x2816 .f32 :=
  mulf (mulf G (Host.divf (broadcastInDim S16384x2816 ![] bcast_S_S16384x2816 (constant S_ .f32 0x3F800000#32)) (addf (broadcastInDim S16384x2816 ![] bcast_S_S16384x2816 (constant S_ .f32 0x3F800000#32)) (Host.exp (Host.negf G))))) U

/-- The product with the second matrix. -/
def downR : FVec Ideal S16384x1024 .f32 :=
  Host.dotGeneral dot_S16384x2816_S2816x1024_S16384x1024_1_0_0_1_n_n none G (shapeCast S2816x1024 wd shapeCasts_S1x2816x1024_S2816x1024 : FVec Ideal S2816x1024 .f32)

/-- The rows and half the normalised rows. -/
def endR : FVec Ideal S16384x1024 .f32 :=
  addf x (mulf (broadcastInDim S16384x1024 ![] bcast_S_S16384x1024 (constant S_ .f32 0x3F000000#32)) (rmsR h g))

/-- The feed-forward of rows. -/
def ffnR (wg wu : FVec Ideal S1x1024x2816 .f32) : FVec Ideal S16384x1024 .f32 :=
  downR wd (unitR (gateR x wg) (gateR x wu))

theorem rmsR_at (T : Fin 16384) (o : Fin 1024) :
    (rmsR x g (ix2 T o) : EReal) = rms (fun i => x (ix2 T i)) (fun i => g (ix2 0 i)) o := by
  pointwise [rmsR]
  rfl

theorem turnR_at (T : Fin 16384) (i : Fin 512) : (turnR oat (ix2 T i) : EReal) = oat (ix2 i T) := by
  pointwise [turnR]

theorem wideR_at (T : Fin 16384) (k : Fin 1024) :
    (wideR o ga wb (ix2 T k) : EReal) = (ga (ix2 T k) : EReal) * times (fun i => o (ix2 T i)) (fun i k => wb (ix3 0 i k)) k := by
  pointwise [wideR]
  rfl

theorem outR_at (T : Fin 16384) (k : Fin 1024) :
    (outR h wout (ix2 T k) : EReal) = times (fun i => h (ix2 T i)) (fun i k => wout (ix3 0 i k)) k := by
  pointwise [outR]
  rfl

/-- The stream with the mixed attention added, at a row and a column. -/
theorem mixR_at (wa wb : FVec Ideal S1x512x1024 .f32) (T : Fin 16384) (i : Fin 1024) :
    (mixR x g oat ob ga gb wout wa wb (ix2 T i) : EReal) = mixStep (fun i => x (ix2 T i)) (fun i => oat (ix2 i T)) (fun i => ob (ix2 T i))
      (fun i k => wa (ix3 0 i k)) (fun i k => wb (ix3 0 i k)) (fun k => ga (ix2 T k)) (fun k => gb (ix2 T k)) (fun i k => wout (ix3 0 i k)) (fun i => g (ix2 0 i)) i := by
  have eb : ∀ i, ((extf .f32 ob bitsLt_bf16_f32 : FVec Ideal S16384x512 .f32) (ix2 T i) : EReal) = ob (ix2 T i) := fun i => by pointwise
  rw [mixR, addf_apply, rmsR_at]
  simp only [outR_at, addf_apply, wideR_at, turnR_at, eb]
  rfl

theorem gateR_at (T : Fin 16384) (k : Fin 2816) :
    (gateR x w (ix2 T k) : EReal) = times (fun i => x (ix2 T i)) (fun i k => w (ix3 0 i k)) k := by
  pointwise [gateR]
  rfl

theorem unitR_at (T : Fin 16384) (k : Fin 2816) :
    (unitR G U (ix2 T k) : EReal) = G (ix2 T k) * sigmoid (G (ix2 T k)) * U (ix2 T k) := by
  rw [sigmoid, one_eq]
  pointwise [unitR]

theorem downR_at (T : Fin 16384) (o : Fin 1024) :
    (downR wd G (ix2 T o) : EReal) = times (fun i => G (ix2 T i)) (fun i k => wd (ix3 0 i k)) o := by
  pointwise [downR]
  rfl

theorem endR_at (T : Fin 16384) (o : Fin 1024) :
    (endR x h g (ix2 T o) : EReal) = x (ix2 T o) + half * rms (fun i => h (ix2 T i)) (fun i => g (ix2 0 i)) o := by
  rw [← rmsR_at]
  pointwise [endR]

/-- The half step of rows `x`, at a row and a column. -/
theorem stepR_at (gpre gpost : FVec Ideal S1x1024 .f32) (wg wu : FVec Ideal S1x1024x2816 .f32) (T : Fin 16384) (o : Fin 1024) :
    (endR x (ffnR (rmsR x gpre) wd wg wu) gpost (ix2 T o) : EReal) = halfStep (fun i => x (ix2 T i)) (fun i => gpre (ix2 0 i)) (fun i => gpost (ix2 0 i))
      (fun i k => wg (ix3 0 i k)) (fun i k => wu (ix3 0 i k)) (fun i k => wd (ix3 0 i k)) o := by
  unfold ffnR
  rw [endR_at]
  simp only [downR_at, unitR_at, gateR_at, rmsR_at]
  rfl

end Cert.Reference3Ideal.Own

end
-- ==== Proof.Out.Run.lean ====
module

public import proofs.«01_k».proof.Proof.Out.Reference
public import Idealize.ShloMosaic.Lib.StableHlo.Run
public import Idealize.ShloMosaic.Lib.StableHlo.RunRead

/-!
The last call's reference, run: its operations in four stretches, what each stretch leaves, and the run's result as the pieces of
`Out.Reference`.
-/

@[expose] public section

set_option maxRecDepth 16384

noncomputable section

namespace Cert.Reference3Ideal.Own

open Cert.Reference3Ideal Cert.Reference3Ideal.Gen
open Idealize.ShloMosaic Idealize.ShloMosaic.TcCoe Idealize.SL.Sem Idealize.ShloMosaic.StableHlo

section

variable {F : FTy → Type} [FloatOps F]

/-- The stream after the mixed attention. -/
abbrev opsA : List (HloOp τ sig (Elt F)) :=
  [ unary main_arg1 main_v0 ((transpose S16384x512 [1, 0] · transposes_S512x16384_S16384x512_1_0) : (⟨S512x16384, .bf16⟩ : BufTy).Contents (Elt F) → (⟨S16384x512, .bf16⟩ : BufTy).Contents (Elt F)),
    unary main_v0 main_v1 ((extf .f32 · bitsLt_bf16_f32) : (⟨S16384x512, .bf16⟩ : BufTy).Contents (Elt F) → (⟨S16384x512, .f32⟩ : BufTy).Contents (Elt F)),
    unary main_arg2 main_v2 ((extf .f32 · bitsLt_bf16_f32) : (⟨S16384x512, .bf16⟩ : BufTy).Contents (Elt F) → (⟨S16384x512, .f32⟩ : BufTy).Contents (Elt F)),
    unary main_arg3 main_v3 ((extf .f32 · bitsLt_bf16_f32) : (⟨S16384x1024, .bf16⟩ : BufTy).Contents (Elt F) → (⟨S16384x1024, .f32⟩ : BufTy).Contents (Elt F)),
    unary main_arg4 main_v4 ((extf .f32 · bitsLt_bf16_f32) : (⟨S16384x1024, .bf16⟩ : BufTy).Contents (Elt F) → (⟨S16384x1024, .f32⟩ : BufTy).Contents (Elt F)),
    reshape main_arg6 main_v5 (rfl : (.f32 : EltTy) = .f32) shapeCasts_S1x512x1024_S512x1024,
    binary main_v1 main_v5 main_v6 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    binary main_v3 main_v6 main_v7 (mulf : (⟨S16384x1024, .f32⟩ : BufTy).Contents (Elt F) → (⟨S16384x1024, .f32⟩ : BufTy).Contents (Elt F) → (⟨S16384x1024, .f32⟩ : BufTy).Contents (Elt F)),
    reshape main_arg7 main_v8 (rfl : (.f32 : EltTy) = .f32) shapeCasts_S1x512x1024_S512x1024,
    binary main_v2 main_v8 main_v9 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    binary main_v4 main_v9 main_v10 (mulf : (⟨S16384x1024, .f32⟩ : BufTy).Contents (Elt F) → (⟨S16384x1024, .f32⟩ : BufTy).Contents (Elt F) → (⟨S16384x1024, .f32⟩ : BufTy).Contents (Elt F)),
    binary main_v7 main_v10 main_v11 (addf : (⟨S16384x1024, .f32⟩ : BufTy).Contents (Elt F) → (⟨S16384x1024, .f32⟩ : BufTy).Contents (Elt F) → (⟨S16384x1024, .f32⟩ : BufTy).Contents (Elt F)),
    reshape main_arg8 main_v12 (rfl : (.f32 : EltTy) = .f32) shapeCasts_S1x1024x1024_S1024x1024,
    binary main_v11 main_v12 main_v13 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    reshape main_arg5 main_v14 (rfl : (.f32 : EltTy) = .f32) shapeCasts_S1x1024_S1024,
    binary main_v13 main_v13 main_v15 (mulf : (⟨S16384x1024, .f32⟩ : BufTy).Contents (Elt F) → (⟨S16384x1024, .f32⟩ : BufTy).Contents (Elt F) → (⟨S16384x1024, .f32⟩ : BufTy).Contents (Elt F)),
    nullary main_cst (constant S_ .f32 0x00000000#32),
    binary main_v15 main_cst main_v16 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v16 main_v17 (broadcastInDim S16384x1 ![0] bcast_S16384_S16384x1_0 : (⟨S16384, .f32⟩ : BufTy).Contents (Elt F) → (⟨S16384x1, .f32⟩ : BufTy).Contents (Elt F)),
    nullary main_cst_0 (constant S_ .f32 0x44800000#32),
    unary main_cst_0 main_v18 (broadcastInDim S16384x1 ![] bcast_S_S16384x1 : (⟨S_, .f32⟩ : BufTy).Contents (Elt F) → (⟨S16384x1, .f32⟩ : BufTy).Contents (Elt F)),
    binary main_v17 main_v18 main_v19 (Host.divf : (⟨S16384x1, .f32⟩ : BufTy).Contents (Elt F) → (⟨S16384x1, .f32⟩ : BufTy).Contents (Elt F) → (⟨S16384x1, .f32⟩ : BufTy).Contents (Elt F)),
    nullary main_cst_1 (constant S_ .f32 0x358637BD#32),
    unary main_cst_1 main_v20 (broadcastInDim S16384x1 ![] bcast_S_S16384x1 : (⟨S_, .f32⟩ : BufTy).Contents (Elt F) → (⟨S16384x1, .f32⟩ : BufTy).Contents (Elt F)),
    binary main_v19 main_v20 main_v21 (addf : (⟨S16384x1, .f32⟩ : BufTy).Contents (Elt F) → (⟨S16384x1, .f32⟩ : BufTy).Contents (Elt F) → (⟨S16384x1, .f32⟩ : BufTy).Contents (Elt F)),
    unary main_v21 main_v22 (Host.rsqrt : (⟨S16384x1, .f32⟩ : BufTy).Contents (Elt F) → (⟨S16384x1, .f32⟩ : BufTy).Contents (Elt F)),
    unary main_v22 main_v23 (broadcastInDim S16384x1024 ![0, 1] bcast_S16384x1_S16384x1024_0_1 : (⟨S16384x1, .f32⟩ : BufTy).Contents (Elt F) → (⟨S16384x1024, .f32⟩ : BufTy).Contents (Elt F)),
    binary main_v13 main_v23 main_v24 (mulf : (⟨S16384x1024, .f32⟩ : BufTy).Contents (Elt F) → (⟨S16384x1024, .f32⟩ : BufTy).Contents (Elt F) → (⟨S16384x1024, .f32⟩ : BufTy).Contents (Elt F)),
    unary main_v14 main_v25 (broadcastInDim S1x1024 ![1] bcast_S1024_S1x1024_1 : (⟨S1024, .f32⟩ : BufTy).Contents (Elt F) → (⟨S1x1024, .f32⟩ : BufTy).Contents (Elt F)),
    unary main_v25 main_v26 (broadcastInDim S16384x1024 ![0, 1] bcast_S1x1024_S16384x1024_0_1 : (⟨S1x1024, .f32⟩ : BufTy).Contents (Elt F) → (⟨S16384x1024, .f32⟩ : BufTy).Contents (Elt F)),
    binary main_v24 main_v26 main_v27 (mulf : (⟨S16384x1024, .f32⟩ : BufTy).Contents (Elt F) → (⟨S16384x1024, .f32⟩ : BufTy).Contents (Elt F) → (⟨S16384x1024, .f32⟩ : BufTy).Contents (Elt F)),
    binary main_arg0 main_v27 main_v28 (addf : (⟨S16384x1024, .f32⟩ : BufTy).Contents (Elt F) → (⟨S16384x1024, .f32⟩ : BufTy).Contents (Elt F) → (⟨S16384x1024, .f32⟩ : BufTy).Contents (Elt F)) ]

/-- What these operations write. -/
abbrev wrA : List (Ref sig .tc) := [main_v0, main_v1, main_v2, main_v3, main_v4, main_v5, main_v6, main_v7, main_v8, main_v9, main_v10, main_v11, main_v12, main_v13, main_v14, main_v15, main_cst, main_v16, main_v17, main_cst_0, main_v18, main_v19, main_cst_1, main_v20, main_v21, main_v22, main_v23, main_v24, main_v25, main_v26, main_v27, main_v28]

/-- The stream, normalised for the feed-forward. -/
abbrev opsB : List (HloOp τ sig (Elt F)) :=
  [ reshape main_arg9 main_v29 (rfl : (.f32 : EltTy) = .f32) shapeCasts_S1x1024_S1024,
    binary main_v28 main_v28 main_v30 (mulf : (⟨S16384x1024, .f32⟩ : BufTy).Contents (Elt F) → (⟨S16384x1024, .f32⟩ : BufTy).Contents (Elt F) → (⟨S16384x1024, .f32⟩ : BufTy).Contents (Elt F)),
    nullary main_cst_2 (constant S_ .f32 0x00000000#32),
    binary main_v30 main_cst_2 main_v31 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v31 main_v32 (broadcastInDim S16384x1 ![0] bcast_S16384_S16384x1_0 : (⟨S16384, .f32⟩ : BufTy).Contents (Elt F) → (⟨S16384x1, .f32⟩ : BufTy).Contents (Elt F)),
    nullary main_cst_3 (constant S_ .f32 0x44800000#32),
    unary main_cst_3 main_v33 (broadcastInDim S16384x1 ![] bcast_S_S16384x1 : (⟨S_, .f32⟩ : BufTy).Contents (Elt F) → (⟨S16384x1, .f32⟩ : BufTy).Contents (Elt F)),
    binary main_v32 main_v33 main_v34 (Host.divf : (⟨S16384x1, .f32⟩ : BufTy).Contents (Elt F) → (⟨S16384x1, .f32⟩ : BufTy).Contents (Elt F) → (⟨S16384x1, .f32⟩ : BufTy).Contents (Elt F)),
    nullary main_cst_4 (constant S_ .f32 0x358637BD#32),
    unary main_cst_4 main_v35 (broadcastInDim S16384x1 ![] bcast_S_S16384x1 : (⟨S_, .f32⟩ : BufTy).Contents (Elt F) → (⟨S16384x1, .f32⟩ : BufTy).Contents (Elt F)),
    binary main_v34 main_v35 main_v36 (addf : (⟨S16384x1, .f32⟩ : BufTy).Contents (Elt F) → (⟨S16384x1, .f32⟩ : BufTy).Contents (Elt F) → (⟨S16384x1, .f32⟩ : BufTy).Contents (Elt F)),
    unary main_v36 main_v37 (Host.rsqrt : (⟨S16384x1, .f32⟩ : BufTy).Contents (Elt F) → (⟨S16384x1, .f32⟩ : BufTy).Contents (Elt F)),
    unary main_v37 main_v38 (broadcastInDim S16384x1024 ![0, 1] bcast_S16384x1_S16384x1024_0_1 : (⟨S16384x1, .f32⟩ : BufTy).Contents (Elt F) → (⟨S16384x1024, .f32⟩ : BufTy).Contents (Elt F)),
    binary main_v28 main_v38 main_v39 (mulf : (⟨S16384x1024, .f32⟩ : BufTy).Contents (Elt F) → (⟨S16384x1024, .f32⟩ : BufTy).Contents (Elt F) → (⟨S16384x1024, .f32⟩ : BufTy).Contents (Elt F)),
    unary main_v29 main_v40 (broadcastInDim S1x1024 ![1] bcast_S1024_S1x1024_1 : (⟨S1024, .f32⟩ : BufTy).Contents (Elt F) → (⟨S1x1024, .f32⟩ : BufTy).Contents (Elt F)),
    unary main_v40 main_v41 (broadcastInDim S16384x1024 ![0, 1] bcast_S1x1024_S16384x1024_0_1 : (⟨S1x1024, .f32⟩ : BufTy).Contents (Elt F) → (⟨S16384x1024, .f32⟩ : BufTy).Contents (Elt F)),
    binary main_v39 main_v41 main_v42 (mulf : (⟨S16384x1024, .f32⟩ : BufTy).Contents (Elt F) → (⟨S16384x1024, .f32⟩ : BufTy).Contents (Elt F) → (⟨S16384x1024, .f32⟩ : BufTy).Contents (Elt F)) ]

/-- What these operations write. -/
abbrev wrB : List (Ref sig .tc) := [main_v29, main_v30, main_cst_2, main_v31, main_v32, main_cst_3, main_v33, main_v34, main_cst_4, main_v35, main_v36, main_v37, main_v38, main_v39, main_v40, main_v41, main_v42]

/-- The feed-forward of it. -/
abbrev opsC : List (HloOp τ sig (Elt F)) :=
  [ reshape main_arg11 main_v43 (rfl : (.f32 : EltTy) = .f32) shapeCasts_S1x1024x2816_S1024x2816,
    reshape main_arg12 main_v44 (rfl : (.f32 : EltTy) = .f32) shapeCasts_S1x1024x2816_S1024x2816,
    reshape main_arg13 main_v45 (rfl : (.f32 : EltTy) = .f32) shapeCasts_S1x2816x1024_S2816x1024,
    binary main_v42 main_v43 main_v46 ((fun l r => Host.dotGeneral dot_S16384x1024_S1024x2816_S16384x2816_1_0_0_1_n_n none l r) : (⟨S16384x1024, .f32⟩ : BufTy).Contents (Elt F) → (⟨S1024x2816, .f32⟩ : BufTy).Contents (Elt F) → (⟨S16384x2816, .f32⟩ : BufTy).Contents (Elt F)),
    TRef.unary (TRef.of (T := ⟨S16384x2816, .f32⟩) main_v46) (TRef.of (T := ⟨S16384x2816, .f32⟩) main_call0_v0) Host.negf,
    TRef.unary (TRef.of (T := ⟨S16384x2816, .f32⟩) main_call0_v0) (TRef.of (T := ⟨S16384x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S16384x2816, .f32⟩) main_call0_v2) (broadcastInDim S16384x2816 ![] bcast_S_S16384x2816),
    TRef.binary (TRef.of (T := ⟨S16384x2816, .f32⟩) main_call0_v2) (TRef.of (T := ⟨S16384x2816, .f32⟩) main_call0_v1) (TRef.of (T := ⟨S16384x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S16384x2816, .f32⟩) main_call0_v4) (broadcastInDim S16384x2816 ![] bcast_S_S16384x2816),
    TRef.binary (TRef.of (T := ⟨S16384x2816, .f32⟩) main_call0_v4) (TRef.of (T := ⟨S16384x2816, .f32⟩) main_call0_v3) (TRef.of (T := ⟨S16384x2816, .f32⟩) main_call0_v5) Host.divf,
    TRef.binary (TRef.of (T := ⟨S16384x2816, .f32⟩) main_v46) (TRef.of (T := ⟨S16384x2816, .f32⟩) main_call0_v5) (TRef.of (T := ⟨S16384x2816, .f32⟩) main_v47) mulf,
    binary main_v42 main_v44 main_v48 ((fun l r => Host.dotGeneral dot_S16384x1024_S1024x2816_S16384x2816_1_0_0_1_n_n none l r) : (⟨S16384x1024, .f32⟩ : BufTy).Contents (Elt F) → (⟨S1024x2816, .f32⟩ : BufTy).Contents (Elt F) → (⟨S16384x2816, .f32⟩ : BufTy).Contents (Elt F)),
    binary main_v47 main_v48 main_v49 (mulf : (⟨S16384x2816, .f32⟩ : BufTy).Contents (Elt F) → (⟨S16384x2816, .f32⟩ : BufTy).Contents (Elt F) → (⟨S16384x2816, .f32⟩ : BufTy).Contents (Elt F)),
    binary main_v49 main_v45 main_v50 ((fun l r => Host.dotGeneral dot_S16384x2816_S2816x1024_S16384x1024_1_0_0_1_n_n none l r) : (⟨S16384x2816, .f32⟩ : BufTy).Contents (Elt F) → (⟨S2816x1024, .f32⟩ : BufTy).Contents (Elt F) → (⟨S16384x1024, .f32⟩ : BufTy).Contents (Elt F)) ]

/-- What these operations write. -/
abbrev wrC : List (Ref sig .tc) := [main_v43, main_v44, main_v45, main_v46, main_call0_v0, main_call0_v1, main_call0_cst, main_call0_v2, main_call0_v3, main_call0_cst_0, main_call0_v4, main_call0_v5, main_v47, main_v48, main_v49, main_v50]

/-- The sum of the two. -/
abbrev opsD : List (HloOp τ sig (Elt F)) :=
  [ reshape main_arg10 main_v51 (rfl : (.f32 : EltTy) = .f32) shapeCasts_S1x1024_S1024,
    binary main_v50 main_v50 main_v52 (mulf : (⟨S16384x1024, .f32⟩ : BufTy).Contents (Elt F) → (⟨S16384x1024, .f32⟩ : BufTy).Contents (Elt F) → (⟨S16384x1024, .f32⟩ : BufTy).Contents (Elt F)),
    nullary main_cst_5 (constant S_ .f32 0x00000000#32),
    binary main_v52 main_cst_5 main_v53 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v53 main_v54 (broadcastInDim S16384x1 ![0] bcast_S16384_S16384x1_0 : (⟨S16384, .f32⟩ : BufTy).Contents (Elt F) → (⟨S16384x1, .f32⟩ : BufTy).Contents (Elt F)),
    nullary main_cst_6 (constant S_ .f32 0x44800000#32),
    unary main_cst_6 main_v55 (broadcastInDim S16384x1 ![] bcast_S_S16384x1 : (⟨S_, .f32⟩ : BufTy).Contents (Elt F) → (⟨S16384x1, .f32⟩ : BufTy).Contents (Elt F)),
    binary main_v54 main_v55 main_v56 (Host.divf : (⟨S16384x1, .f32⟩ : BufTy).Contents (Elt F) → (⟨S16384x1, .f32⟩ : BufTy).Contents (Elt F) → (⟨S16384x1, .f32⟩ : BufTy).Contents (Elt F)),
    nullary main_cst_7 (constant S_ .f32 0x358637BD#32),
    unary main_cst_7 main_v57 (broadcastInDim S16384x1 ![] bcast_S_S16384x1 : (⟨S_, .f32⟩ : BufTy).Contents (Elt F) → (⟨S16384x1, .f32⟩ : BufTy).Contents (Elt F)),
    binary main_v56 main_v57 main_v58 (addf : (⟨S16384x1, .f32⟩ : BufTy).Contents (Elt F) → (⟨S16384x1, .f32⟩ : BufTy).Contents (Elt F) → (⟨S16384x1, .f32⟩ : BufTy).Contents (Elt F)),
    unary main_v58 main_v59 (Host.rsqrt : (⟨S16384x1, .f32⟩ : BufTy).Contents (Elt F) → (⟨S16384x1, .f32⟩ : BufTy).Contents (Elt F)),
    unary main_v59 main_v60 (broadcastInDim S16384x1024 ![0, 1] bcast_S16384x1_S16384x1024_0_1 : (⟨S16384x1, .f32⟩ : BufTy).Contents (Elt F) → (⟨S16384x1024, .f32⟩ : BufTy).Contents (Elt F)),
    binary main_v50 main_v60 main_v61 (mulf : (⟨S16384x1024, .f32⟩ : BufTy).Contents (Elt F) → (⟨S16384x1024, .f32⟩ : BufTy).Contents (Elt F) → (⟨S16384x1024, .f32⟩ : BufTy).Contents (Elt F)),
    unary main_v51 main_v62 (broadcastInDim S1x1024 ![1] bcast_S1024_S1x1024_1 : (⟨S1024, .f32⟩ : BufTy).Contents (Elt F) → (⟨S1x1024, .f32⟩ : BufTy).Contents (Elt F)),
    unary main_v62 main_v63 (broadcastInDim S16384x1024 ![0, 1] bcast_S1x1024_S16384x1024_0_1 : (⟨S1x1024, .f32⟩ : BufTy).Contents (Elt F) → (⟨S16384x1024, .f32⟩ : BufTy).Contents (Elt F)),
    binary main_v61 main_v63 main_v64 (mulf : (⟨S16384x1024, .f32⟩ : BufTy).Contents (Elt F) → (⟨S16384x1024, .f32⟩ : BufTy).Contents (Elt F) → (⟨S16384x1024, .f32⟩ : BufTy).Contents (Elt F)),
    nullary main_cst_8 (constant S_ .f32 0x3F000000#32),
    unary main_cst_8 main_v65 (broadcastInDim S16384x1024 ![] bcast_S_S16384x1024 : (⟨S_, .f32⟩ : BufTy).Contents (Elt F) → (⟨S16384x1024, .f32⟩ : BufTy).Contents (Elt F)),
    binary main_v65 main_v64 main_v66 (mulf : (⟨S16384x1024, .f32⟩ : BufTy).Contents (Elt F) → (⟨S16384x1024, .f32⟩ : BufTy).Contents (Elt F) → (⟨S16384x1024, .f32⟩ : BufTy).Contents (Elt F)),
    binary main_v28 main_v66 main_v67 (addf : (⟨S16384x1024, .f32⟩ : BufTy).Contents (Elt F) → (⟨S16384x1024, .f32⟩ : BufTy).Contents (Elt F) → (⟨S16384x1024, .f32⟩ : BufTy).Contents (Elt F)) ]

/-- What these operations write. -/
abbrev wrD : List (Ref sig .tc) := [main_v51, main_v52, main_cst_5, main_v53, main_v54, main_cst_6, main_v55, main_v56, main_cst_7, main_v57, main_v58, main_v59, main_v60, main_v61, main_v62, main_v63, main_v64, main_cst_8, main_v65, main_v66, main_v67]

/-- All of them, in order. -/
abbrev ops : List (HloOp τ sig (Elt F)) := opsA ++ (opsB ++ (opsC ++ opsD))

set_option maxHeartbeats 4000000 in
/-- The program is that line. -/
theorem main_eq (c : Dev nD) : main (F := F) c = seq ops := rfl

theorem no_refs : (Finset.univ.filter fun b : Ref sig .tc => b.isScoped) = ∅ := by decide

theorem no_sems : (Finset.univ.filter fun sm : SemLoc sig => sm.isScoped .tc) = ∅ := by decide

theorem subA : (opsA (F := F)).Forall fun op => op.bufs ⊆ tcRefs τ sig :=
  ⟨unary_bufs_sub .., unary_bufs_sub .., unary_bufs_sub .., unary_bufs_sub .., unary_bufs_sub .., reshape_bufs_sub .., binary_bufs_sub .., binary_bufs_sub .., reshape_bufs_sub .., binary_bufs_sub .., binary_bufs_sub .., binary_bufs_sub .., reshape_bufs_sub .., binary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub ..⟩

theorem freshA (op : HloOp τ sig (Elt F)) (h : op ∈ opsA) : op.fresh = ∅ := by
  repeat (cases h with | head => rfl | tail _ h => ?_)
  exact nomatch h

theorem subB : (opsB (F := F)).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

theorem freshB (op : HloOp τ sig (Elt F)) (h : op ∈ opsB) : op.fresh = ∅ := by
  repeat (cases h with | head => rfl | tail _ h => ?_)
  exact nomatch h

theorem subC : (opsC (F := F)).Forall fun op => op.bufs ⊆ tcRefs τ sig :=
  ⟨reshape_bufs_sub .., reshape_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub ..⟩

theorem freshC (op : HloOp τ sig (Elt F)) (h : op ∈ opsC) : op.fresh = ∅ := by
  repeat (cases h with | head => rfl | tail _ h => ?_)
  exact nomatch h

theorem subD : (opsD (F := F)).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

theorem freshD (op : HloOp τ sig (Elt F)) (h : op ∈ opsD) : op.fresh = ∅ := by
  repeat (cases h with | head => rfl | tail _ h => ?_)
  exact nomatch h

theorem ops_sub : (ops : List (HloOp τ sig (Elt F))).Forall fun op => op.bufs ⊆ tcRefs τ sig :=
  List.forall_append.2 ⟨subA, List.forall_append.2 ⟨subB, List.forall_append.2 ⟨subC, subD⟩⟩⟩

theorem ops_fresh (op : HloOp τ sig (Elt F)) (h : op ∈ ops) : op.fresh = ∅ :=
  (List.mem_append.1 h).elim (freshA op) fun h => (List.mem_append.1 h).elim (freshB op) fun h => (List.mem_append.1 h).elim (freshC op) (freshD op)

/-- A line of two stretches is the second after the first. -/
theorem after_stretch (l₁ l₂ : List (HloOp τ sig (Elt F))) (V : Valuation τ sig (Elt F)) : after (l₁ ++ l₂) V = after l₂ (after l₁ V) := by
  induction l₁ generalizing V with
  | nil => rfl
  | cons op l ih => exact ih _

theorem writesA : (opsA (F := F)).map HloOp.writes = wrA.map fun w => {Proc.devRef (τ := τ) .tc w} := rfl
theorem writesB : (opsB (F := F)).map HloOp.writes = wrB.map fun w => {Proc.devRef (τ := τ) .tc w} := rfl
theorem writesC : (opsC (F := F)).map HloOp.writes = wrC.map fun w => {Proc.devRef (τ := τ) .tc w} := rfl
theorem writesD : (opsD (F := F)).map HloOp.writes = wrD.map fun w => {Proc.devRef (τ := τ) .tc w} := rfl

end

variable (V : Valuation τ sig (Elt Ideal))

/-- The first stretch's result. -/
theorem readA : after opsA V (Proc.devRef .tc main_v28) = mixR (V (Proc.devRef .tc main_arg0)) (V (Proc.devRef .tc main_arg5)) (V (Proc.devRef .tc main_arg1))
    (V (Proc.devRef .tc main_arg2)) (V (Proc.devRef .tc main_arg3)) (V (Proc.devRef .tc main_arg4)) (V (Proc.devRef .tc main_arg8)) (V (Proc.devRef .tc main_arg6)) (V (Proc.devRef .tc main_arg7)) := by
  simp only [opsA, TRef.binary, TRef.nullary, TRef.unary, TRef.toBuf, TRef.ofBuf, cast_eq]; after_results_simp <;> rfl

/-- The second stretch's result. -/
theorem readB : after opsB V (Proc.devRef .tc main_v42) = rmsR (V (Proc.devRef .tc main_v28)) (V (Proc.devRef .tc main_arg9)) := by
  simp only [opsB, TRef.binary, TRef.nullary, TRef.unary, TRef.toBuf, TRef.ofBuf, cast_eq]; after_results_simp <;> rfl

/-- The third stretch's result. -/
theorem readC : after opsC V (Proc.devRef .tc main_v50)
    = ffnR (V (Proc.devRef .tc main_v42)) (V (Proc.devRef .tc main_arg13)) (V (Proc.devRef .tc main_arg11)) (V (Proc.devRef .tc main_arg12)) := by
  simp only [opsC, TRef.binary, TRef.nullary, TRef.unary, TRef.toBuf, TRef.ofBuf, cast_eq]; after_results_simp <;> rfl

/-- The last stretch's result. -/
theorem readD : after opsD V (Proc.devRef .tc main_v67) = endR (V (Proc.devRef .tc main_v28)) (V (Proc.devRef .tc main_v50)) (V (Proc.devRef .tc main_arg10)) := by
  simp only [opsD, TRef.binary, TRef.nullary, TRef.unary, TRef.toBuf, TRef.ofBuf, cast_eq]; after_results_simp <;> rfl

/-- What no stretch writes keeps its contents. -/
theorem kept {r : Ref sig .tc} (hA : r ∉ wrA) (hB : r ∉ wrB) (hC : r ∉ wrC) (hD : r ∉ wrD) : after ops V (Proc.devRef .tc r) = V (Proc.devRef .tc r) := by
  rw [ops, after_stretch, after_stretch, after_stretch, after_unwritten wrD writesD hD, after_unwritten wrC writesC hC, after_unwritten wrB writesB hB,
    after_unwritten wrA writesA hA]

/-- The whole line's result. -/
theorem read : after ops V (Proc.devRef .tc main_v67)
    = endR (mixR (V (Proc.devRef .tc main_arg0)) (V (Proc.devRef .tc main_arg5)) (V (Proc.devRef .tc main_arg1))
        (V (Proc.devRef .tc main_arg2)) (V (Proc.devRef .tc main_arg3)) (V (Proc.devRef .tc main_arg4)) (V (Proc.devRef .tc main_arg8)) (V (Proc.devRef .tc main_arg6)) (V (Proc.devRef .tc main_arg7)))
      (ffnR (rmsR (mixR (V (Proc.devRef .tc main_arg0)) (V (Proc.devRef .tc main_arg5)) (V (Proc.devRef .tc main_arg1))
        (V (Proc.devRef .tc main_arg2)) (V (Proc.devRef .tc main_arg3)) (V (Proc.devRef .tc main_arg4)) (V (Proc.devRef .tc main_arg8)) (V (Proc.devRef .tc main_arg6)) (V (Proc.devRef .tc main_arg7)))
        (V (Proc.devRef .tc main_arg9))) (V (Proc.devRef .tc main_arg13)) (V (Proc.devRef .tc main_arg11)) (V (Proc.devRef .tc main_arg12))) (V (Proc.devRef .tc main_arg10)) := by
  rw [ops, after_stretch, after_stretch, after_stretch, readD, readC, after_unwritten wrC writesC (r := main_v28) (by decide),
    after_unwritten wrB writesB (r := main_v28) (by decide), readB, readA,
    after_unwritten wrC writesC (r := main_arg10) (by decide), after_unwritten wrB writesB (r := main_arg10) (by decide), after_unwritten wrA writesA (r := main_arg10) (by decide),
    after_unwritten wrB writesB (r := main_arg11) (by decide), after_unwritten wrA writesA (r := main_arg11) (by decide),
    after_unwritten wrB writesB (r := main_arg12) (by decide), after_unwritten wrA writesA (r := main_arg12) (by decide),
    after_unwritten wrB writesB (r := main_arg13) (by decide), after_unwritten wrA writesA (r := main_arg13) (by decide),
    after_unwritten wrA writesA (r := main_arg9) (by decide)]

/-- The reference's result from the arguments. -/
def resR (m : (ℓ : Loc nD τ sig) → Buf (Elt Ideal) ℓ) (c : Dev nD) : FVec Ideal S16384x1024 .f32 :=
  endR (mixR (m ((c.tc : Thread nD τ).loc main_arg0)) (m ((c.tc : Thread nD τ).loc main_arg5)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg8))
      (m ((c.tc : Thread nD τ).loc main_arg6)) (m ((c.tc : Thread nD τ).loc main_arg7)))
    (ffnR (rmsR (mixR (m ((c.tc : Thread nD τ).loc main_arg0)) (m ((c.tc : Thread nD τ).loc main_arg5)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg8))
      (m ((c.tc : Thread nD τ).loc main_arg6)) (m ((c.tc : Thread nD τ).loc main_arg7)))
      (m ((c.tc : Thread nD τ).loc main_arg9))) (m ((c.tc : Thread nD τ).loc main_arg13)) (m ((c.tc : Thread nD τ).loc main_arg11)) (m ((c.tc : Thread nD τ).loc main_arg12)))
    (m ((c.tc : Thread nD τ).loc main_arg10))

/-- On every device the reference ends with its result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = resR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v67).trans (read _),
      (h c main_arg0).trans (kept _ (by decide) (by decide) (by decide) (by decide)),
      (h c main_arg1).trans (kept _ (by decide) (by decide) (by decide) (by decide)),
      (h c main_arg2).trans (kept _ (by decide) (by decide) (by decide) (by decide)),
      (h c main_arg3).trans (kept _ (by decide) (by decide) (by decide) (by decide)),
      (h c main_arg4).trans (kept _ (by decide) (by decide) (by decide) (by decide)),
      (h c main_arg5).trans (kept _ (by decide) (by decide) (by decide) (by decide)),
      (h c main_arg6).trans (kept _ (by decide) (by decide) (by decide) (by decide)),
      (h c main_arg7).trans (kept _ (by decide) (by decide) (by decide) (by decide)),
      (h c main_arg8).trans (kept _ (by decide) (by decide) (by decide) (by decide)),
      (h c main_arg9).trans (kept _ (by decide) (by decide) (by decide) (by decide)),
      (h c main_arg10).trans (kept _ (by decide) (by decide) (by decide) (by decide)),
      (h c main_arg11).trans (kept _ (by decide) (by decide) (by decide) (by decide)),
      (h c main_arg12).trans (kept _ (by decide) (by decide) (by decide) (by decide)),
      (h c main_arg13).trans (kept _ (by decide) (by decide) (by decide) (by decide))⟩)
    (run_seq no_refs no_sems defs main (fun _ => ops) main_eq (fun _ => ops_sub) m ρ fun _ => ops_fresh)

end Cert.Reference3Ideal.Own

end
-- ==== Proof.Out.Frames.lean ====
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Out.Run
public import Idealize.ShloMosaic.Adequacy
public import Idealize.ShloMosaic.Init

/-!
The last call's claims that say nothing of the results' values: the three programs run, leave their arguments as they were and
every semaphore at zero.
-/

@[expose] public section

noncomputable section

namespace Cert.Proof

open Idealize.ShloMosaic Idealize.SL.Sem

/-- The last call runs, with the machine's floats. -/
theorem frame_kernel3 : Cert.quiescent_Kernel3 := fun m ρ _ => Cert.Kernel3.Gen.frame m ρ

/-- The last call runs, with extended reals. -/
theorem frame_kernel3Ideal : Cert.quiescent_Kernel3Ideal := fun m ρ _ => Cert.Kernel3Ideal.Gen.frame m ρ

/-- The last call's reference runs, with extended reals. -/
theorem frame_reference3Ideal : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Own.run m ρ)

end Cert.Proof

end
-- ==== Proof.Out.Body.lean ====
module

public import proofs.«01_k».proof.Proof.Ffn.Value
public import proofs.«01_k».proof.Proof.Out.Math
public import proofs.«01_k».proof.Proof.Gen.Kernel3Ideal.Frame

/-!
What the last call's body leaves of its blocks: first as vectors (the mixed rows, then the feed-forward half step's own vectors),
then at a row and a column.
-/

@[expose] public section

set_option maxRecDepth 16384

noncomputable section

namespace Cert.Kernel3Ideal.Own

open Cert.Kernel3Ideal Cert.Kernel3Ideal.Gen Cert.Ffn Cert.Out
open Idealize.ShloMosaic Idealize.ShloMosaic.TcCoe
open Cert.Kernel2Ideal.Own (rmsV rmsV_at sumV sumV_at endV endV_at)

/-- The first attention's rows: the block, transposed. -/
def turnV (oa : Vec Ideal S512x512 .bf16) : FVec Ideal S512x512 .bf16 :=
  truncf .bf16 (transpose S512x512 [1, 0] (extf .f32 oa bitsLt_bf16_f32) transposes_S512x512_p1_0_S512x512) bitsLt_bf16_f32

/-- An attention's rows brought to the layer's width. -/
def wideV (o : FVec Ideal S512x512 .bf16) (w : Vec Ideal S512x1024 .bf16) : FVec Ideal S512x1024 .f32 :=
  matmul dot_S512x512_S512x1024_S512x1024_1_0_0_1_n_n none o (shapeCast S512x1024 w shapeCasts_S512x1024_S512x1024 : FVec Ideal S512x1024 .bf16) (constant S512x1024 .f32 0x00000000#32)

/-- The two, gated and added. -/
def mergeV (a b : FVec Ideal S512x1024 .f32) (ga gb : Vec Ideal S512x1024 .bf16) : FVec Ideal S512x1024 .bf16 :=
  truncf .bf16 (addf (mulf (extf .f32 ga bitsLt_bf16_f32) a) (mulf (extf .f32 gb bitsLt_bf16_f32) b)) bitsLt_bf16_f32

/-- The mixed rows. -/
def outV (h : FVec Ideal S512x1024 .bf16) (w : Vec Ideal S1024x1024 .bf16) : FVec Ideal S512x1024 .f32 :=
  matmul dot_S512x1024_S1024x1024_S512x1024_1_0_0_1_n_n none h (shapeCast S1024x1024 w shapeCasts_S1024x1024_S1024x1024 : FVec Ideal S1024x1024 .bf16) (constant S512x1024 .f32 0x00000000#32)

section

variable (x0 : Vec Ideal S512x1024 .f32) (x1 x2 : Vec Ideal S512x512 .bf16) (x3 x4 x5 x6 : Vec Ideal S512x1024 .bf16) (x7 : Vec Ideal S1024x1024 .bf16)
  (x8 x9 x10 : Vec Ideal S1x1024 .f32) (x11 x12 : Vec Ideal S1024x2816 .bf16) (x13 : Vec Ideal S2816x1024 .bf16)

/-- The gated sum of the block. -/
def mergedV : FVec Ideal S512x1024 .bf16 :=
  mergeV (wideV (turnV (View.ld x1 r0_0)) (View.ld x5 r0_1)) (wideV (View.ld x2 r0_0) (View.ld x6 r0_1)) (View.ld x3 r0_1) (View.ld x4 r0_1)

/-- The stream's rows with the mixed attention added. -/
def streamV : FVec Ideal S512x1024 .f32 :=
  addf (View.ld x0 r0_1) (rmsV (outV (mergedV x1 x2 x3 x4 x5 x6) (View.ld x7 r0_2)) (View.ld x8 r0_3))

/-- What the feed-forward's rows `x` are at the end of the half step. -/
def halfV (x : FVec Ideal S512x1024 .f32) : FVec Ideal S512x1024 .f32 :=
  endV x (sumV x11 x12 x13 (truncf .bf16 (rmsV x (View.ld x9 r0_3)) bitsLt_bf16_f32)) (View.ld x10 r0_3)

/-- What the body leaves in the results' block, as one vector. -/
theorem body_eq : out0_14 x0 x1 x2 x3 x4 x5 x6 x7 x8 x9 x10 x11 x12 x13 =
    View.canon [⟨r0_1, halfV x9 x10 x11 x12 x13 (streamV x0 x1 x2 x3 x4 x5 x6 x7 x8)⟩] := by
  unfold_out out0_14
  rfl

end

/-- A block transposed, at a row and a column. -/
theorem turnV_at (oa : Vec Ideal S512x512 .bf16) (r i : Fin 512) : (turnV oa (ix2 r i) : EReal) = oa (ix2 i r) := by
  pointwise [turnV]

/-- An attention's rows at the layer's width, at a row and a column. -/
theorem wideV_at (o : FVec Ideal S512x512 .bf16) (w : Vec Ideal S512x1024 .bf16) (r : Fin 512) (k : Fin 1024) :
    (wideV o w (ix2 r k) : EReal) = times (fun i => o (ix2 r i)) (fun i k => w (ix2 i k)) k := by
  pointwise [wideV]
  rfl

/-- The gated sum at a row and a column. -/
theorem mergeV_at (a b : FVec Ideal S512x1024 .f32) (ga gb : Vec Ideal S512x1024 .bf16) (r : Fin 512) (k : Fin 1024) :
    (mergeV a b ga gb (ix2 r k) : EReal) = (ga (ix2 r k) : EReal) * a (ix2 r k) + (gb (ix2 r k) : EReal) * b (ix2 r k) := by
  pointwise [mergeV]

/-- The mixed rows at a row and a column. -/
theorem outV_at (h : FVec Ideal S512x1024 .bf16) (w : Vec Ideal S1024x1024 .bf16) (r : Fin 512) (o : Fin 1024) :
    (outV h w (ix2 r o) : EReal) = times (fun i => h (ix2 r i)) (fun i k => w (ix2 i k)) o := by
  pointwise [outV]
  rfl

section

variable (x0 : Vec Ideal S512x1024 .f32) (x1 x2 : Vec Ideal S512x512 .bf16) (x3 x4 x5 x6 : Vec Ideal S512x1024 .bf16) (x7 : Vec Ideal S1024x1024 .bf16)
  (x8 x9 x10 : Vec Ideal S1x1024 .f32) (x11 x12 : Vec Ideal S1024x2816 .bf16) (x13 : Vec Ideal S2816x1024 .bf16)

/-- The block's gated sum is the row's. -/
theorem mergedV_at (r : Fin 512) (k : Fin 1024) : (mergedV x1 x2 x3 x4 x5 x6 (ix2 r k) : EReal)
    = merged (fun i => x1 (ix2 i r)) (fun i => x2 (ix2 r i)) (fun i k => x5 (ix2 i k)) (fun i k => x6 (ix2 i k)) (fun k => x3 (ix2 r k)) (fun k => x4 (ix2 r k)) k := by
  have e1 : ∀ i, (View.ld x1 r0_0 (ix2 i r) : EReal) = x1 (ix2 i r) := fun i => by pointwise
  have e2 : ∀ i, (View.ld x2 r0_0 (ix2 r i) : EReal) = x2 (ix2 r i) := fun i => by pointwise
  have e3 : ∀ i, (View.ld x3 r0_1 (ix2 r i) : EReal) = x3 (ix2 r i) := fun i => by pointwise
  have e4 : ∀ i, (View.ld x4 r0_1 (ix2 r i) : EReal) = x4 (ix2 r i) := fun i => by pointwise
  have e5 : ∀ i k, (View.ld x5 r0_1 (ix2 i k) : EReal) = x5 (ix2 i k) := fun i k => by pointwise
  have e6 : ∀ i k, (View.ld x6 r0_1 (ix2 i k) : EReal) = x6 (ix2 i k) := fun i k => by pointwise
  rw [mergedV, mergeV_at, wideV_at, wideV_at]
  simp only [turnV_at, e1, e2, e3, e4, e5, e6]
  rfl

/-- The block's stream is the row's. -/
theorem streamV_at (r : Fin 512) (i : Fin 1024) : (streamV x0 x1 x2 x3 x4 x5 x6 x7 x8 (ix2 r i) : EReal)
    = mixStep (fun i => x0 (ix2 r i)) (fun i => x1 (ix2 i r)) (fun i => x2 (ix2 r i)) (fun i k => x5 (ix2 i k)) (fun i k => x6 (ix2 i k))
      (fun k => x3 (ix2 r k)) (fun k => x4 (ix2 r k)) (fun i k => x7 (ix2 i k)) (fun i => x8 (ix2 0 i)) i := by
  have e0 : ∀ i, (View.ld x0 r0_1 (ix2 r i) : EReal) = x0 (ix2 r i) := fun i => by pointwise
  have e7 : ∀ i k, (View.ld x7 r0_2 (ix2 i k) : EReal) = x7 (ix2 i k) := fun i k => by pointwise
  have e8 : ∀ i, (View.ld x8 r0_3 (ix2 0 i) : EReal) = x8 (ix2 0 i) := fun i => by pointwise
  rw [streamV, addf_apply, rmsV_at, e0]
  simp only [outV_at, mergedV_at, e7, e8]
  rfl

/-- The half step of rows `x`. -/
theorem halfV_at (x : FVec Ideal S512x1024 .f32) (r : Fin 512) (o : Fin 1024) : (halfV x9 x10 x11 x12 x13 x (ix2 r o) : EReal)
    = halfStep (fun i => x (ix2 r i)) (fun i => x9 (ix2 0 i)) (fun i => x10 (ix2 0 i)) (fun i k => x11 (ix2 i k)) (fun i k => x12 (ix2 i k)) (fun k o => x13 (ix2 k o)) o := by
  have e9 : ∀ i, (View.ld x9 r0_3 (ix2 0 i) : EReal) = x9 (ix2 0 i) := fun i => by pointwise
  have e10 : ∀ i, (View.ld x10 r0_3 (ix2 0 i) : EReal) = x10 (ix2 0 i) := fun i => by pointwise
  have e : ∀ i, ((truncf .bf16 (rmsV x (View.ld x9 r0_3)) bitsLt_bf16_f32 : FVec Ideal S512x1024 .bf16) (ix2 r i) : EReal)
      = rms (fun i => x (ix2 r i)) (fun i => x9 (ix2 0 i)) i := fun i => by
    refine (show _ = (rmsV x (View.ld x9 r0_3) (ix2 r i) : EReal) by pointwise).trans ?_
    rw [rmsV_at]
    simp only [e9]
  rw [halfV, endV_at]
  simp only [sumV_at, e, e10]
  rfl

/-- What the body leaves in the results' block, at a row and a column. -/
theorem body_at (r : Fin 512) (o : Fin 1024) : (out0_14 x0 x1 x2 x3 x4 x5 x6 x7 x8 x9 x10 x11 x12 x13 (ix2 r o) : EReal)
    = halfStep (mixStep (fun i => x0 (ix2 r i)) (fun i => x1 (ix2 i r)) (fun i => x2 (ix2 r i)) (fun i k => x5 (ix2 i k)) (fun i k => x6 (ix2 i k))
        (fun k => x3 (ix2 r k)) (fun k => x4 (ix2 r k)) (fun i k => x7 (ix2 i k)) (fun i => x8 (ix2 0 i)))
      (fun i => x9 (ix2 0 i)) (fun i => x10 (ix2 0 i)) (fun i k => x11 (ix2 i k)) (fun i k => x12 (ix2 i k)) (fun k o => x13 (ix2 k o)) o := by
  have e : out0_14 x0 x1 x2 x3 x4 x5 x6 x7 x8 x9 x10 x11 x12 x13 (ix2 r o) = halfV x9 x10 x11 x12 x13 (streamV x0 x1 x2 x3 x4 x5 x6 x7 x8) (ix2 r o) := by
    rw [body_eq]
    exact congrFun (View.canon_cons_unit_lit _ _ _ (by decide)) (ix2 r o)
  refine e.trans ?_
  rw [halfV_at]
  simp only [streamV_at]

end

end Cert.Kernel3Ideal.Own

end
-- ==== Proof.Out.Windows.lean ====
module

public import proofs.«01_k».proof.Proof.Out.Body
public import proofs.«01_k».proof.Proof.Gen.Kernel3Ideal.Value
public import Idealize.ShloMosaic.Lib.StableHlo.ReadAt

/-!
The last call's blocks, element by element: which element of the arguments each is; and the results' array told by row and column.
-/

@[expose] public section

set_option maxRecDepth 16384

noncomputable section

namespace Cert.Kernel3Ideal.Own

open Cert.Kernel3Ideal Cert.Kernel3Ideal.Gen Cert.Ffn Cert.Out
open Idealize.ShloMosaic Idealize.ShloMosaic.TcCoe Idealize.ShloMosaic.Pipeline

theorem e0 : ∀ t : Fin cfg0.N, win0_0.index t = ![(grid0.coords t 0).val, 0] := (by decide +kernel : ∀ t : Fin grid0.N, _)
theorem e1 : ∀ t : Fin cfg0.N, win0_1.index t = ![0, (grid0.coords t 0).val] := (by decide +kernel : ∀ t : Fin grid0.N, _)
theorem e2 : ∀ t : Fin cfg0.N, win0_2.index t = ![(grid0.coords t 0).val, 0] := (by decide +kernel : ∀ t : Fin grid0.N, _)
theorem e3 : ∀ t : Fin cfg0.N, win0_3.index t = ![(grid0.coords t 0).val, 0] := (by decide +kernel : ∀ t : Fin grid0.N, _)
theorem e4 : ∀ t : Fin cfg0.N, win0_4.index t = ![(grid0.coords t 0).val, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![0, 0] := (by decide +kernel : ∀ t : Fin grid0.N, _)
theorem e13 : ∀ t : Fin cfg0.N, win0_13.index t = ![0, 0] := (by decide +kernel : ∀ t : Fin grid0.N, _)
theorem e14 : ∀ t : Fin cfg0.N, win0_14.index t = ![(grid0.coords t 0).val, 0] := (by decide +kernel : ∀ t : Fin grid0.N, _)

variable (m : (ℓ : Loc nD τ sig) → Buf (Elt Ideal) ℓ) (c : Dev nD) (t : Fin cfg0.N)

/-- The stream's rows: 512 rows of the argument. -/
theorem blk0 (r : Fin 512) (i : Fin 1024) (T : Fin 16384) (hr : T.val = 512 * (grid0.coords t 0).val + r.val) :
    (iblk m c 0 t : Vec Ideal S512x1024 .f32) (ix2 r i) = (m ((c.tc : Thread nD τ).loc main_arg0) : S16384x1024.Idx → EReal) (ix2 T i) := by
  rw [← V_main_arg0 m c]
  show iblk m c 0 t (ix2 r i) = V m c main_arg0 (ix2 T i)
  blk_simp [iblk, e0]
  refine congrArg (V m c main_arg0) ?_
  blk_ext [e0]

/-- The first attention's rows: 512 columns of the argument. -/
theorem blk1 (r : Fin 512) (i : Fin 512) (T : Fin 16384) (hr : T.val = 512 * (grid0.coords t 0).val + r.val) :
    (iblk m c 1 t : Vec Ideal S512x512 .bf16) (ix2 i r) = (m ((c.tc : Thread nD τ).loc main_arg1) : S512x16384.Idx → EReal) (ix2 i T) := by
  rw [← V_main_arg1 m c]
  show iblk m c 1 t (ix2 i r) = V m c main_arg1 (ix2 i T)
  blk_simp [iblk, e1]
  refine congrArg (V m c main_arg1) ?_
  blk_ext [e1]

/-- The second attention's rows. -/
theorem blk2 (r : Fin 512) (i : Fin 512) (T : Fin 16384) (hr : T.val = 512 * (grid0.coords t 0).val + r.val) :
    (iblk m c 2 t : Vec Ideal S512x512 .bf16) (ix2 r i) = (m ((c.tc : Thread nD τ).loc main_arg2) : S16384x512.Idx → EReal) (ix2 T i) := by
  rw [← V_main_arg2 m c]
  show iblk m c 2 t (ix2 r i) = V m c main_arg2 (ix2 T i)
  blk_simp [iblk, e2]
  refine congrArg (V m c main_arg2) ?_
  blk_ext [e2]

/-- The first gate's rows. -/
theorem blk3 (r : Fin 512) (i : Fin 1024) (T : Fin 16384) (hr : T.val = 512 * (grid0.coords t 0).val + r.val) :
    (iblk m c 3 t : Vec Ideal S512x1024 .bf16) (ix2 r i) = (m ((c.tc : Thread nD τ).loc main_arg3) : S16384x1024.Idx → EReal) (ix2 T i) := by
  rw [← V_main_arg3 m c]
  show iblk m c 3 t (ix2 r i) = V m c main_arg3 (ix2 T i)
  blk_simp [iblk, e3]
  refine congrArg (V m c main_arg3) ?_
  blk_ext [e3]

/-- The second gate's rows. -/
theorem blk4 (r : Fin 512) (i : Fin 1024) (T : Fin 16384) (hr : T.val = 512 * (grid0.coords t 0).val + r.val) :
    (iblk m c 4 t : Vec Ideal S512x1024 .bf16) (ix2 r i) = (m ((c.tc : Thread nD τ).loc main_arg4) : S16384x1024.Idx → EReal) (ix2 T i) := by
  rw [← V_main_arg4 m c]
  show iblk m c 4 t (ix2 r i) = V m c main_arg4 (ix2 T i)
  blk_simp [iblk, e4]
  refine congrArg (V m c main_arg4) ?_
  blk_ext [e4]

/-- The first attention's matrix, whole. -/
theorem blk5 (i : Fin 512) (k : Fin 1024) :
    (iblk m c 5 t : Vec Ideal S512x1024 .bf16) (ix2 i k) = (m ((c.tc : Thread nD τ).loc main_arg6) : S1x512x1024.Idx → EReal) (ix3 0 i k) := by
  refine Eq.trans (b := (V m c main_v1 : S512x1024.Idx → EReal) (ix2 i k)) ?_ (by unfold V; after_reads_at)
  show iblk m c 5 t (ix2 i k) = V m c main_v1 (ix2 i k)
  blk_simp [iblk, e5]
  refine congrArg (V m c main_v1) ?_
  blk_ext [e5]

/-- The second attention's matrix, whole. -/
theorem blk6 (i : Fin 512) (k : Fin 1024) :
    (iblk m c 6 t : Vec Ideal S512x1024 .bf16) (ix2 i k) = (m ((c.tc : Thread nD τ).loc main_arg7) : S1x512x1024.Idx → EReal) (ix3 0 i k) := by
  refine Eq.trans (b := (V m c main_v3 : S512x1024.Idx → EReal) (ix2 i k)) ?_ (by unfold V; after_reads_at)
  show iblk m c 6 t (ix2 i k) = V m c main_v3 (ix2 i k)
  blk_simp [iblk, e6]
  refine congrArg (V m c main_v3) ?_
  blk_ext [e6]

/-- The mixing matrix, whole. -/
theorem blk7 (i : Fin 1024) (k : Fin 1024) :
    (iblk m c 7 t : Vec Ideal S1024x1024 .bf16) (ix2 i k) = (m ((c.tc : Thread nD τ).loc main_arg8) : S1x1024x1024.Idx → EReal) (ix3 0 i k) := by
  refine Eq.trans (b := (V m c main_v5 : S1024x1024.Idx → EReal) (ix2 i k)) ?_ (by unfold V; after_reads_at)
  show iblk m c 7 t (ix2 i k) = V m c main_v5 (ix2 i k)
  blk_simp [iblk, e7]
  refine congrArg (V m c main_v5) ?_
  blk_ext [e7]

/-- The gains after the mixing. -/
theorem blk8 (i : Fin 1024) :
    (iblk m c 8 t : Vec Ideal S1x1024 .f32) (ix2 0 i) = (m ((c.tc : Thread nD τ).loc main_arg5) : S1x1024.Idx → EReal) (ix2 0 i) := by
  refine Eq.trans (b := (V m c main_v7 : S1x1024.Idx → EReal) (ix2 0 i)) ?_ (by unfold V; after_reads_at)
  show iblk m c 8 t (ix2 0 i) = V m c main_v7 (ix2 0 i)
  blk_simp [iblk, e8]
  refine congrArg (V m c main_v7) ?_
  blk_ext [e8]

/-- The gains before the feed-forward. -/
theorem blk9 (i : Fin 1024) :
    (iblk m c 9 t : Vec Ideal S1x1024 .f32) (ix2 0 i) = (m ((c.tc : Thread nD τ).loc main_arg9) : S1x1024.Idx → EReal) (ix2 0 i) := by
  refine Eq.trans (b := (V m c main_v9 : S1x1024.Idx → EReal) (ix2 0 i)) ?_ (by unfold V; after_reads_at)
  show iblk m c 9 t (ix2 0 i) = V m c main_v9 (ix2 0 i)
  blk_simp [iblk, e9]
  refine congrArg (V m c main_v9) ?_
  blk_ext [e9]

/-- The gains after it. -/
theorem blk10 (i : Fin 1024) :
    (iblk m c 10 t : Vec Ideal S1x1024 .f32) (ix2 0 i) = (m ((c.tc : Thread nD τ).loc main_arg10) : S1x1024.Idx → EReal) (ix2 0 i) := by
  refine Eq.trans (b := (V m c main_v11 : S1x1024.Idx → EReal) (ix2 0 i)) ?_ (by unfold V; after_reads_at)
  show iblk m c 10 t (ix2 0 i) = V m c main_v11 (ix2 0 i)
  blk_simp [iblk, e10]
  refine congrArg (V m c main_v11) ?_
  blk_ext [e10]

/-- The feed-forward's first matrix, whole. -/
theorem blk11 (i : Fin 1024) (k : Fin 2816) :
    (iblk m c 11 t : Vec Ideal S1024x2816 .bf16) (ix2 i k) = (m ((c.tc : Thread nD τ).loc main_arg11) : S1x1024x2816.Idx → EReal) (ix3 0 i k) := by
  refine Eq.trans (b := (V m c main_v13 : S1024x2816.Idx → EReal) (ix2 i k)) ?_ (by unfold V; after_reads_at)
  show iblk m c 11 t (ix2 i k) = V m c main_v13 (ix2 i k)
  blk_simp [iblk, e11]
  refine congrArg (V m c main_v13) ?_
  blk_ext [e11]

/-- Its second matrix, whole. -/
theorem blk12 (i : Fin 1024) (k : Fin 2816) :
    (iblk m c 12 t : Vec Ideal S1024x2816 .bf16) (ix2 i k) = (m ((c.tc : Thread nD τ).loc main_arg12) : S1x1024x2816.Idx → EReal) (ix3 0 i k) := by
  refine Eq.trans (b := (V m c main_v15 : S1024x2816.Idx → EReal) (ix2 i k)) ?_ (by unfold V; after_reads_at)
  show iblk m c 12 t (ix2 i k) = V m c main_v15 (ix2 i k)
  blk_simp [iblk, e12]
  refine congrArg (V m c main_v15) ?_
  blk_ext [e12]

/-- Its third matrix, whole. -/
theorem blk13 (i : Fin 2816) (k : Fin 1024) :
    (iblk m c 13 t : Vec Ideal S2816x1024 .bf16) (ix2 i k) = (m ((c.tc : Thread nD τ).loc main_arg13) : S1x2816x1024.Idx → EReal) (ix3 0 i k) := by
  refine Eq.trans (b := (V m c main_v17 : S2816x1024.Idx → EReal) (ix2 i k)) ?_ (by unfold V; after_reads_at)
  show iblk m c 13 t (ix2 i k) = V m c main_v17 (ix2 i k)
  blk_simp [iblk, e13]
  refine congrArg (V m c main_v17) ?_
  blk_ext [e13]

/-- The last call's row `T` from the arguments, at a column. -/
def lastOf (T : Fin 16384) (o : Fin 1024) : EReal :=
  halfStep (mixStep (fun i => (m ((c.tc : Thread nD τ).loc main_arg0) : S16384x1024.Idx → EReal) (ix2 T i))
      (fun i => (m ((c.tc : Thread nD τ).loc main_arg1) : S512x16384.Idx → EReal) (ix2 i T)) (fun i => (m ((c.tc : Thread nD τ).loc main_arg2) : S16384x512.Idx → EReal) (ix2 T i))
      (fun i k => (m ((c.tc : Thread nD τ).loc main_arg6) : S1x512x1024.Idx → EReal) (ix3 0 i k))
      (fun i k => (m ((c.tc : Thread nD τ).loc main_arg7) : S1x512x1024.Idx → EReal) (ix3 0 i k))
      (fun k => (m ((c.tc : Thread nD τ).loc main_arg3) : S16384x1024.Idx → EReal) (ix2 T k)) (fun k => (m ((c.tc : Thread nD τ).loc main_arg4) : S16384x1024.Idx → EReal) (ix2 T k))
      (fun i k => (m ((c.tc : Thread nD τ).loc main_arg8) : S1x1024x1024.Idx → EReal) (ix3 0 i k)) (fun i => (m ((c.tc : Thread nD τ).loc main_arg5) : S1x1024.Idx → EReal) (ix2 0 i)))
    (fun i => (m ((c.tc : Thread nD τ).loc main_arg9) : S1x1024.Idx → EReal) (ix2 0 i))
    (fun i => (m ((c.tc : Thread nD τ).loc main_arg10) : S1x1024.Idx → EReal) (ix2 0 i))
    (fun i k => (m ((c.tc : Thread nD τ).loc main_arg11) : S1x1024x2816.Idx → EReal) (ix3 0 i k))
    (fun i k => (m ((c.tc : Thread nD τ).loc main_arg12) : S1x1024x2816.Idx → EReal) (ix3 0 i k))
    (fun k o => (m ((c.tc : Thread nD τ).loc main_arg13) : S1x2816x1024.Idx → EReal) (ix3 0 k o)) o

/-- A block of the results, at a row and a column. -/
theorem out_at (r : Fin 512) (o : Fin 1024) (T : Fin 16384) (hr : T.val = 512 * (grid0.coords t 0).val + r.val) :
    (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) : Vec Ideal S512x1024 .f32) (ix2 r o)
      = lastOf m c T o := by
  refine (body_at _ _ _ _ _ _ _ _ _ _ _ _ _ _ r o).trans ?_
  rw [lastOf]
  simp only [blk0 m c t r _ T hr, blk1 m c t r _ T hr, blk2 m c t r _ T hr, blk3 m c t r _ T hr, blk4 m c t r _ T hr, blk5, blk6, blk7, blk8, blk9, blk10, blk11, blk12, blk13]

/-- The results' array. -/
theorem final_eq : (dats m 0 c).arrAt 14 cfg0.N = fun i : S16384x1024.Idx => lastOf m c (i 0) (i 1) := by
  refine (dats m 0 c).arrAt_eq_of_covers 14 _ (by decide +kernel) fun t hf y => ?_
  blk_simp [e14]
  rw [after0_14]
  have h0 : (grid0.coords t 0).val < 32 := (grid0.coords t 0).isLt
  have y0 : (y 0).val < 512 := (y 0).isLt
  have hy : y = ix2 (y 0) (y 1) := eq_ix2 y
  have hT : 512 * (grid0.coords t 0).val + (y 0).val < 16384 := by omega
  have e : (win0_14.blk t).view.emb y = ix2 (⟨512 * (grid0.coords t 0).val + (y 0).val, hT⟩ : Fin 16384) (y 1 : Fin 1024) := by
    blk_ext [e14]
  rw [e]
  exact (congrArg _ hy).trans (out_at m c t (y 0) (y 1) _ rfl)

end Cert.Kernel3Ideal.Own

end
-- ==== Proof.Out.Algebraic.lean ====
module

public import proofs.«01_k».proof.Defs
public import proofs.«01_k».proof.Proof.Out.Windows
public import proofs.«01_k».proof.Proof.Out.Run

/-!
The last call's value claim: the kernel and the reference, given the same arguments, end with the same results.
-/

@[expose] public section

noncomputable section

namespace Cert.Proof

open Idealize.ShloMosaic Idealize.SL.Sem Cert.Ffn Cert.Out

/-- The last call computes its reference. -/
theorem algebraic3 : Cert.algebraic_Kernel3Ideal_Reference3Ideal := by
  intro m ρ m' ρ' _ hargs
  refine ⟨fun c => (Cert.Kernel3Ideal.Gen.dats m 0 c).arrAt 14 Cert.Kernel3Ideal.cfg0.N, Cert.Kernel3Ideal.Value.run_blocks m ρ,
    (θ_run Cert.Reference3Ideal.defs _ _).mono (fun r h c => ⟨(h c).1.trans ?_, (h c).2⟩) (Cert.Reference3Ideal.Own.run m' ρ')⟩
  obtain ⟨a0, a1, a2, a3, a4, a5, a6, a7, a8, a9, a10, a11, a12, a13⟩ := hargs c
  rw [Cert.Reference3Ideal.Own.resR, a0, a1, a2, a3, a4, a5, a6, a7, a8, a9, a10, a11, a12, a13]
  refine Eq.trans ?_ (Cert.Kernel3Ideal.Own.final_eq m c).symm
  funext i
  refine (congrArg _ (eq_ix2 i)).trans ((Cert.Reference3Ideal.Own.stepR_at _ _ _ _ _ _ (i 0) (i 1)).trans ?_)
  exact congrArg (fun x => halfStep x _ _ _ _ _ (i 1)) (funext fun j => Cert.Reference3Ideal.Own.mixR_at _ _ _ _ _ _ _ _ _ (i 0) j)

end Cert.Proof

end
-- ==== Proof.In.Frames.lean ====
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import Idealize.ShloMosaic.Adequacy
public import Idealize.ShloMosaic.Init

/-!
The projections' programs end, with their arguments and semaphores as they were.
-/

@[expose] public section

noncomputable section

namespace Cert.Proof

open Idealize.ShloMosaic Idealize.SL.Sem

/-- The kernel over the machine's words. -/
theorem frame_kernel4 : Cert.quiescent_Kernel4 := fun m ρ _ => Cert.Kernel4.Gen.frame m ρ

/-- The kernel over the extended reals. -/
theorem frame_kernel4Ideal : Cert.quiescent_Kernel4Ideal := fun m ρ _ => Cert.Kernel4Ideal.Gen.frame m ρ

/-- The reference over the extended reals. -/
theorem frame_reference4Ideal : Cert.quiescent_Reference4Ideal := fun m ρ _ =>
  (θ_run Cert.Reference4Ideal.defs _ _).mono
    (fun r h => ⟨fun c => (h c).2.2.2.2.2.2.2.2, Idealize.ShloMosaic.sem_eq_zero_of_no_sems (by decide) r.2⟩)
    (Cert.Reference4Ideal.Value.run (F := Ideal) m ρ)

end Cert.Proof

end
-- ==== Proof.In.Math.lean ====
module

public import proofs.«01_k».proof.Proof.Ffn.Math

/-!
The projections' mathematics: a head's two halves turned by the position's angles, told as the problem tells it and as a
block of 128 lanes tells it.
-/

@[expose] public section

noncomputable section

namespace Cert.In

open Idealize.ShloMosaic Cert.Ffn

/-- The scale of the queries, as the programs write it. -/
abbrev scale : EReal := Ideal.ofBits .f32 0x3E000000#32

/-- A counted number, as the programs make it a float. -/
abbrev count (n : ℕ) : EReal := FloatOps.sitofp (F := Ideal) .f32 (BitVec.ofNat 32 n)

/-- The angle of a position and a pair of a head's lanes: the position over 10000 to the power of twice the pair's number over 64. -/
def angle (T : Fin 16384) (d : Fin 32) : EReal :=
  count T.val * Ideal.div 1 (Ideal.pow (Ideal.ofBits .f32 0x461C4000#32) (Ideal.div (Ideal.ofBits .f32 0x40000000#32 * count d.val) (Ideal.ofBits .f32 0x42800000#32)))

/-- A head's lanes turned: the first half less the second's sine share, the second half and the first's sine share. -/
def turn (x : Fin 64 → EReal) (c s : Fin 32 → EReal) (d : Fin 64) : EReal :=
  if h : d.val < 32 then x d * c ⟨d.val, h⟩ - x ⟨d.val + 32, by omega⟩ * s ⟨d.val, h⟩
  else x d * c ⟨d.val - 32, by omega⟩ + x ⟨d.val - 32, by omega⟩ * s ⟨d.val - 32, by omega⟩

/-- 128 lanes, two heads, turned: each lane by the cosine, and its partner by the signed sine. -/
def turnLanes (t c s : Fin 128 → EReal) (l : Fin 128) : EReal :=
  t l * c l + (if l.val % 64 < 32 then t ⟨(l.val + 32) % 128, by omega⟩ else t ⟨(l.val + 96) % 128, by omega⟩) * s l

/-- The lanes' turning is each head's. -/
theorem turnLanes_eq (t c s : Fin 128 → EReal) (C S : Fin 32 → EReal) (hc : ∀ l : Fin 128, c l = C ⟨l.val % 32, by omega⟩)
    (hs : ∀ l : Fin 128, s l = if l.val % 64 < 32 then -S ⟨l.val % 32, by omega⟩ else S ⟨l.val % 32, by omega⟩) (l : Fin 128) :
    turnLanes t c s l = turn (fun d => t ⟨64 * (l.val / 64) + d.val, by omega⟩) C S ⟨l.val % 64, by omega⟩ := by
  unfold turnLanes turn
  have e : 64 * (l.val / 64) + l.val % 64 = l.val := by omega
  rw [hc, hs]
  by_cases h : l.val % 64 < 32
  · have h1 : (l.val + 32) % 128 = 64 * (l.val / 64) + (l.val % 64 + 32) := by omega
    have h2 : l.val % 32 = l.val % 64 := by omega
    simp only [h, e, h1, h2, ↓reduceIte, ↓reduceDIte, Fin.eta, mul_neg, sub_eq_add_neg]
  · have h1 : (l.val + 96) % 128 = 64 * (l.val / 64) + (l.val % 64 - 32) := by omega
    have h2 : l.val % 32 = l.val % 64 - 32 := by omega
    simp only [h, e, h1, h2, ↓reduceIte, ↓reduceDIte, Fin.eta]

end Cert.In

end
-- ==== Proof.In.Body.lean ====
module

public import proofs.«01_k».proof.Proof.In.Math
public import proofs.«01_k».proof.Proof.Gen.Kernel4Ideal.Skeleton
public import Idealize.ShloMosaic.Lib.Pointwise
public import Idealize.ShloMosaic.Lib.Pipeline.ValueKit

/-!
What the projections' body stores, element by element: each stored vector at a row and a column, of the block's matrices.
-/

@[expose] public section

set_option maxRecDepth 16384

noncomputable section

namespace Cert.Kernel4Ideal.Own

open Cert.Kernel4Ideal Cert.Kernel4Ideal.Gen Cert.Ffn Cert.In
open Idealize.ShloMosaic Idealize.ShloMosaic.TcCoe

section

variable (x0 : Vec Ideal S512x1024 .f32) (x1 : Vec Ideal S1x1024 .f32) (xn : FVec Ideal S512x1024 .bf16) (r : Fin 512)

/-- The normalised rows. -/
theorem norm_at (o : Fin 1024) : (k0_pay7 x0 x1 (ix2 r o) : EReal) = rms (fun i => x0 (ix2 r i)) (fun i => x1 (ix2 0 i)) o := by
  pointwise [k0_pay7]
  rfl

/-- The first projection. -/
theorem first_at (w : Vec Ideal S1024x1536 .bf16) (k : Fin 1536) :
    (k0_pay8 x0 x1 w (ix2 r k) : EReal) = times (rms (fun i => x0 (ix2 r i)) (fun i => x1 (ix2 0 i))) (fun i k => w (ix2 i k)) k := by
  unfold times
  simp only [← norm_at]
  pointwise [k0_pay8]

/-- The second projection. -/
theorem second_at (w : Vec Ideal S1024x768 .bf16) (k : Fin 768) :
    (k0_pay20 xn w (ix2 r k) : EReal) = times (fun i => xn (ix2 r i)) (fun i k => w (ix2 i k)) k := by
  unfold times
  pointwise [k0_pay20]

/-- The gates. -/
theorem gate_at (w : Vec Ideal S1024x2048 .bf16) (k : Fin 2048) :
    (k0_pay3 xn w (ix2 r k) : EReal) = sigmoid (times (fun i => xn (ix2 r i)) (fun i k => w (ix2 i k)) k) := by
  rw [← sigmoid_tanh]
  unfold times
  pointwise [k0_pay3]

theorem pay9_at (w : Vec Ideal S1024x1536 .bf16) (o : Fin 512) :
    (k0_pay9 x0 x1 w (ix2 o r) : EReal) = k0_pay8 x0 x1 w (ix2 r ⟨o.val, by omega⟩) * scale := by
  pointwise [k0_pay9]

theorem pay10_at (w : Vec Ideal S1024x1536 .bf16) (o : Fin 512) :
    (k0_pay10 x0 x1 w (ix2 r o) : EReal) = k0_pay8 x0 x1 w (ix2 r ⟨512 + o.val, by omega⟩) := by
  pointwise [k0_pay10]

theorem pay12_at (w : Vec Ideal S1024x1536 .bf16) (o : Fin 512) :
    (k0_pay12 (k0_pay11 x0 x1 w) (ix3 0 o r) : EReal) = k0_pay8 x0 x1 w (ix2 r ⟨1024 + o.val, by omega⟩) := by
  pointwise [k0_pay12, k0_pay11]

theorem pay2_at (v : FVec Ideal S512x768 .f32) (o : Fin 128) :
    (k0_pay2 v (ix2 r o) : EReal) = v (ix2 r ⟨640 + o.val, by omega⟩) := by
  pointwise [k0_pay2]

theorem pay4_at (w : Vec Ideal S1024x2048 .bf16) (o : Fin 1024) :
    (k0_pay4 xn w (ix2 r o) : EReal) = k0_pay3 xn w (ix2 r ⟨o.val, by omega⟩) := by
  pointwise [k0_pay4]

theorem pay5_at (w : Vec Ideal S1024x2048 .bf16) (o : Fin 1024) :
    (k0_pay5 xn w (ix2 r o) : EReal) = k0_pay3 xn w (ix2 r ⟨1024 + o.val, by omega⟩) := by
  pointwise [k0_pay5]

end

section

variable (v : FVec Ideal S512x768 .f32) (c s : Vec Ideal S512x128 .f32) (r : Fin 512) (l : Fin 128)

/-- The mask of the lanes in their head's first half. -/
theorem mask_at : k0_pay23 (ix2 r l) = if l.val % 64 < 32 then 1#1 else 0#1 := by
  pointwise [k0_pay23]
  revert l
  decide +kernel

/-- 128 lanes of the second projection turned, as a vector. -/
def turnV (t : FVec Ideal S512x128 .f32) : FVec Ideal S512x128 .f32 :=
  addf (mulf t (shapeCast S512x128 c shapeCasts_S512x128_S512x128))
    (mulf (select k0_pay23 (dynamicRotate 1 96#32 none t rotates_S512x128_d1) (dynamicRotate 1 32#32 none t rotates_S512x128_d1)) (shapeCast S512x128 s shapeCasts_S512x128_S512x128))

theorem turnV_at (t : FVec Ideal S512x128 .f32) :
    (turnV c s t (ix2 r l) : EReal) = turnLanes (fun l => t (ix2 r l)) (fun l => c (ix2 r l)) (fun l => s (ix2 r l)) l := by
  have h := mask_at r l
  unfold turnLanes
  pointwise [turnV]
  rw [h]
  split <;> rfl

/-- The vectors the body stores are the turned lanes. -/
theorem pay1_eq : k0_pay1 (k0_pay21 c) (k0_pay22 s) k0_pay23 (k0_pay30 v) (k0_pay31 v)
    = truncf .bf16 (turnV c s (extractStridedSlice S512x128 ![0, 512] v slices_S512x768_o0_512_S512x128)) bitsLt_bf16_f32 := rfl

end

end Cert.Kernel4Ideal.Own

end
-- ==== Proof.In.Windows.lean ====
module

public import proofs.«01_k».proof.Proof.In.Body
public import proofs.«01_k».proof.Proof.Gen.Kernel4Ideal.Frame.Runs
public import Idealize.ShloMosaic.Lib.StableHlo.ReadAt

/-!
The projections' blocks, element by element: which element of the arguments, or of the angles' tables, each is.
-/

@[expose] public section

set_option maxRecDepth 16384

noncomputable section

namespace Cert.Kernel4Ideal.Own

open Cert.Kernel4Ideal Cert.Kernel4Ideal.Gen Cert.Ffn Cert.In
open Idealize.ShloMosaic Idealize.ShloMosaic.TcCoe Idealize.ShloMosaic.Pipeline

theorem e0 : ∀ t : Fin cfg0.N, win0_0.index t = ![(grid0.coords t 0).val, 0] := (by decide +kernel : ∀ t : Fin grid0.N, _)
theorem e7 : ∀ t : Fin cfg0.N, win0_7.index t = ![(grid0.coords t 0).val, 0] := (by decide +kernel : ∀ t : Fin grid0.N, _)
theorem e8 : ∀ t : Fin cfg0.N, win0_8.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)

variable (m : (ℓ : Loc nD τ sig) → Buf (Elt Ideal) ℓ) (c : Dev nD) (t : Fin cfg0.N)

/-- The rows' block: 512 rows of the argument. -/
theorem blk0 (r : Fin 512) (i : Fin 1024) (T : Fin 16384) (hr : T.val = 512 * (grid0.coords t 0).val + r.val) :
    (iblk m c 0 t : Vec Ideal S512x1024 .f32) (ix2 r i) = (m ((c.tc : Thread nD τ).loc main_arg0) : S16384x1024.Idx → EReal) (ix2 T i) := by
  rw [← V_main_arg0 m c]
  show iblk m c 0 t (ix2 r i) = V m c main_arg0 (ix2 T i)
  blk_simp [iblk, e0]
  refine congrArg (V m c main_arg0) ?_
  blk_ext [e0]

/-- The gains. -/
theorem blk1 (i : Fin 1024) :
    (iblk m c 1 t : Vec Ideal S1x1024 .f32) (ix2 0 i) = (m ((c.tc : Thread nD τ).loc main_arg1) : S1x1024.Idx → EReal) (ix2 0 i) := by
  refine Eq.trans (b := (V m c main_v48 : S1x1024.Idx → EReal) (ix2 0 i)) ?_ (by unfold V; after_reads_at)
  show iblk m c 1 t (ix2 0 i) = V m c main_v48 (ix2 0 i)
  blk_simp [iblk, e1]
  refine congrArg (V m c main_v48) ?_
  blk_ext [e1]

/-- The first projection's columns. -/
theorem blk2 (i : Fin 1024) (k : Fin 1536) (K : Fin 4360) (hk : K.val = 0 + k.val) :
    (iblk m c 2 t : Vec Ideal S1024x1536 .bf16) (ix2 i k) = (m ((c.tc : Thread nD τ).loc main_arg2) : S1x1024x4360.Idx → EReal) (ix3 0 i K) := by
  have e : K = ⟨0 + k.val, by omega⟩ := Fin.ext hk
  rw [e]
  refine Eq.trans (b := (V m c main_v2 : S1024x1536.Idx → EReal) (ix2 i k)) ?_ (by unfold V; after_reads_at)
  show iblk m c 2 t (ix2 i k) = V m c main_v2 (ix2 i k)
  blk_simp [iblk, e2]
  refine congrArg (V m c main_v2) ?_
  blk_ext [e2]

/-- The second projection's columns. -/
theorem blk5 (i : Fin 1024) (k : Fin 768) (K : Fin 4360) (hk : K.val = 1544 + k.val) :
    (iblk m c 5 t : Vec Ideal S1024x768 .bf16) (ix2 i k) = (m ((c.tc : Thread nD τ).loc main_arg2) : S1x1024x4360.Idx → EReal) (ix3 0 i K) := by
  have e : K = ⟨1544 + k.val, by omega⟩ := Fin.ext hk
  rw [e]
  refine Eq.trans (b := (V m c main_v16 : S1024x768.Idx → EReal) (ix2 i k)) ?_ (by unfold V; after_reads_at)
  show iblk m c 5 t (ix2 i k) = V m c main_v16 (ix2 i k)
  blk_simp [iblk, e5]
  refine congrArg (V m c main_v16) ?_
  blk_ext [e5]

/-- The gates' columns. -/
theorem blk6 (i : Fin 1024) (k : Fin 2048) (K : Fin 4360) (hk : K.val = 2312 + k.val) :
    (iblk m c 6 t : Vec Ideal S1024x2048 .bf16) (ix2 i k) = (m ((c.tc : Thread nD τ).loc main_arg2) : S1x1024x4360.Idx → EReal) (ix3 0 i K) := by
  have e : K = ⟨2312 + k.val, by omega⟩ := Fin.ext hk
  rw [e]
  refine Eq.trans (b := (V m c main_v18 : S1024x2048.Idx → EReal) (ix2 i k)) ?_ (by unfold V; after_reads_at)
  show iblk m c 6 t (ix2 i k) = V m c main_v18 (ix2 i k)
  blk_simp [iblk, e6]
  refine congrArg (V m c main_v18) ?_
  blk_ext [e6]

/-- The table of the cosines, at a position and a lane. -/
theorem tab7 (T : Fin 16384) (l : Fin 128) :
    (V m c main_v41 : S16384x128.Idx → EReal) (ix2 T l) = Ideal.cos (angle T ⟨l.val % 32, by omega⟩) := by
  unfold angle
  unfold V
  after_reads_at
  by_cases h : l.val % 64 < 32
  · simp only [h, show l.val % 32 = l.val % 64 by omega, ↓reduceIte, ↓reduceDIte]
    after_reads_at
  · simp only [h, show l.val % 32 = l.val % 64 - 32 by omega, ↓reduceIte, ↓reduceDIte]
    after_reads_at

/-- Its block: 512 positions. -/
theorem blk7 (r : Fin 512) (l : Fin 128) (T : Fin 16384) (hr : T.val = 512 * (grid0.coords t 0).val + r.val) :
    (iblk m c 7 t : Vec Ideal S512x128 .f32) (ix2 r l) = Ideal.cos (angle T ⟨l.val % 32, by omega⟩) := by
  rw [← tab7 m c]
  show iblk m c 7 t (ix2 r l) = V m c main_v41 (ix2 T l)
  blk_simp [iblk, e7]
  refine congrArg (V m c main_v41) ?_
  blk_ext [e7]

/-- The table of the signed sines, at a position and a lane. -/
theorem tab8 (T : Fin 16384) (l : Fin 128) :
    (V m c main_v46 : S16384x128.Idx → EReal) (ix2 T l) = if l.val % 64 < 32 then -Ideal.sin (angle T ⟨l.val % 32, by omega⟩) else Ideal.sin (angle T ⟨l.val % 32, by omega⟩) := by
  unfold angle
  unfold V
  after_reads_at
  by_cases h : l.val % 64 < 32
  · simp only [h, show l.val % 32 = l.val % 64 by omega, ↓reduceIte, ↓reduceDIte]
    after_reads_at
  · simp only [h, show l.val % 32 = l.val % 64 - 32 by omega, ↓reduceIte, ↓reduceDIte]
    after_reads_at

/-- Its block: 512 positions. -/
theorem blk8 (r : Fin 512) (l : Fin 128) (T : Fin 16384) (hr : T.val = 512 * (grid0.coords t 0).val + r.val) :
    (iblk m c 8 t : Vec Ideal S512x128 .f32) (ix2 r l) = if l.val % 64 < 32 then -Ideal.sin (angle T ⟨l.val % 32, by omega⟩) else Ideal.sin (angle T ⟨l.val % 32, by omega⟩) := by
  rw [← tab8 m c]
  show iblk m c 8 t (ix2 r l) = V m c main_v46 (ix2 T l)
  blk_simp [iblk, e8]
  refine congrArg (V m c main_v46) ?_
  blk_ext [e8]

end Cert.Kernel4Ideal.Own

end
-- ==== Proof.In.Turned.lean ====
module

public import proofs.«01_k».proof.Proof.In.Body
public import Idealize.ShloMosaic.Lib.Pipeline.Value
public import Idealize.ShloMosaic.Lib.Ring
public import Idealize.ShloMosaic.Lib.Tactic

/-!
The turned queries and keys the projections' body stores, element by element.
-/

@[expose] public section

set_option maxRecDepth 16384

noncomputable section

namespace Cert.Kernel4Ideal.Own

open Cert.Kernel4Ideal Cert.Kernel4Ideal.Gen Cert.Ffn Cert.In
open Idealize.ShloMosaic Idealize.ShloMosaic.TcCoe

variable (xn : FVec Ideal S512x1024 .bf16) (w : Vec Ideal S1024x768 .bf16) (v : FVec Ideal S512x768 .f32) (c s : Vec Ideal S512x128 .f32)

/-- The queries' buffer: four stores of 128 columns. -/
def queriesV : Vec Ideal S512x512 .bf16 :=
  View.canon (Val := Elt Ideal)
    [⟨Rect.unit ![0, 384] ![512, 128] inb_S512x512_S512x128_0_384, k0_pay29 (k0_pay20 xn w) (k0_pay21 c) (k0_pay22 s) k0_pay23⟩,
      ⟨Rect.unit ![0, 256] ![512, 128] inb_S512x512_S512x128_0_256, k0_pay28 (k0_pay20 xn w) (k0_pay21 c) (k0_pay22 s) k0_pay23⟩,
      ⟨Rect.unit ![0, 128] ![512, 128] inb_S512x512_S512x128_0_128, k0_pay27 (k0_pay20 xn w) (k0_pay21 c) (k0_pay22 s) k0_pay23⟩,
      ⟨Rect.unit ![0, 0] ![512, 128] inb_S512x512_S512x128_0_0, k0_pay26 (k0_pay24 xn w c s) k0_pay25⟩]

/-- The queries at a row and a column: the lane's group of 128 columns turned, times the scale. -/
def queryOf (r o : Fin 512) : EReal :=
  turnLanes (fun l => v (ix2 r ⟨128 * (o.val / 128) + l.val, by omega⟩)) (fun l => c (ix2 r l)) (fun l => s (ix2 r l))
    ⟨o.val % 128, by omega⟩ * scale

/-- 128 columns cut out of the second projection. -/
theorem slice_at (off : Nat) (hoff : off + 128 ≤ 768) (h : S512x768.Slices ![0, off] S512x128) (r : Fin 512) (l : Fin 128) :
    (extractStridedSlice S512x128 ![0, off] v h (ix2 r l) : EReal) = v (ix2 r ⟨off + l.val, by omega⟩) := by
  refine congrArg v (funext fun a => ?_)
  fin_cases a
  · exact Fin.ext (Nat.zero_add _)
  · rfl

/-- One store: 128 columns from `off`, turned and scaled. -/
theorem store_at (off : Nat) (hoff : off + 128 ≤ 512) (hd : 128 * (off / 128) = off) (h : S512x768.Slices ![0, off] S512x128)
    (hb : ∀ a, (![0, off] : Fin 2 → Nat) a + S512x128.size a ≤ S512x512.size a) (x : S512x128.Idx) :
    (truncf .bf16 (mulf (turnV c s (extractStridedSlice S512x128 ![0, off] v h)) k0_pay25) bitsLt_bf16_f32 x : EReal)
      = (fun y : S512x512.Idx => queryOf v c s (y 0) (y 1)) ((Rect.unit ![0, off] S512x128.size hb : Rect S512x512).emb x) := by
  have h1 : (x 1 : Fin 128).val < 128 := (x 1 : Fin 128).isLt
  have hK : off + (x 1 : Fin 128).val < 512 := by omega
  have hx : x = ix2 (x 0 : Fin 512) (x 1 : Fin 128) := eq_ix2 x
  have e0 : ((Rect.unit ![0, off] S512x128.size hb : Rect S512x512).emb x 0 : Fin 512) = (x 0 : Fin 512) :=
    Fin.ext (by rw [Rect.emb_apply]; simp)
  have e1 : ((Rect.unit ![0, off] S512x128.size hb : Rect S512x512).emb x 1 : Fin 512) = ⟨off + (x 1 : Fin 128).val, hK⟩ :=
    Fin.ext (by rw [Rect.emb_apply]; simp)
  have q : 128 * ((off + (x 1 : Fin 128).val) / 128) = off := by omega
  have q' : (off + (x 1 : Fin 128).val) % 128 = (x 1 : Fin 128).val := by omega
  dsimp only
  rw [e0, e1]
  simp only [queryOf, q, q']
  show (turnV c s (extractStridedSlice S512x128 ![0, off] v h) x : EReal) * scale = _
  refine congrArg (· * scale) ?_
  refine (congrArg _ hx).trans ((turnV_at c s (x 0) (x 1) _).trans ?_)
  exact congrArg (fun f => turnLanes f (fun l => c (ix2 (x 0 : Fin 512) l)) (fun l => s (ix2 (x 0 : Fin 512) l)) (x 1 : Fin 128))
    (funext fun l => slice_at v off (by omega) h (x 0) l)

/-- The queries' buffer, element by element. -/
theorem queriesV_at (r o : Fin 512) : (queriesV xn w c s (ix2 r o) : EReal) = queryOf (k0_pay20 xn w) c s r o := by
  refine View.canon_apply_of_pieces (Val := Elt Ideal) (e := .bf16) (fun y : S512x512.Idx => queryOf (k0_pay20 xn w) c s (y 0) (y 1)) _ (fun p hp => ?_) (ix2 r o) ?_
  · simp only [List.mem_cons, List.not_mem_nil, or_false] at hp
    intro x
    rcases hp with rfl | rfl | rfl | rfl
    · exact store_at _ c s 384 (by decide) (by decide) slices_S512x768_o0_384_S512x128 inb_S512x512_S512x128_0_384 x
    · exact store_at _ c s 256 (by decide) (by decide) slices_S512x768_o0_256_S512x128 inb_S512x512_S512x128_0_256 x
    · exact store_at _ c s 128 (by decide) (by decide) slices_S512x768_o0_128_S512x128 inb_S512x512_S512x128_0_128 x
    · exact store_at _ c s 0 (by decide) (by decide) slices_S512x768_o0_0_S512x128 inb_S512x512_S512x128_0_0 x
  · exact View.cover_of_tiledL (s := S512x512) _ S512x128.size (by sl_kernel_rfl) (ix2 r o)

/-- The keys' buffer, element by element. -/
theorem keys_at (r : Fin 512) (l : Fin 128) :
    (k0_pay1 (k0_pay21 c) (k0_pay22 s) k0_pay23 (k0_pay30 v) (k0_pay31 v) (ix2 r l) : EReal)
      = turnLanes (fun l => v (ix2 r ⟨512 + l.val, by omega⟩)) (fun l => c (ix2 r l)) (fun l => s (ix2 r l)) l := by
  rw [pay1_eq]
  refine (turnV_at c s r l _).trans ?_
  simp only [slice_at v 512 (by decide) slices_S512x768_o0_512_S512x128]

end Cert.Kernel4Ideal.Own

end
-- ==== Proof.In.Points.lean ====
module

public import proofs.«01_k».proof.Proof.In.Windows
public import proofs.«01_k».proof.Proof.In.Turned
public import proofs.«01_k».proof.Proof.Gen.Kernel4Ideal.Frame

/-!
What each output's buffer holds after a point of the grid: the vectors the body stores there, of the point's blocks.
-/

@[expose] public section

set_option maxRecDepth 16384

noncomputable section

namespace Cert.Kernel4Ideal.Own

open Cert.Kernel4Ideal Cert.Kernel4Ideal.Gen Cert.Ffn Cert.In
open Idealize.ShloMosaic Idealize.ShloMosaic.TcCoe Idealize.ShloMosaic.Tactic Idealize.ShloMosaic.Pipeline

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (c : Dev nD) (t : Fin cfg0.N)

/-- The normalised rows of a point. -/
def xnOf : FVec Ideal S512x1024 .bf16 := k0_pay7 (iblk m c 0 t) (iblk m c 1 t)

/-- The second projection of a point's rows. -/
def vOf : FVec Ideal S512x768 .f32 := k0_pay20 (xnOf m c t) (iblk m c 5 t)

set_option maxHeartbeats 2000000 in
/-- The results' buffers after a point: whichever of its two forms the body takes there, it stores the same vectors. -/
theorem points :
    (outsAt0 m c t.val t.isLt).1 = k0_pay9 (iblk m c 0 t) (iblk m c 1 t) (iblk m c 2 t)
    ∧ (outsAt0 m c t.val t.isLt).2.1 = k0_pay10 (iblk m c 0 t) (iblk m c 1 t) (iblk m c 2 t)
    ∧ (outsAt0 m c t.val t.isLt).2.2.1 = k0_pay12 (k0_pay11 (iblk m c 0 t) (iblk m c 1 t) (iblk m c 2 t))
    ∧ (outsAt0 m c t.val t.isLt).2.2.2.2.2.1 = queriesV (xnOf m c t) (iblk m c 5 t) (iblk m c 7 t) (iblk m c 8 t)
    ∧ (outsAt0 m c t.val t.isLt).2.2.2.2.2.2.1
      = k0_pay1 (k0_pay21 (iblk m c 7 t)) (k0_pay22 (iblk m c 8 t)) k0_pay23 (k0_pay30 (vOf m c t)) (k0_pay31 (vOf m c t))
    ∧ (outsAt0 m c t.val t.isLt).2.2.2.2.2.2.2.1 = k0_pay2 (vOf m c t)
    ∧ (outsAt0 m c t.val t.isLt).2.2.2.2.2.2.2.2.1 = k0_pay4 (xnOf m c t) (iblk m c 6 t)
    ∧ (outsAt0 m c t.val t.isLt).2.2.2.2.2.2.2.2.2.1 = k0_pay5 (xnOf m c t) (iblk m c 6 t) := by
  by_cases h0 : t.val % 32 = 0
  · rw [outsAt0_A m c t h0]
    dsimp only
    unfold out0_A_9 out0_A_10 out0_A_11 out0_A_14 out0_A_15 out0_A_16 out0_A_17 out0_A_18
    refine ⟨(View.read_writes_eq_canon _ _ _ fun y => cover0_A_9 (y := y) ..).trans ?_,
      (View.read_writes_eq_canon _ _ _ fun y => cover0_A_10 (y := y) ..).trans ?_,
      (View.read_writes_eq_canon _ _ _ fun y => cover0_A_11 (y := y) ..).trans ?_,
      (View.read_writes_eq_canon _ _ _ fun y => cover0_A_14 (y := y) ..).trans ?_,
      (View.read_writes_eq_canon _ _ _ fun y => cover0_A_15 (y := y) ..).trans ?_,
      (View.read_writes_eq_canon _ _ _ fun y => cover0_A_16 (y := y) ..).trans ?_,
      (View.read_writes_eq_canon _ _ _ fun y => cover0_A_17 (y := y) ..).trans ?_,
      (View.read_writes_eq_canon _ _ _ fun y => cover0_A_18 (y := y) ..).trans ?_⟩
    all_goals
      unfold kernelRun0_A
      dsimp only
      sl_unfold_words
      simp only [View.readAt_eq_ld, Memref.IsWhole.read_unread, View.ld_unit_zero (S := S512x1024) hz2, View.ld_unit_zero (S := S1x1024) hz2,
        View.ld_unit_zero (S := S1024x1536) hz2, View.ld_unit_zero (S := S1024x768) hz2, View.ld_unit_zero (S := S1024x2048) hz2, View.ld_unit_zero (S := S512x128) hz2]
      first | exact View.canon_unit_zero hz2 _ _ | exact View.canon_unit_zero hz3 _ _ | rfl
  · rw [outsAt0_B m c t h0]
    dsimp only
    unfold out0_B_9 out0_B_10 out0_B_11 out0_B_14 out0_B_15 out0_B_16 out0_B_17 out0_B_18
    refine ⟨(View.read_writes_eq_canon _ _ _ fun y => cover0_B_9 (y := y) ..).trans ?_,
      (View.read_writes_eq_canon _ _ _ fun y => cover0_B_10 (y := y) ..).trans ?_,
      (View.read_writes_eq_canon _ _ _ fun y => cover0_B_11 (y := y) ..).trans ?_,
      (View.read_writes_eq_canon _ _ _ fun y => cover0_B_14 (y := y) ..).trans ?_,
      (View.read_writes_eq_canon _ _ _ fun y => cover0_B_15 (y := y) ..).trans ?_,
      (View.read_writes_eq_canon _ _ _ fun y => cover0_B_16 (y := y) ..).trans ?_,
      (View.read_writes_eq_canon _ _ _ fun y => cover0_B_17 (y := y) ..).trans ?_,
      (View.read_writes_eq_canon _ _ _ fun y => cover0_B_18 (y := y) ..).trans ?_⟩
    all_goals
      unfold kernelRun0_B
      dsimp only
      sl_unfold_words
      simp only [View.readAt_eq_ld, Memref.IsWhole.read_unread, View.ld_unit_zero (S := S512x1024) hz2, View.ld_unit_zero (S := S1x1024) hz2,
        View.ld_unit_zero (S := S1024x1536) hz2, View.ld_unit_zero (S := S1024x768) hz2, View.ld_unit_zero (S := S1024x2048) hz2, View.ld_unit_zero (S := S512x128) hz2]
      first | exact View.canon_unit_zero hz2 _ _ | exact View.canon_unit_zero hz3 _ _ | rfl

end Cert.Kernel4Ideal.Own

end
-- ==== Proof.In.Final.lean ====
module

public import proofs.«01_k».proof.Proof.In.Points

/-!
The projections' results, element by element: each result's array, of the call's arguments.
-/

@[expose] public section

set_option maxRecDepth 16384

noncomputable section

namespace Cert.Kernel4Ideal.Own

open Cert.Kernel4Ideal Cert.Kernel4Ideal.Gen Cert.Ffn Cert.In
open Idealize.ShloMosaic Idealize.ShloMosaic.TcCoe Idealize.ShloMosaic.Pipeline

theorem e9 : ∀ t : Fin cfg0.N, win0_9.index t = ![0, (grid0.coords t 0).val] := (by decide +kernel : ∀ t : Fin grid0.N, _)
theorem e10 : ∀ t : Fin cfg0.N, win0_10.index t = ![(grid0.coords t 0).val, 0] := (by decide +kernel : ∀ t : Fin grid0.N, _)
theorem e11 : ∀ t : Fin cfg0.N, win0_11.index t = ![(grid0.coords t 0).val, 0, 0] := (by decide +kernel : ∀ t : Fin grid0.N, _)
theorem e14 : ∀ t : Fin cfg0.N, win0_14.index t = ![(grid0.coords t 0).val, 0] := (by decide +kernel : ∀ t : Fin grid0.N, _)
theorem e15 : ∀ t : Fin cfg0.N, win0_15.index t = ![(grid0.coords t 0).val, 0] := (by decide +kernel : ∀ t : Fin grid0.N, _)
theorem e16 : ∀ t : Fin cfg0.N, win0_16.index t = ![(grid0.coords t 0).val, 0] := (by decide +kernel : ∀ t : Fin grid0.N, _)
theorem e17 : ∀ t : Fin cfg0.N, win0_17.index t = ![(grid0.coords t 0).val, 0] := (by decide +kernel : ∀ t : Fin grid0.N, _)
theorem e18 : ∀ t : Fin cfg0.N, win0_18.index t = ![(grid0.coords t 0).val, 0] := (by decide +kernel : ∀ t : Fin grid0.N, _)

variable (m : (ℓ : Loc nD τ sig) → Buf (Elt Ideal) ℓ) (c : Dev nD) (t : Fin cfg0.N)

/-- The projection of row `T` of the arguments, at a column. -/
def projOf (T : Fin 16384) (K : Fin 4360) : EReal :=
  times (rms (fun i => (m ((c.tc : Thread nD τ).loc main_arg0) : S16384x1024.Idx → EReal) (ix2 T i))
    (fun i => (m ((c.tc : Thread nD τ).loc main_arg1) : S1x1024.Idx → EReal) (ix2 0 i)))
    (fun i k => (m ((c.tc : Thread nD τ).loc main_arg2) : S1x1024x4360.Idx → EReal) (ix3 0 i k)) K

/-- A head's 64 columns of the projection from `off`, turned by the row's angles. -/
def turnedOf {n : Nat} (off : Nat) (hoff : off + n + 64 ≤ 4360) (T : Fin 16384) (o : Fin n) : EReal :=
  turn (fun d => projOf m c T ⟨off + (64 * (o.val / 64) + d.val), by omega⟩) (fun d => Ideal.cos (angle T d)) (fun d => Ideal.sin (angle T d))
    ⟨o.val % 64, by omega⟩

/-- One of `n` columns of the projection, from `off`. -/
def colOf {n : Nat} (off : Nat) (hoff : off + n ≤ 4360) (T : Fin 16384) (o : Fin n) : EReal := projOf m c T ⟨off + o.val, by omega⟩

/-- The first values, of a block of rows: a column and a row within the block. -/
def valuesOf (b : Fin 32) (o r : Fin 512) : EReal := colOf m c 1024 (by decide) ⟨512 * b.val + r.val, by omega⟩ o

section

variable (r : Fin 512) (T : Fin 16384) (hr : T.val = 512 * (grid0.coords t 0).val + r.val)
include hr

/-- The point's normalised rows are the arguments'. -/
theorem xn_at (i : Fin 1024) : (xnOf m c t (ix2 r i) : EReal) = rms (fun i => (m ((c.tc : Thread nD τ).loc main_arg0) : S16384x1024.Idx → EReal) (ix2 T i))
    (fun i => (m ((c.tc : Thread nD τ).loc main_arg1) : S1x1024.Idx → EReal) (ix2 0 i)) i := by
  rw [xnOf, norm_at]
  simp only [blk0 m c t r _ T hr, blk1]

/-- The point's first projection. -/
theorem p1_at (k : Fin 1536) (K : Fin 4360) (hK : K.val = k.val) :
    (k0_pay8 (iblk m c 0 t) (iblk m c 1 t) (iblk m c 2 t) (ix2 r k) : EReal) = projOf m c T K := by
  refine (first_at _ _ r _ k).trans ?_
  unfold projOf times
  simp only [blk0 m c t r _ T hr, blk1, blk2 m c t _ k K (by omega)]

/-- The point's second projection. -/
theorem p2_at (k : Fin 768) (K : Fin 4360) (hK : K.val = 1544 + k.val) : (vOf m c t (ix2 r k) : EReal) = projOf m c T K := by
  refine (second_at _ r _ k).trans ?_
  unfold projOf times
  simp only [xn_at m c t r T hr, blk5 m c t _ k K hK]

/-- The point's gates. -/
theorem p3_at (k : Fin 2048) (K : Fin 4360) (hK : K.val = 2312 + k.val) :
    (k0_pay3 (xnOf m c t) (iblk m c 6 t) (ix2 r k) : EReal) = sigmoid (projOf m c T K) := by
  refine (gate_at _ r _ k).trans (congrArg sigmoid ?_)
  unfold projOf times
  simp only [xn_at m c t r T hr, blk6 m c t _ k K hK]

/-- 128 columns of the point's second projection turned: the heads' turning by the row's angles. -/
theorem turned_at (off : Nat) (hoff : off + 128 ≤ 768) (f : Fin 128 → EReal) (hf : ∀ l : Fin 128, f l = vOf m c t (ix2 r ⟨off + l.val, by omega⟩)) (l : Fin 128)
    (d : Fin 64) (hd : d.val = l.val % 64) (g : Fin 64 → EReal) (hg : ∀ d' : Fin 64, g d' = projOf m c T ⟨1544 + (off + (64 * (l.val / 64) + d'.val)), by omega⟩) :
    turnLanes f (fun l => (iblk m c 7 t : Vec Ideal S512x128 .f32) (ix2 r l)) (fun l => (iblk m c 8 t : Vec Ideal S512x128 .f32) (ix2 r l)) l
      = turn g (fun d => Ideal.cos (angle T d)) (fun d => Ideal.sin (angle T d)) d := by
  refine (turnLanes_eq _ _ _ (fun d => Ideal.cos (angle T d)) (fun d => Ideal.sin (angle T d)) (fun l => blk7 m c t r l T hr) (fun l => blk8 m c t r l T hr) l).trans ?_
  have e : d = ⟨l.val % 64, by omega⟩ := Fin.ext hd
  rw [e]
  refine congrArg (fun f => turn f (fun d => Ideal.cos (angle T d)) (fun d => Ideal.sin (angle T d)) _) (funext fun d' => ?_)
  rw [hf, hg]
  exact p2_at m c t r T hr _ _ rfl

end

/-- The first queries, a column of the array per row of the argument. -/
theorem final9 : (dats m 0 c).arrAt 9 cfg0.N = fun i : S512x16384.Idx => colOf (n := 512) m c 0 (by decide) (i 1) (i 0) * scale := by
  refine (dats m 0 c).arrAt_eq_of_covers 9 _ (by decide +kernel) fun t hf y => ?_
  blk_simp [e9]
  rw [after0_9, (points m c t).1]
  have h0 : (grid0.coords t 0).val < 32 := (grid0.coords t 0).isLt
  have y1 : (y 1).val < 512 := (y 1).isLt
  have hy : y = ix2 (y 0) (y 1) := eq_ix2 y
  have hT : 512 * (grid0.coords t 0).val + (y 1).val < 16384 := by omega
  have e : (win0_9.blk t).view.emb y = ix2 (y 0 : Fin 512) (⟨512 * (grid0.coords t 0).val + (y 1).val, hT⟩ : Fin 16384) := by
    blk_ext [e9]
  rw [e]
  exact (congrArg _ hy).trans ((pay9_at _ _ (y 1) _ (y 0)).trans (congrArg (· * scale) (p1_at m c t (y 1) _ rfl _ _ (Nat.zero_add _))))

/-- The first values: the row's block, the column, the row within the block. -/
theorem final11 : (dats m 0 c).arrAt 11 cfg0.N = fun i : S32x512x512.Idx =>
    valuesOf m c (i 0) (i 1) (i 2) := by
  refine (dats m 0 c).arrAt_eq_of_covers 11 _ (by decide +kernel) fun t hf y => ?_
  blk_simp [e11]
  rw [after0_11, (points m c t).2.2.1]
  have h0 : (grid0.coords t 0).val < 32 := (grid0.coords t 0).isLt
  have hy : y = ix3 0 (y 1 : Fin 512) (y 2 : Fin 512) := (eq_ix3 y).trans (congrArg (fun a : Fin 1 => ix3 a (y 1 : Fin 512) (y 2 : Fin 512)) (Fin.eq_zero (y 0 : Fin 1)))
  have e : (win0_11.blk t).view.emb y = ix3 (⟨(grid0.coords t 0).val, h0⟩ : Fin 32) (y 1 : Fin 512) (y 2 : Fin 512) := by
    blk_ext [e11]
  rw [e]
  exact (congrArg _ hy).trans ((pay12_at _ _ (y 2) _ (y 1)).trans (p1_at m c t (y 2) _ rfl _ _ rfl))

/-- The first keys. -/
theorem final10 : (dats m 0 c).arrAt 10 cfg0.N = fun i : S16384x512.Idx => colOf (n := 512) m c 512 (by decide) (i 0) (i 1) := by
  refine (dats m 0 c).arrAt_eq_of_covers 10 _ (by decide +kernel) fun t hf y => ?_
  blk_simp [e10]
  rw [after0_10, (points m c t).2.1]
  have h0 : (grid0.coords t 0).val < 32 := (grid0.coords t 0).isLt
  have y0 : (y 0).val < 512 := (y 0).isLt
  have hy : y = ix2 (y 0) (y 1) := eq_ix2 y
  have hT : 512 * (grid0.coords t 0).val + (y 0).val < 16384 := by omega
  have e : (win0_10.blk t).view.emb y = ix2 (⟨512 * (grid0.coords t 0).val + (y 0).val, hT⟩ : Fin 16384) (y 1 : Fin 512) := by
    blk_ext [e10]
  rw [e]
  exact (congrArg _ hy).trans ((pay10_at _ _ (y 0) _ (y 1)).trans (p1_at m c t (y 0) _ rfl _ _ rfl))

/-- The turned queries of a point. -/
theorem query_at (r : Fin 512) (T : Fin 16384) (hr : T.val = 512 * (grid0.coords t 0).val + r.val) (o : Fin 512) :
    (queriesV (xnOf m c t) (iblk m c 5 t) (iblk m c 7 t) (iblk m c 8 t) (ix2 r o) : EReal) = turnedOf m c 1544 (by decide) T o * scale := by
  refine (queriesV_at _ _ _ _ r o).trans (congrArg (· * scale) ?_)
  refine turned_at m c t r T hr (128 * (o.val / 128)) (by omega) _ (fun _ => rfl) ⟨o.val % 128, by omega⟩ _ (by show o.val % 64 = o.val % 128 % 64; omega) _ fun d' => ?_
  refine congrArg (projOf m c T) (Fin.ext ?_)
  show 1544 + (64 * (o.val / 64) + d'.val) = 1544 + (128 * (o.val / 128) + (64 * (o.val % 128 / 64) + d'.val))
  omega

/-- The turned keys of a point. -/
theorem key_at (r : Fin 512) (T : Fin 16384) (hr : T.val = 512 * (grid0.coords t 0).val + r.val) (o : Fin 128) :
    (k0_pay1 (k0_pay21 (iblk m c 7 t)) (k0_pay22 (iblk m c 8 t)) k0_pay23 (k0_pay30 (vOf m c t)) (k0_pay31 (vOf m c t)) (ix2 r o) : EReal)
      = turnedOf m c 2056 (by decide) T o := by
  refine (keys_at _ _ _ r o).trans ?_
  refine turned_at m c t r T hr 512 (by decide) _ (fun _ => rfl) o _ rfl _ fun d' => ?_
  refine congrArg (projOf m c T) (Fin.ext ?_)
  show 2056 + (64 * (o.val / 64) + d'.val) = 1544 + (512 + (64 * (o.val / 64) + d'.val))
  omega

/-- The second values of a point. -/
theorem value_at (r : Fin 512) (T : Fin 16384) (hr : T.val = 512 * (grid0.coords t 0).val + r.val) (o : Fin 128) :
    (k0_pay2 (vOf m c t) (ix2 r o) : EReal) = colOf m c 2184 (by decide) T o :=
  (pay2_at r _ o).trans (p2_at m c t r T hr _ _ (by show 2184 + o.val = 1544 + (640 + o.val); omega))

/-- The second gates of a point. -/
theorem gate2_at (r : Fin 512) (T : Fin 16384) (hr : T.val = 512 * (grid0.coords t 0).val + r.val) (o : Fin 1024) :
    (k0_pay5 (xnOf m c t) (iblk m c 6 t) (ix2 r o) : EReal) = sigmoid (colOf m c 3336 (by decide) T o) :=
  (pay5_at _ r _ o).trans (p3_at m c t r T hr _ _ (by show 3336 + o.val = 2312 + (1024 + o.val); omega))

/-- The second queries. -/
theorem final14 : (dats m 0 c).arrAt 14 cfg0.N = fun i : S16384x512.Idx => turnedOf (n := 512) m c 1544 (by decide) (i 0) (i 1) * scale := by
  refine (dats m 0 c).arrAt_eq_of_covers 14 _ (by decide +kernel) fun t hf y => ?_
  blk_simp [e14]
  rw [after0_14, (points m c t).2.2.2.1]
  have h0 : (grid0.coords t 0).val < 32 := (grid0.coords t 0).isLt
  have y0 : (y 0).val < 512 := (y 0).isLt
  have hy : y = ix2 (y 0) (y 1) := eq_ix2 y
  have hT : 512 * (grid0.coords t 0).val + (y 0).val < 16384 := by omega
  have e : (win0_14.blk t).view.emb y = ix2 (⟨512 * (grid0.coords t 0).val + (y 0).val, hT⟩ : Fin 16384) (y 1 : Fin 512) := by
    blk_ext [e14]
  rw [e]
  exact (congrArg _ hy).trans (query_at m c t (y 0) _ rfl (y 1))

/-- The second keys. -/
theorem final15 : (dats m 0 c).arrAt 15 cfg0.N = fun i : S16384x128.Idx => turnedOf (n := 128) m c 2056 (by decide) (i 0) (i 1) := by
  refine (dats m 0 c).arrAt_eq_of_covers 15 _ (by decide +kernel) fun t hf y => ?_
  blk_simp [e15]
  rw [after0_15, (points m c t).2.2.2.2.1]
  have h0 : (grid0.coords t 0).val < 32 := (grid0.coords t 0).isLt
  have y0 : (y 0).val < 512 := (y 0).isLt
  have hy : y = ix2 (y 0) (y 1) := eq_ix2 y
  have hT : 512 * (grid0.coords t 0).val + (y 0).val < 16384 := by omega
  have e : (win0_15.blk t).view.emb y = ix2 (⟨512 * (grid0.coords t 0).val + (y 0).val, hT⟩ : Fin 16384) (y 1 : Fin 128) := by
    blk_ext [e15]
  rw [e]
  exact (congrArg _ hy).trans (key_at m c t (y 0) _ rfl (y 1))

/-- The second values. -/
theorem final16 : (dats m 0 c).arrAt 16 cfg0.N = fun i : S16384x128.Idx => colOf (n := 128) m c 2184 (by decide) (i 0) (i 1) := by
  refine (dats m 0 c).arrAt_eq_of_covers 16 _ (by decide +kernel) fun t hf y => ?_
  blk_simp [e16]
  rw [after0_16, (points m c t).2.2.2.2.2.1]
  have h0 : (grid0.coords t 0).val < 32 := (grid0.coords t 0).isLt
  have y0 : (y 0).val < 512 := (y 0).isLt
  have hy : y = ix2 (y 0) (y 1) := eq_ix2 y
  have hT : 512 * (grid0.coords t 0).val + (y 0).val < 16384 := by omega
  have e : (win0_16.blk t).view.emb y = ix2 (⟨512 * (grid0.coords t 0).val + (y 0).val, hT⟩ : Fin 16384) (y 1 : Fin 128) := by
    blk_ext [e16]
  rw [e]
  exact (congrArg _ hy).trans (value_at m c t (y 0) _ rfl (y 1))

/-- The first gates. -/
theorem final17 : (dats m 0 c).arrAt 17 cfg0.N = fun i : S16384x1024.Idx => sigmoid (colOf (n := 1024) m c 2312 (by decide) (i 0) (i 1)) := by
  refine (dats m 0 c).arrAt_eq_of_covers 17 _ (by decide +kernel) fun t hf y => ?_
  blk_simp [e17]
  rw [after0_17, (points m c t).2.2.2.2.2.2.1]
  have h0 : (grid0.coords t 0).val < 32 := (grid0.coords t 0).isLt
  have y0 : (y 0).val < 512 := (y 0).isLt
  have hy : y = ix2 (y 0) (y 1) := eq_ix2 y
  have hT : 512 * (grid0.coords t 0).val + (y 0).val < 16384 := by omega
  have e : (win0_17.blk t).view.emb y = ix2 (⟨512 * (grid0.coords t 0).val + (y 0).val, hT⟩ : Fin 16384) (y 1 : Fin 1024) := by
    blk_ext [e17]
  rw [e]
  exact (congrArg _ hy).trans ((pay4_at _ (y 0) _ (y 1)).trans (p3_at m c t (y 0) _ rfl _ _ rfl))

/-- The second gates. -/
theorem final18 : (dats m 0 c).arrAt 18 cfg0.N = fun i : S16384x1024.Idx => sigmoid (colOf (n := 1024) m c 3336 (by decide) (i 0) (i 1)) := by
  refine (dats m 0 c).arrAt_eq_of_covers 18 _ (by decide +kernel) fun t hf y => ?_
  blk_simp [e18]
  rw [after0_18, (points m c t).2.2.2.2.2.2.2]
  have h0 : (grid0.coords t 0).val < 32 := (grid0.coords t 0).isLt
  have y0 : (y 0).val < 512 := (y 0).isLt
  have hy : y = ix2 (y 0) (y 1) := eq_ix2 y
  have hT : 512 * (grid0.coords t 0).val + (y 0).val < 16384 := by omega
  have e : (win0_18.blk t).view.emb y = ix2 (⟨512 * (grid0.coords t 0).val + (y 0).val, hT⟩ : Fin 16384) (y 1 : Fin 1024) := by
    blk_ext [e18]
  rw [e]
  exact (congrArg _ hy).trans (gate2_at m c t (y 0) _ rfl (y 1))

end Cert.Kernel4Ideal.Own

end
-- ==== Proof.In.Reference.lean ====
module

public import proofs.«01_k».proof.Proof.In.Math
public import proofs.«01_k».proof.Proof.Gen.Reference4Ideal.Run
public import Idealize.ShloMosaic.Lib.Pointwise

/-!
The projections' reference: its term in pieces, each read at an index.
-/

@[expose] public section

set_option maxRecDepth 16384

noncomputable section

namespace Cert.Reference4Ideal.Own

open Cert.Reference4Ideal Cert.Reference4Ideal.Gen Cert.Reference4Ideal.Value Cert.Ffn Cert.In
open Idealize.ShloMosaic Idealize.ShloMosaic.TcCoe

variable (x : FVec Ideal S16384x1024 .f32) (g : FVec Ideal S1x1024 .f32) (w : FVec Ideal S1x1024x4360 .f32)

/-- The rows over the root of their mean square, scaled. -/
def rmsR : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 (shapeCast S1024 g shapeCasts_S1x1024_S1024)))

/-- The rows' projection, all 4360 columns. -/
def projR : FVec Ideal S16384x4360 .f32 :=
  Host.dotGeneral dot_S16384x1024_S1024x4360_S16384x4360_1_0_0_1_n_n none (rmsR x g) (shapeCast S1024x4360 w shapeCasts_S1x1024x4360_S1024x4360 : FVec Ideal S1024x4360 .f32)

/-- The angles of the positions. -/
def angleR : FVec Ideal S16384x32 .f32 :=
  mulf (broadcastInDim S16384x32 ![0, 1] bcast_S16384x1_S16384x32_0_1 (broadcastInDim S16384x1 ![0] bcast_S16384_S16384x1_0 (sitofp .f32 (iotaInDim S16384 32 0))))
    (broadcastInDim S16384x32 ![0, 1] bcast_S1x32_S16384x32_0_1 (broadcastInDim S1x32 ![1] bcast_S32_S1x32_1 (Host.divf (broadcastInDim S32 ![] bcast_S_S32 (constant S_ .f32 0x3F800000#32))
      (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

section

variable (p : FVec Ideal S16384x4360 .f32) (C S : FVec Ideal S16384x32 .f32)

/-- The eight heads of the second queries, turned. -/
def turnQ : FVec Ideal S16384x512 .f32 :=
  let q : FVec Ideal S16384x8x64 .f32 := shapeCast S16384x8x64 (extractStridedSlice S16384x512 ![0, 1544] p slices_S16384x4360_S16384x512_0_1544) shapeCasts_S16384x512_S16384x8x64
  let a : FVec Ideal S16384x8x32 .f32 := extractStridedSlice S16384x8x32 ![0, 0, 0] q slices_S16384x8x64_S16384x8x32_0_0_0
  let b : FVec Ideal S16384x8x32 .f32 := extractStridedSlice S16384x8x32 ![0, 0, 32] q slices_S16384x8x64_S16384x8x32_0_0_32
  let c : FVec Ideal S16384x8x32 .f32 := broadcastInDim S16384x8x32 ![0, 1, 2] bcast_S16384x1x32_S16384x8x32_0_1_2 (broadcastInDim S16384x1x32 ![0, 2] bcast_S16384x32_S16384x1x32_0_2 C)
  let s : FVec Ideal S16384x8x32 .f32 := broadcastInDim S16384x8x32 ![0, 1, 2] bcast_S16384x1x32_S16384x8x32_0_1_2 (broadcastInDim S16384x1x32 ![0, 2] bcast_S16384x32_S16384x1x32_0_2 S)
  shapeCast S16384x512 (concatenate S16384x8x64 2 [⟨S16384x8x32, subf (mulf a c) (mulf b s)⟩, ⟨S16384x8x32, addf (mulf b c) (mulf a s)⟩] concatenates_S16384x8x32_S16384x8x32_S16384x8x64_d2) shapeCasts_S16384x8x64_S16384x512

/-- The two heads of the second keys, turned. -/
def turnK : FVec Ideal S16384x128 .f32 :=
  let q : FVec Ideal S16384x2x64 .f32 := shapeCast S16384x2x64 (extractStridedSlice S16384x128 ![0, 2056] p slices_S16384x4360_S16384x128_0_2056) shapeCasts_S16384x128_S16384x2x64
  let a : FVec Ideal S16384x2x32 .f32 := extractStridedSlice S16384x2x32 ![0, 0, 0] q slices_S16384x2x64_S16384x2x32_0_0_0
  let b : FVec Ideal S16384x2x32 .f32 := extractStridedSlice S16384x2x32 ![0, 0, 32] q slices_S16384x2x64_S16384x2x32_0_0_32
  let c : FVec Ideal S16384x2x32 .f32 := broadcastInDim S16384x2x32 ![0, 1, 2] bcast_S16384x1x32_S16384x2x32_0_1_2 (broadcastInDim S16384x1x32 ![0, 2] bcast_S16384x32_S16384x1x32_0_2 C)
  let s : FVec Ideal S16384x2x32 .f32 := broadcastInDim S16384x2x32 ![0, 1, 2] bcast_S16384x1x32_S16384x2x32_0_1_2 (broadcastInDim S16384x1x32 ![0, 2] bcast_S16384x32_S16384x1x32_0_2 S)
  shapeCast S16384x128 (concatenate S16384x2x64 2 [⟨S16384x2x32, subf (mulf a c) (mulf b s)⟩, ⟨S16384x2x32, addf (mulf b c) (mulf a s)⟩] concatenates_S16384x2x32_S16384x2x32_S16384x2x64_d2) shapeCasts_S16384x2x64_S16384x128

/-- The first queries, scaled and transposed. -/
def qaR : FVec Ideal S512x16384 .bf16 :=
  truncf .bf16 (transpose S512x16384 [1, 0] (mulf (extractStridedSlice S16384x512 ![0, 0] p slices_S16384x4360_S16384x512_0_0) (broadcastInDim S16384x512 ![] bcast_S_S16384x512 (constant S_ .f32 0x3E000000#32))) transposes_S16384x512_S512x16384_1_0) bitsLt_bf16_f32

/-- The first keys. -/
def kaR : FVec Ideal S16384x512 .bf16 :=
  truncf .bf16 (extractStridedSlice S16384x512 ![0, 512] p slices_S16384x4360_S16384x512_0_512) bitsLt_bf16_f32

/-- The first values, block by block transposed. -/
def vaR : FVec Ideal S32x512x512 .bf16 :=
  truncf .bf16 (transpose S32x512x512 [0, 2, 1] (shapeCast S32x512x512 (extractStridedSlice S16384x512 ![0, 1024] p slices_S16384x4360_S16384x512_0_1024) shapeCasts_S16384x512_S32x512x512 : FVec Ideal S32x512x512 .f32) transposes_S32x512x512_S32x512x512_0_2_1) bitsLt_bf16_f32

/-- The second queries, turned and scaled. -/
def qbR : FVec Ideal S16384x512 .bf16 :=
  truncf .bf16 (mulf (turnQ p C S) (broadcastInDim S16384x512 ![] bcast_S_S16384x512 (constant S_ .f32 0x3E000000#32))) bitsLt_bf16_f32

/-- The second keys, turned. -/
def kbR : FVec Ideal S16384x128 .bf16 := truncf .bf16 (turnK p C S) bitsLt_bf16_f32

/-- The second values. -/
def vbR : FVec Ideal S16384x128 .bf16 :=
  truncf .bf16 (extractStridedSlice S16384x128 ![0, 2184] p slices_S16384x4360_S16384x128_0_2184) bitsLt_bf16_f32

/-- The sigmoid, element by element. -/
def sigR (v : FVec Ideal S16384x1024 .f32) : FVec Ideal S16384x1024 .bf16 :=
  truncf .bf16 (Host.divf (broadcastInDim S16384x1024 ![] bcast_S_S16384x1024 (constant S_ .f32 0x3F800000#32)) (addf (broadcastInDim S16384x1024 ![] bcast_S_S16384x1024 (constant S_ .f32 0x3F800000#32)) (Host.exp (Host.negf v)))) bitsLt_bf16_f32

/-- The first gates. -/
def gaR : FVec Ideal S16384x1024 .bf16 := sigR (extractStridedSlice S16384x1024 ![0, 2312] p slices_S16384x4360_S16384x1024_0_2312)

/-- The second gates. -/
def gbR : FVec Ideal S16384x1024 .bf16 := sigR (extractStridedSlice S16384x1024 ![0, 3336] p slices_S16384x4360_S16384x1024_0_3336)

end

theorem rmsR_at (T : Fin 16384) (o : Fin 1024) :
    (rmsR x g (ix2 T o) : EReal) = rms (fun i => x (ix2 T i)) (fun i => g (ix2 0 i)) o := by
  pointwise [rmsR]
  rfl

theorem projR_at (T : Fin 16384) (k : Fin 4360) :
    (projR x g w (ix2 T k) : EReal) = times (rms (fun i => x (ix2 T i)) (fun i => g (ix2 0 i))) (fun i k => w (ix3 0 i k)) k := by
  unfold times
  simp only [← rmsR_at]
  pointwise [projR]

theorem angleR_at (T : Fin 16384) (d : Fin 32) : (angleR (ix2 T d) : EReal) = angle T d := by
  pointwise [angleR]
  rfl

section

variable (p : FVec Ideal S16384x4360 .f32) (C S : FVec Ideal S16384x32 .f32) (T : Fin 16384)

theorem turnQ_at (k : Fin 512) : (turnQ p C S (ix2 T k) : EReal)
    = turn (fun d => p (ix2 T ⟨1544 + (64 * (k.val / 64) + d.val), by omega⟩)) (fun d => C (ix2 T d)) (fun d => S (ix2 T d)) ⟨k.val % 64, by omega⟩ := by
  unfold turn
  pointwise [turnQ]
  have e1 : 64 * (k.val / 64) + k.val % 64 = k.val := by omega
  have e2 : k.val / 64 * 64 = 64 * (k.val / 64) := Nat.mul_comm _ _
  by_cases h : k.val % 64 < 32
  · simp only [h, e1, e2, Nat.add_comm 32, ↓reduceDIte]
  · have e3 : 64 * (k.val / 64) + (32 + (k.val % 64 - 32)) = k.val := by omega
    simp only [h, e1, e2, e3, ↓reduceDIte]

theorem turnK_at (k : Fin 128) : (turnK p C S (ix2 T k) : EReal)
    = turn (fun d => p (ix2 T ⟨2056 + (64 * (k.val / 64) + d.val), by omega⟩)) (fun d => C (ix2 T d)) (fun d => S (ix2 T d)) ⟨k.val % 64, by omega⟩ := by
  unfold turn
  pointwise [turnK]
  have e1 : 64 * (k.val / 64) + k.val % 64 = k.val := by omega
  have e2 : k.val / 64 * 64 = 64 * (k.val / 64) := Nat.mul_comm _ _
  by_cases h : k.val % 64 < 32
  · simp only [h, e1, e2, Nat.add_comm 32, ↓reduceDIte]
  · have e3 : 64 * (k.val / 64) + (32 + (k.val % 64 - 32)) = k.val := by omega
    simp only [h, e1, e2, e3, ↓reduceDIte]

theorem qaR_at (o : Fin 512) : (qaR p (ix2 o T) : EReal) = p (ix2 T ⟨o.val, by omega⟩) * scale := by
  pointwise [qaR]

theorem kaR_at (o : Fin 512) : (kaR p (ix2 T o) : EReal) = p (ix2 T ⟨512 + o.val, by omega⟩) := by
  pointwise [kaR]

theorem vaR_at (b : Fin 32) (o r : Fin 512) : (vaR p (ix3 b o r) : EReal) = p (ix2 ⟨512 * b.val + r.val, by omega⟩ ⟨1024 + o.val, by omega⟩) := by
  pointwise [vaR]
  simp only [Nat.mul_comm b.val 512]

theorem qbR_at (o : Fin 512) : (qbR p C S (ix2 T o) : EReal) = turnQ p C S (ix2 T o) * scale := by
  pointwise [qbR]

theorem kbR_at (o : Fin 128) : (kbR p C S (ix2 T o) : EReal) = turnK p C S (ix2 T o) := by
  pointwise [kbR]

theorem vbR_at (o : Fin 128) : (vbR p (ix2 T o) : EReal) = p (ix2 T ⟨2184 + o.val, by omega⟩) := by
  pointwise [vbR]

theorem sigR_at (v : FVec Ideal S16384x1024 .f32) (o : Fin 1024) : (sigR v (ix2 T o) : EReal) = sigmoid (v (ix2 T o)) := by
  rw [sigmoid, one_eq]
  pointwise [sigR]

theorem gaR_at (o : Fin 1024) : (gaR p (ix2 T o) : EReal) = sigmoid (p (ix2 T ⟨2312 + o.val, by omega⟩)) := by
  rw [gaR, sigR_at]
  pointwise

theorem gbR_at (o : Fin 1024) : (gbR p (ix2 T o) : EReal) = sigmoid (p (ix2 T ⟨3336 + o.val, by omega⟩)) := by
  rw [gbR, sigR_at]
  pointwise

end

end Cert.Reference4Ideal.Own

end
-- ==== Proof.In.Algebraic.lean ====
module

public import proofs.«01_k».proof.Defs
public import proofs.«01_k».proof.Proof.In.Final
public import proofs.«01_k».proof.Proof.In.Reference
public import proofs.«01_k».proof.Proof.Gen.Kernel4Ideal.Value

/-!
The projections' value claim: the kernel and the reference, given the same arguments, end with the same results.
-/

@[expose] public section

set_option maxRecDepth 16384

noncomputable section

namespace Cert.Reference4Ideal.Own

open Cert.Reference4Ideal Cert.Reference4Ideal.Gen Cert.Reference4Ideal.Value Cert.Ffn Cert.In
open Idealize.ShloMosaic Idealize.ShloMosaic.TcCoe

variable (m : (ℓ : Loc nD τ sig) → Buf (Elt Ideal) ℓ) (c : Dev nD)

/-- The rows' projection, of the arguments. -/
def projM : FVec Ideal S16384x4360 .f32 :=
  projR (m ((c.tc : Thread nD τ).loc main_arg0)) (m ((c.tc : Thread nD τ).loc main_arg1)) (m ((c.tc : Thread nD τ).loc main_arg2))

theorem queries_eq : (res_main_v88 m c : FVec Ideal S16384x512 .bf16) = qbR (projM m c) (Host.cos angleR) (Host.sin angleR) := rfl

theorem keys_eq : (res_main_v89 m c : FVec Ideal S16384x128 .bf16) = kbR (projM m c) (Host.cos angleR) (Host.sin angleR) := rfl

/-- The cosines' table. -/
theorem cosR_at (T : Fin 16384) (d : Fin 32) : ((Host.cos angleR : FVec Ideal S16384x32 .f32) (ix2 T d) : EReal) = Ideal.cos (angle T d) :=
  congrArg Ideal.cos (angleR_at T d)

/-- The sines' table. -/
theorem sinR_at (T : Fin 16384) (d : Fin 32) : ((Host.sin angleR : FVec Ideal S16384x32 .f32) (ix2 T d) : EReal) = Ideal.sin (angle T d) :=
  congrArg Ideal.sin (angleR_at T d)

end Cert.Reference4Ideal.Own

namespace Cert.Proof

open Idealize.ShloMosaic Idealize.SL.Sem Cert.Ffn Cert.In

section

variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ) (c : Dev Cert.Kernel4Ideal.nD)

/-- The reference's projection of the same arguments is the kernel's. -/
theorem proj_eq
    (h : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (T : Fin 16384) (K : Fin 4360) : (Cert.Reference4Ideal.Own.projM m' c (ix2 T K) : EReal) = Cert.Kernel4Ideal.Own.projOf m c T K := by
  obtain ⟨a0, a1, a2⟩ := h
  rw [Cert.Reference4Ideal.Own.projM, a0, a1, a2]
  exact Cert.Reference4Ideal.Own.projR_at _ _ _ T K

variable (hp : ∀ (T : Fin 16384) (K : Fin 4360), (Cert.Reference4Ideal.Own.projM m' c (ix2 T K) : EReal) = Cert.Kernel4Ideal.Own.projOf m c T K)
include hp

/-- The first queries. -/
theorem result0 : Cert.Reference4Ideal.Own.qaR (Cert.Reference4Ideal.Own.projM m' c) = (Cert.Kernel4Ideal.Gen.dats m 0 c).arrAt 9 Cert.Kernel4Ideal.cfg0.N := by
  refine Eq.trans ?_ (Cert.Kernel4Ideal.Own.final9 m c).symm
  funext i
  exact (congrArg _ (eq_ix2 i)).trans ((Cert.Reference4Ideal.Own.qaR_at _ (i 1) (i 0)).trans (congrArg (· * scale) ((hp _ _).trans (congrArg (Cert.Kernel4Ideal.Own.projOf m c _) (Fin.ext (Nat.zero_add _).symm)))))

/-- The first keys. -/
theorem result1 : Cert.Reference4Ideal.Own.kaR (Cert.Reference4Ideal.Own.projM m' c) = (Cert.Kernel4Ideal.Gen.dats m 0 c).arrAt 10 Cert.Kernel4Ideal.cfg0.N := by
  refine Eq.trans ?_ (Cert.Kernel4Ideal.Own.final10 m c).symm
  funext i
  exact (congrArg _ (eq_ix2 i)).trans ((Cert.Reference4Ideal.Own.kaR_at _ (i 0) (i 1)).trans (hp _ _))

/-- The first values. -/
theorem result2 : Cert.Reference4Ideal.Own.vaR (Cert.Reference4Ideal.Own.projM m' c) = (Cert.Kernel4Ideal.Gen.dats m 0 c).arrAt 11 Cert.Kernel4Ideal.cfg0.N := by
  refine Eq.trans ?_ (Cert.Kernel4Ideal.Own.final11 m c).symm
  funext i
  exact (congrArg _ (eq_ix3 i)).trans ((Cert.Reference4Ideal.Own.vaR_at _ (i 0) (i 1) (i 2)).trans (hp _ _))

/-- The reference's turned queries, element by element. -/
theorem query_ref (T : Fin 16384) (o : Fin 512) : (Cert.Reference4Ideal.Own.qbR (Cert.Reference4Ideal.Own.projM m' c) (Host.cos Cert.Reference4Ideal.Own.angleR) (Host.sin Cert.Reference4Ideal.Own.angleR) (ix2 T o) : EReal)
    = Cert.Kernel4Ideal.Own.turnedOf m c 1544 (by decide) T o * scale := by
  refine (Cert.Reference4Ideal.Own.qbR_at _ _ _ T o).trans (congrArg (· * scale) ((Cert.Reference4Ideal.Own.turnQ_at _ _ _ T o).trans ?_))
  simp only [hp, Cert.Reference4Ideal.Own.cosR_at, Cert.Reference4Ideal.Own.sinR_at]
  rfl

/-- The reference's turned keys, element by element. -/
theorem key_ref (T : Fin 16384) (o : Fin 128) : (Cert.Reference4Ideal.Own.kbR (Cert.Reference4Ideal.Own.projM m' c) (Host.cos Cert.Reference4Ideal.Own.angleR) (Host.sin Cert.Reference4Ideal.Own.angleR) (ix2 T o) : EReal)
    = Cert.Kernel4Ideal.Own.turnedOf m c 2056 (by decide) T o := by
  refine (Cert.Reference4Ideal.Own.kbR_at _ _ _ T o).trans (((Cert.Reference4Ideal.Own.turnK_at _ _ _ T o).trans ?_))
  simp only [hp, Cert.Reference4Ideal.Own.cosR_at, Cert.Reference4Ideal.Own.sinR_at]
  rfl

/-- The second queries. -/
theorem result3 : Cert.Reference4Ideal.Own.qbR (Cert.Reference4Ideal.Own.projM m' c) (Host.cos Cert.Reference4Ideal.Own.angleR) (Host.sin Cert.Reference4Ideal.Own.angleR) = (Cert.Kernel4Ideal.Gen.dats m 0 c).arrAt 14 Cert.Kernel4Ideal.cfg0.N := by
  refine Eq.trans ?_ (Cert.Kernel4Ideal.Own.final14 m c).symm
  funext i
  exact (congrArg _ (eq_ix2 i)).trans (query_ref m m' c hp (i 0) (i 1))

/-- The second keys. -/
theorem result4 : Cert.Reference4Ideal.Own.kbR (Cert.Reference4Ideal.Own.projM m' c) (Host.cos Cert.Reference4Ideal.Own.angleR) (Host.sin Cert.Reference4Ideal.Own.angleR) = (Cert.Kernel4Ideal.Gen.dats m 0 c).arrAt 15 Cert.Kernel4Ideal.cfg0.N := by
  refine Eq.trans ?_ (Cert.Kernel4Ideal.Own.final15 m c).symm
  funext i
  exact (congrArg _ (eq_ix2 i)).trans (key_ref m m' c hp (i 0) (i 1))

/-- The second values. -/
theorem result5 : Cert.Reference4Ideal.Own.vbR (Cert.Reference4Ideal.Own.projM m' c) = (Cert.Kernel4Ideal.Gen.dats m 0 c).arrAt 16 Cert.Kernel4Ideal.cfg0.N := by
  refine Eq.trans ?_ (Cert.Kernel4Ideal.Own.final16 m c).symm
  funext i
  exact (congrArg _ (eq_ix2 i)).trans ((Cert.Reference4Ideal.Own.vbR_at _ (i 0) (i 1)).trans (hp _ _))

/-- The first gates. -/
theorem result6 : Cert.Reference4Ideal.Own.gaR (Cert.Reference4Ideal.Own.projM m' c) = (Cert.Kernel4Ideal.Gen.dats m 0 c).arrAt 17 Cert.Kernel4Ideal.cfg0.N := by
  refine Eq.trans ?_ (Cert.Kernel4Ideal.Own.final17 m c).symm
  funext i
  exact (congrArg _ (eq_ix2 i)).trans ((Cert.Reference4Ideal.Own.gaR_at _ (i 0) (i 1)).trans (congrArg sigmoid (hp _ _)))

/-- The second gates. -/
theorem result7 : Cert.Reference4Ideal.Own.gbR (Cert.Reference4Ideal.Own.projM m' c) = (Cert.Kernel4Ideal.Gen.dats m 0 c).arrAt 18 Cert.Kernel4Ideal.cfg0.N := by
  refine Eq.trans ?_ (Cert.Kernel4Ideal.Own.final18 m c).symm
  funext i
  exact (congrArg _ (eq_ix2 i)).trans ((Cert.Reference4Ideal.Own.gbR_at _ (i 0) (i 1)).trans (congrArg sigmoid (hp _ _)))

end

set_option maxHeartbeats 8000000 in
/-- The kernel computes the projections' reference. -/
theorem algebraic4 : Cert.algebraic_Kernel4Ideal_Reference4Ideal := by
  intro m ρ m' ρ' _ hargs
  have hp := fun c => proj_eq m m' c ⟨(hargs c).1, (hargs c).2.1, (hargs c).2.2.1⟩
  refine ⟨fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N,
    fun c => (Cert.Kernel4Ideal.Gen.dats m 0 c).arrAt 16 Cert.Kernel4Ideal.cfg0.N,
    fun c => (Cert.Kernel4Ideal.Gen.dats m 0 c).arrAt 17 Cert.Kernel4Ideal.cfg0.N,
    fun c => (Cert.Kernel4Ideal.Gen.dats m 0 c).arrAt 18 Cert.Kernel4Ideal.cfg0.N,
    (θ_run Cert.Kernel4Ideal.defs _ _).mono (fun r h c => ?_) (Cert.Kernel4Ideal.Value.run_blocks m ρ),
    (θ_run Cert.Reference4Ideal.defs _ _).mono (fun r h c => ?_) (Cert.Reference4Ideal.Value.run (F := Ideal) m' ρ')⟩
  · obtain ⟨r0, r1, r2, -, -, r3, r4, r5, r6, r7, args⟩ := h c
    exact ⟨r0, r1, r2, r3, r4, r5, r6, r7, args⟩
  · obtain ⟨r0, r1, r2, r3, r4, r5, r6, r7, args⟩ := h c
    refine ⟨?_, ?_, ?_, ?_, ?_, ?_, ?_, ?_, args⟩
    · exact r0.trans (result0 m m' c (hp c))
    · exact r1.trans (result1 m m' c (hp c))
    · exact r2.trans (result2 m m' c (hp c))
    · exact r3.trans (result3 m m' c (hp c))
    · exact r4.trans (result4 m m' c (hp c))
    · exact r5.trans (result5 m m' c (hp c))
    · exact r6.trans (result6 m m' c (hp c))
    · exact r7.trans (result7 m m' c (hp c))

end Cert.Proof

end
-- ==== Proof.Swa.Frames.lean ====
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Pre_finite
public import Idealize.ShloMosaic.Adequacy
public import Idealize.ShloMosaic.Init

/-!
The sliding-window attention's programs end, with their arguments and semaphores as they were; and its one named constant.
-/

@[expose] public section

noncomputable section

namespace Cert.Proof

open Idealize.ShloMosaic Idealize.SL.Sem

/-- The kernel over the machine's words. -/
theorem frame_kernel5 : Cert.quiescent_Kernel5 := fun m ρ _ => Cert.Kernel5.Gen.frame m ρ

/-- The kernel over the extended reals. -/
theorem frame_kernel5Ideal : Cert.quiescent_Kernel5Ideal := fun m ρ _ => Cert.Kernel5Ideal.Gen.frame m ρ

/-- The reference over the extended reals. -/
theorem frame_reference5Ideal : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The constant `mask` stands for −∞. -/
theorem preserves5 : Cert.preserves_Kernel5_Kernel5Ideal :=
  IdealRules.named_const.statement Cert.Kernel5Ideal.κ "mask" .f32 0xF149F2CA#32 ⊥ rfl

end Cert.Proof

end
-- ==== Proof.Swa.Math.lean ====
module

public import proofs.«01_k».proof.Proof.Softmax

/-!
Attention of one query over a window of 256 keys and one sink, in two forms: the weighted sum divided at the end, and
the values summed by the weights of a softmax over the 257 scores.
-/

@[expose] public section

noncomputable section

namespace Cert.Swa

open Idealize.ShloMosaic Finset Cert.Softmax

variable (z v : Fin 256 → EReal) (s : EReal)

/-- The greatest of the window's scores and the sink's. -/
def top : EReal := max (Finset.fold max ⊥ z univ) s

/-- The values weighted by exponentials, divided by the sum of the exponentials, the sink's among them. -/
def attend : EReal :=
  Ideal.div (∑ k, Ideal.exp (z k - top z s) * v k) ((∑ k, Ideal.exp (z k - top z s)) + Ideal.exp (s - top z s))

/-- The scores of the window followed by the sink's. -/
def joined (u : Fin 257) : EReal := if h : u.val < 256 then z ⟨u.val, h⟩ else s

/-- The values summed by the first 256 weights of a softmax over the 257 scores. -/
def softmaxed : EReal :=
  ∑ k : Fin 256, v k * Ideal.div (Ideal.exp (joined z s ⟨k.val, by omega⟩ - Finset.fold max ⊥ (joined z s) univ))
    (∑ u : Fin 257, Ideal.exp (joined z s u - Finset.fold max ⊥ (joined z s) univ))

/-- The 257 scores, counted from 0 and the sink's from there on. -/
def scores (n : ℕ) : EReal := if h : n < 256 then z ⟨n, h⟩ else s

/-- The values, and nothing for the sink. -/
def vals (n : ℕ) : EReal := if h : n < 256 then v ⟨n, h⟩ else 0

theorem scores_lt (k : Fin 256) : scores z s k.val = z k := by unfold scores; rw [dif_pos k.isLt]
theorem scores_sink : scores z s 256 = s := by unfold scores; rw [dif_neg (by omega)]
theorem vals_lt (k : Fin 256) : vals v k.val = v k := by unfold vals; rw [dif_pos k.isLt]
theorem vals_sink : vals v 256 = 0 := by unfold vals; rw [dif_neg (by omega)]

theorem fold_peak (w : ℕ → EReal) (n : ℕ) : Finset.fold max ⊥ (fun k : Fin n => w k.val) univ = peak w n := by
  have e := peak_add w 0 n
  rw [peak_zero, max_eq_right bot_le, Nat.zero_add] at e
  rw [e]; unfold tileMax; simp only [Nat.zero_add]

theorem top_eq : top z s = peak (scores z s) 257 := by
  have e := peak_add (scores z s) 256 1
  have e1 : tileMax (scores z s) 256 1 = s := by
    unfold tileMax
    rw [fold_eq_sup, Finset.univ_unique, Finset.sup_singleton]
    exact scores_sink z s
  rw [e1, ← fold_peak] at e
  unfold top
  refine Eq.trans ?_ e.symm
  congr 1

theorem joined_top : Finset.fold max ⊥ (joined z s) univ = peak (scores z s) 257 := fold_peak (scores z s) 257

/-- The two forms agree where the greatest score is a number. -/
theorem attend_eq (h0 : peak (scores z s) 257 ≠ ⊥) (h1 : peak (scores z s) 257 ≠ ⊤) : attend z v s = softmaxed z v s := by
  have den : wsum (scores z s) (fun _ => 1) 257 = ∑ u : Fin 257, Ideal.exp (joined z s u - peak (scores z s) 257) := by
    unfold wsum
    simp only [one_mul]
    exact Finset.sum_range fun n => Ideal.exp (scores z s n - peak (scores z s) 257)
  have den' : wsum (scores z s) (fun _ => 1) 257
      = (∑ k, Ideal.exp (z k - peak (scores z s) 257)) + Ideal.exp (s - peak (scores z s) 257) := by
    unfold wsum
    simp only [one_mul]
    rw [Finset.sum_range_succ, scores_sink, Finset.sum_range]
    simp only [scores_lt]
  have num : wsum (scores z s) (vals v) 257 = ∑ k, Ideal.exp (z k - peak (scores z s) 257) * v k := by
    unfold wsum
    rw [Finset.sum_range_succ, vals_sink, zero_mul, add_zero, Finset.sum_range]
    simp only [scores_lt, vals_lt]
    exact Finset.sum_congr rfl fun k _ => mul_comm _ _
  have e := div_wsum (scores z s) (vals v) h0 h1
  rw [num, Finset.sum_range_succ, vals_sink, zero_mul, add_zero, Finset.sum_range] at e
  simp only [vals_lt] at e
  unfold attend softmaxed
  rw [top_eq, joined_top, ← den', ← den, e]
  rfl

/-- The greatest score is a number where no score is `⊤` and one is not `⊥`. -/
theorem peak_number (hz : ∀ k, z k ≠ ⊤) (hs : s ≠ ⊤) (k : Fin 256) (hk : z k ≠ ⊥) :
    peak (scores z s) 257 ≠ ⊥ ∧ peak (scores z s) 257 ≠ ⊤ := by
  constructor
  · intro e
    have := le_peak (scores z s) (n := 257) (s := k.val) (by omega)
    rw [e, scores_lt, le_bot_iff] at this
    exact hk this
  · refine ne_of_lt ((Finset.sup_lt_iff (by exact bot_lt_top)).2 fun n _ => ?_)
    unfold scores
    split
    · exact lt_top_iff_ne_top.2 (hz _)
    · exact lt_top_iff_ne_top.2 hs

/-- A masked key's value does not matter. -/
theorem attend_congr (v' : Fin 256 → EReal) (h : ∀ k, z k ≠ ⊥ → v k = v' k) : attend z v s = attend z v' s := by
  unfold attend
  congr 1
  refine Finset.sum_congr rfl fun k _ => ?_
  by_cases hz : z k = ⊥
  · rw [hz, bot_sub, exp_bot, zero_mul, zero_mul]
  · rw [h k hz]

end Cert.Swa
-- ==== Proof.Swa.Spec.lean ====
module

public import proofs.«01_k».proof.Proof.Swa.Math
public import Idealize.ShloMosaic.Lib.Pointwise

/-!
The sliding-window attention both programs compute, in plain sums: query `T` of block `T / 128` sees, of the 256 keys
of its block and the block before, those at most 127 places before it.
-/

@[expose] public section

noncomputable section

namespace Cert.Swa

open Idealize.ShloMosaic Idealize.ShloMosaic.TcCoe
open scoped BigOperators

variable (q : FVec Ideal ⟨2, ![16384, 512]⟩ .bf16) (x k v : FVec Ideal ⟨2, ![16384, 128]⟩ .bf16) (s : FVec Ideal ⟨2, ![1, 8]⟩ .f32)

/-- Whether the window's key `u` exists and is seen by query `r` of block `n`. -/
def seen (n r : Fin 128) (u : Fin 256) : Prop := (r.val < u.val ∧ u.val ≤ r.val + 128) ∧ 128 ≤ 128 * n.val + u.val

instance (n r : Fin 128) (u : Fin 256) : Decidable (seen n r u) := by unfold seen; infer_instance

/-- Column `d` of head `g` of row `u` of block `n`'s window: zero before the sequence begins. -/
def entry (n : Fin 128) (u : Fin 256) (g : Fin 2) (d : Fin 64) : EReal :=
  if h : 128 ≤ 128 * n.val + u.val then x (ix2 ⟨128 * n.val + u.val - 128, by omega⟩ ⟨64 * g.val + d.val, by omega⟩) else 0

/-- The score of query `r` of block `n` and the window's key `u`, in query head `h`. -/
def score (n r : Fin 128) (h : Fin 8) (u : Fin 256) : EReal :=
  if seen n r u then ∑ d : Fin 64, q (ix2 ⟨128 * n.val + r.val, by omega⟩ ⟨64 * h.val + d.val, by omega⟩) * entry k n u ⟨h.val / 4, by omega⟩ d else ⊥

/-- The attention's result. -/
def out (T : Fin 16384) (o : Fin 512) : EReal :=
  attend (score q k ⟨T.val / 128, by omega⟩ ⟨T.val % 128, by omega⟩ ⟨o.val / 64, by omega⟩)
    (fun u => entry v ⟨T.val / 128, by omega⟩ u ⟨o.val / 64 / 4, by omega⟩ ⟨o.val % 64, by omega⟩) (s (ix2 0 ⟨o.val / 64, by omega⟩))

/-! The programs' masks, as words. -/

theorem and_bits : ∀ a b : BitVec 1, IntOp.andi a b = 1#1 ↔ a = 1#1 ∧ b = 1#1 := by decide
theorem or_bits : ∀ a b : BitVec 1, IntOp.ori a b = 1#1 ↔ a = 1#1 ∨ b = 1#1 := by decide

theorem near_word : ∀ r : Fin 128, ∀ u : Fin 256,
    IntOp.andi (IntOp.cmpi CmpIPredicate.sge (IntOp.subi (IntOp.addi (BitVec.ofNat 32 r.val) 128#32) (BitVec.ofNat 32 u.val)) 0#32)
      (IntOp.cmpi CmpIPredicate.slt (IntOp.subi (IntOp.addi (BitVec.ofNat 32 r.val) 128#32) (BitVec.ofNat 32 u.val)) 128#32) = 1#1
      ↔ r.val < u.val ∧ u.val ≤ r.val + 128 := by decide +kernel

theorem there_word : ∀ n : Fin 128, ∀ u : Fin 256,
    IntOp.cmpi CmpIPredicate.sge (IntOp.subi (IntOp.addi (IntOp.muli (BitVec.ofNat 32 n.val) 128#32) (BitVec.ofNat 32 u.val)) 128#32) 0#32 = 1#1
      ↔ 128 ≤ 128 * n.val + u.val := by decide +kernel

theorem second_word : ∀ u : Fin 256, IntOp.cmpi CmpIPredicate.sge (BitVec.ofNat 32 u.val) 128#32 = 1#1 ↔ 128 ≤ u.val := by decide +kernel

theorem later_word : ∀ i : Fin 32, Scalar.cmpi CmpIPredicate.sgt (BitVec.ofNat 32 i.val) 0#32 = 1#1 ↔ 0 < i.val := by decide +kernel

end Cert.Swa

end
-- ==== Proof.Swa.Reference.lean ====
module

public import proofs.«01_k».proof.Proof.Gen.Reference5Ideal.Run
public import proofs.«01_k».proof.Proof.Swa.Spec
public import proofs.«01_k».proof.Proof.Reference

/-!
The sliding-window attention of the reference, element by element. Its term is taken in pieces: the windows of keys and
values, the mask, the scores, the scores joined with the sink, the exponentials, the weights and the weighted sums.
-/

@[expose] public section

set_option maxRecDepth 16384

noncomputable section

namespace Cert.Reference5Ideal.Own

open Cert.Reference5Ideal Cert.Reference5Ideal.Gen Cert.Reference5Ideal.Value Cert.Swa
open Idealize.ShloMosaic Idealize.ShloMosaic.TcCoe
open scoped BigOperators

variable (q : FVec Ideal S16384x512 .bf16) (x k v : FVec Ideal S16384x128 .bf16) (s : FVec Ideal S1x8 .f32)
  (sc : FVec Ideal S128x2x4x128x256 .f32) (z : FVec Ideal S128x2x4x128x257 .f32)

/-- Each block's window of rows: the block before it, then the block. -/
def bandR : FVec Ideal S128x256x2x64 .f32 :=
  concatenate S128x256x2x64 1 [⟨S128x128x2x64, (extractStridedSlice S128x128x2x64 ![0, 0, 0, 0] (pad S129x128x2x64 ![1, 0, 0, 0] ![0, 0, 0, 0] ![0, 0, 0, 0] (shapeCast _ (extf .f32 x bitsLt_bf16_f32) shapeCasts_S16384x128_S128x128x2x64) (sitofp .f32 (constantI S_ 32 0#32)) pads_S128x128x2x64_S129x128x2x64_100_000_000_000 h_S_) slices_S129x128x2x64_S128x128x2x64_0_0_0_0)⟩, ⟨S128x128x2x64, (shapeCast _ (extf .f32 x bitsLt_bf16_f32) shapeCasts_S16384x128_S128x128x2x64)⟩] concatenates_S128x128x2x64_S128x128x2x64_S128x256x2x64_d1

/-- Which keys each query sees. -/
def allowR : IVec S128x128x256 1 :=
  andi (broadcastInDim S128x128x256 ![0, 1, 2] bcast_S1x128x256_S128x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S128x128x256 ![0, 1, 2] bcast_S128x1x256_S128x128x256_0_1_2 (broadcastInDim S128x1x256 ![0, 2] bcast_S128x256_S128x1x256_0_2 (cmpi .sge (subi (addi (broadcastInDim S128x256 ![0, 1] bcast_S128x1_S128x256_0_1 (muli (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32))) (broadcastInDim S128x256 ![] bcast_S_S128x256 (constantI S_ 32 0#32)))))

/-- The scores. -/
def scR : FVec Ideal S128x2x4x128x256 .f32 :=
  select (broadcastInDim S128x2x4x128x256 ![0, 1, 2, 3, 4] bcast_S128x1x1x128x256_S128x2x4x128x256_0_1_2_3_4 (broadcastInDim S128x1x1x128x256 ![0, 3, 4] bcast_S128x128x256_S128x1x1x128x256_0_3_4 allowR)) (transpose S128x2x4x128x256 [0, 1, 4, 3, 2] (Host.dotGeneral dot_S128x256x2x64_S128x128x2x4x64_S128x2x256x128x4_3_4_1_13_02_02 none (bandR k) (shapeCast _ (extf .f32 q bitsLt_bf16_f32) shapeCasts_S16384x512_S128x128x2x4x64)) transposes_S128x2x256x128x4_S128x2x4x128x256_0_1_4_3_2) (broadcastInDim S128x2x4x128x256 ![] bcast_S_S128x2x4x128x256 (id (constant S_ .f32 0xFF800000#32)))

/-- The scores, the sink after them. -/
def jnR : FVec Ideal S128x2x4x128x257 .f32 :=
  concatenate S128x2x4x128x257 4 [⟨S128x2x4x128x256, sc⟩, ⟨S128x2x4x128x1, (broadcastInDim S128x2x4x128x1 ![0, 1, 2, 3, 4] bcast_S1x2x4x1x1_S128x2x4x128x1_0_1_2_3_4 (shapeCast _ (shapeCast _ s shapeCasts_S1x8_S8) shapeCasts_S8_S1x2x4x1x1))⟩] concatenates_S128x2x4x128x256_S128x2x4x128x1_S128x2x4x128x257_d4

/-- The greatest of a query's scores and its sink. -/
def mxR : FVec Ideal S128x2x4x128 .f32 :=
  maximumf (broadcastInDim S128x2x4x128 ![] bcast_S_S128x2x4x128 (constant S_ .f32 0xFF800000#32)) (Host.reduce FloatOps.maximumf z (constant S_ .f32 0xFF800000#32) reducesTo_S128x2x4x128x257_S128x2x4x128_d4 h_S_)

/-- The exponentials, relative to the greatest. -/
def exR : FVec Ideal S128x2x4x128x257 .f32 :=
  Host.exp (subf z (broadcastInDim S128x2x4x128x257 ![0, 1, 2, 3, 4] bcast_S128x2x4x128x1_S128x2x4x128x257_0_1_2_3_4 (broadcastInDim S128x2x4x128x1 ![0, 1, 2, 3] bcast_S128x2x4x128_S128x2x4x128x1_0_1_2_3 (mxR z))))

/-- The weights of the keys. -/
def prR : FVec Ideal S128x2x4x128x256 .f32 :=
  extractStridedSlice S128x2x4x128x256 ![0, 0, 0, 0, 0] (Host.divf (exR z) (broadcastInDim S128x2x4x128x257 ![0, 1, 2, 3, 4] bcast_S128x2x4x128x1_S128x2x4x128x257_0_1_2_3_4 (broadcastInDim S128x2x4x128x1 ![0, 1, 2, 3] bcast_S128x2x4x128_S128x2x4x128x1_0_1_2_3 (Host.reduceAdd (exR z) (constant S_ .f32 0x00000000#32) reducesTo_S128x2x4x128x257_S128x2x4x128_d4 h_S_)))) slices_S128x2x4x128x257_S128x2x4x128x256_0_0_0_0_0

/-- The weighted sums of the values. -/
def rsR : FVec Ideal S16384x512 .bf16 :=
  truncf .bf16 (shapeCast _ (transpose S128x128x2x4x64 [0, 4, 1, 3, 2] (Host.dotGeneral dot_S128x256x2x64_S128x2x4x128x256_S128x2x64x4x128_1_4_3_23_02_01 none (bandR v) (prR z)) transposes_S128x2x64x4x128_S128x128x2x4x64_0_4_1_3_2) shapeCasts_S128x128x2x4x64_S16384x512) bitsLt_bf16_f32

theorem res_eq (m : (ℓ : Loc nD τ sig) → Buf (Elt Ideal) ℓ) (d : Dev nD) : res_main_v65 m d
    = rsR (m ((d.tc : Thread nD τ).loc main_arg2)) (jnR (m ((d.tc : Thread nD τ).loc main_arg3))
      (scR (m ((d.tc : Thread nD τ).loc main_arg0)) (m ((d.tc : Thread nD τ).loc main_arg1)))) := rfl

theorem zero_word : (FloatOps.sitofp (F := Ideal) .f32 (0#32) : EReal) = 0 := by
  show (((0#32).toInt : ℝ) : EReal) = 0
  simp

theorem bandR_at (n : Fin 128) (u : Fin 256) (g : Fin 2) (d : Fin 64) : (bandR x (ix4 n u g d) : EReal) = entry x n u g d := by
  have e : ∀ a a' b b', a = a' → b = b' → ∀ ha ha' hb hb', x (ix2 ⟨a, ha⟩ ⟨b, hb⟩) = x (ix2 ⟨a', ha'⟩ ⟨b', hb'⟩) := by
    intro a a' b b' h1 h2; subst h1; subst h2; intros; rfl
  unfold bandR
  pointwise
  unfold entry
  by_cases hu : u.val < 128
  · rw [dif_pos hu]
    by_cases hn : 1 ≤ n.val
    · rw [dif_pos ⟨⟨hn, by omega⟩, hu⟩, dif_pos (by omega)]
      exact e _ _ _ _ (by omega) (by omega) _ _ _ _
    · rw [dif_neg (by omega), dif_neg (by omega)]
      exact zero_word
  · rw [dif_neg hu, dif_pos (by omega)]
    exact e _ _ _ _ (by omega) (by omega) _ _ _ _

theorem allowR_at (n r : Fin 128) (u : Fin 256) : allowR (ix3 n r u) = 1#1 ↔ seen n r u := by
  unfold allowR
  pointwise
  rw [and_bits, near_word, there_word]
  rfl

theorem scR_at (n r : Fin 128) (g : Fin 2) (e : Fin 4) (h : Fin 8) (hh : h.val = 4 * g.val + e.val) (u : Fin 256) :
    (scR q k (ix5 n g e r u) : EReal) = score q k n r h u := by
  have e1 : ∀ a a' b b', a = a' → b = b' → ∀ ha ha' hb hb', q (ix2 ⟨a, ha⟩ ⟨b, hb⟩) = q (ix2 ⟨a', ha'⟩ ⟨b', hb'⟩) := by
    intro a a' b b' h1 h2; subst h1; subst h2; intros; rfl
  unfold scR
  pointwise
  unfold score
  rw [Scalar.select_def]
  refine if_congr (allowR_at n r u) (Finset.sum_congr rfl fun d _ => ?_) Cert.Attention.neg_inf
  rw [bandR_at, mul_comm]
  refine congrArg₂ (· * ·) (e1 _ _ _ _ (by omega) (by omega) _ _ _ _) ?_
  exact congrArg (fun g => entry k n u g d) (Fin.ext (show g.val = h.val / 4 by omega))

theorem jnR_at (n r : Fin 128) (g : Fin 2) (e : Fin 4) (h : Fin 8) (hh : h.val = 4 * g.val + e.val) (u : Fin 257) :
    (jnR s sc (ix5 n g e r u) : EReal) = joined (fun w => sc (ix5 n g e r w)) (s (ix2 0 h)) u := by
  unfold jnR
  pointwise
  have : (⟨g.val * 4 + e.val, by omega⟩ : Fin 8) = h := Fin.ext (by show g.val * 4 + e.val = _; omega)
  rw [this]
  rfl

/-- A maximum along the last of five axes, of any sizes. -/
theorem reduce_max5 {a b c d n : ℕ} (x : FVec Ideal ⟨5, ![a, b, c, d, n]⟩ .f32) (h : (⟨5, ![a, b, c, d, n]⟩ : Shape).ReducesTo [4] ⟨4, ![a, b, c, d]⟩)
    (hu : 0 < S_.numel) (i : Fin a) (j : Fin b) (k : Fin c) (l : Fin d) :
    Host.reduce FloatOps.maximumf x (constant (F := Ideal) S_ .f32 0xFF800000#32) h hu (ix4 i j k l)
      = Finset.fold max ⊥ (fun s : Fin n => x (ix5 i j k l s)) Finset.univ := by
  rw [Host.reduce_eq_fold, Shape.ReducesTo.fold_fiber_r5_a4]
  exact congrArg (fun e => Finset.fold max e (fun s : Fin n => x (ix5 i j k l s)) Finset.univ) Cert.Attention.neg_inf

theorem mxR_at (n r : Fin 128) (g : Fin 2) (e : Fin 4) :
    mxR z (ix4 n g e r) = Finset.fold max ⊥ (fun w : Fin 257 => z (ix5 n g e r w)) Finset.univ := by
  have e1 : ∀ y : FVec Ideal S128x2x4x128 .f32, maximumf (broadcastInDim S128x2x4x128 ![] bcast_S_S128x2x4x128 (constant S_ .f32 0xFF800000#32)) y (ix4 n g e r) = y (ix4 n g e r) :=
    fun y => (congrArg (fun b => max b (y (ix4 n g e r))) Cert.Attention.neg_inf).trans (max_eq_right bot_le)
  exact (e1 _).trans (reduce_max5 z reducesTo_S128x2x4x128x257_S128x2x4x128_d4 h_S_ n g e r)

theorem exR_at (n r : Fin 128) (g : Fin 2) (e : Fin 4) (u : Fin 257) : exR z (ix5 n g e r u) = Ideal.exp (z (ix5 n g e r u) - mxR z (ix4 n g e r)) := by
  unfold exR
  pointwise

theorem prR_at (n r : Fin 128) (g : Fin 2) (e : Fin 4) (u : Fin 256) :
    prR z (ix5 n g e r u) = Ideal.div (exR z (ix5 n g e r ⟨u.val, by omega⟩)) (∑ w : Fin 257, exR z (ix5 n g e r w)) := by
  unfold prR
  pointwise

theorem rsR_at (T : Fin 16384) (o : Fin 512) : (rsR v z (ix2 T o) : EReal)
    = ∑ u : Fin 256, entry v ⟨T.val / 128, by omega⟩ u ⟨o.val / 256, by omega⟩ ⟨o.val % 64, by omega⟩
      * prR z (ix5 ⟨T.val / 128, by omega⟩ ⟨o.val / 256, by omega⟩ ⟨o.val / 64 % 4, by omega⟩ ⟨T.val % 128, by omega⟩ u) := by
  unfold rsR
  pointwise
  exact Finset.sum_congr rfl fun u _ => congrArg (· * _) (bandR_at v _ _ _ _)

/-- The reference's result: the softmax of the joined scores, times the values. -/
theorem rsR_eq (T : Fin 16384) (o : Fin 512) : (rsR v (jnR s (scR q k)) (ix2 T o) : EReal)
    = softmaxed (score q k ⟨T.val / 128, by omega⟩ ⟨T.val % 128, by omega⟩ ⟨o.val / 64, by omega⟩)
      (fun u => entry v ⟨T.val / 128, by omega⟩ u ⟨o.val / 64 / 4, by omega⟩ ⟨o.val % 64, by omega⟩) (s (ix2 0 ⟨o.val / 64, by omega⟩)) := by
  have hh : (⟨o.val / 64, by omega⟩ : Fin 8).val = 4 * (⟨o.val / 256, by omega⟩ : Fin 2).val + (⟨o.val / 64 % 4, by omega⟩ : Fin 4).val := by
    show o.val / 64 = 4 * (o.val / 256) + o.val / 64 % 4
    omega
  have hg : (⟨o.val / 64 / 4, by omega⟩ : Fin 2) = ⟨o.val / 256, by omega⟩ := Fin.ext (by show o.val / 64 / 4 = o.val / 256; omega)
  rw [rsR_at, hg]
  unfold softmaxed
  simp only [prR_at, exR_at, mxR_at, jnR_at _ _ _ _ _ _ ⟨o.val / 64, by omega⟩ hh, scR_at _ _ _ _ _ _ ⟨o.val / 64, by omega⟩ hh]

end Cert.Reference5Ideal.Own

end
-- ==== Proof.Swa.Body.lean ====
module

public import proofs.«01_k».proof.Proof.Swa.Math
public import proofs.«01_k».proof.Proof.Gen.Kernel5Ideal.Skeleton
public import Idealize.ShloMosaic.Lib.Pipeline.Value
public import Idealize.ShloMosaic.Lib.Pointwise

/-!
The windowed attention's body over the extended reals: one head of a block of 128 queries, and the 8 heads side by side.
-/

@[expose] public section

set_option maxRecDepth 16384

noncomputable section

namespace Cert.Kernel5Ideal.Own

open Cert.Kernel5Ideal Cert.Kernel5Ideal.Gen Cert.Swa
open Idealize.ShloMosaic Idealize.ShloMosaic.TcCoe

section

variable (mask : IVec S128x256 1) (kg vg : FVec Ideal S256x64 .bf16) (q : FVec Ideal S128x64 .bf16) (s : Ideal .f32)

/-- The scores of a block of queries, the masked ones at the named constant. -/
def scoresV : FVec Ideal S128x256 .f32 :=
  select mask (matmul dot_S128x64_S256x64_S128x256_1_1_0_0_n_n none q kg (constant S128x256 .f32 0x00000000#32))
    (broadcast S128x256 (Named.named κ "mask" 0xF149F2CA#32 : Ideal .f32))

/-- The greatest score of each query, the sink's among them. -/
def topV : FVec Ideal S128x1 .f32 :=
  maximumf (shapeCast S128x1 (multiReduction .maximumf [1] S128 (scoresV mask kg q) 0xFF800000#32 reduces_S128x256_S128 (.inl rfl) rfl) shapeCasts_S128_S128x1)
    (broadcast S128x1 s)

/-- The exponentials. -/
def expsV : FVec Ideal S128x256 .f32 :=
  exp (subf (scoresV mask kg q) (broadcastTo S128x256 (topV mask kg q s) broadcasts_S128x1_S128x256))

/-- One head of a block of queries. -/
def headV : FVec Ideal S128x64 .f32 :=
  divf (matmul dot_S128x256_S256x64_S128x64_1_0_0_1_n_n none (truncf .bf16 (expsV mask kg q s) bitsLt_bf16_f32) vg (constant S128x64 .f32 0x00000000#32))
    (broadcastTo S128x64 (addf (shapeCast S128x1 (multiReduction .add [1] S128 (expsV mask kg q s) 0x00000000#32 reduces_S128x256_S128 (.inl rfl) rfl) shapeCasts_S128_S128x1)
      (exp (subf (broadcast S128x1 s) (topV mask kg q s)))) broadcasts_S128x1_S128x64)

theorem neg_inf : Ideal.ofBits .f32 0xFF800000#32 = (⊥ : EReal) := by
  simp [Ideal.ofBits, Ideal.ieee]

theorem mask_eq : (Named.named κ "mask" 0xF149F2CA#32 : Ideal .f32) = (⊥ : EReal) := rfl

/-- The scores of a query, element by element. -/
def scoreOf (r : Fin 128) (k : Fin 256) : EReal :=
  if mask (ix2 r k) = 1#1 then ∑ d : Fin 64, q (ix2 r d) * kg (ix2 k d) else ⊥

theorem scoresV_at (r : Fin 128) (k : Fin 256) : (scoresV mask kg q (ix2 r k) : EReal) = scoreOf mask kg q r k := by
  unfold scoresV
  pointwise
  unfold scoreOf
  rfl

theorem topV_at (r : Fin 128) : (topV mask kg q s (ix2 r 0) : EReal) = top (scoreOf mask kg q r) s := by
  unfold topV
  pointwise
  simp only [scoresV_at, neg_inf]
  rfl

theorem expsV_at (r : Fin 128) (k : Fin 256) : (expsV mask kg q s (ix2 r k) : EReal) = Ideal.exp (scoreOf mask kg q r k - top (scoreOf mask kg q r) s) := by
  unfold expsV
  pointwise
  rw [scoresV_at, topV_at]

theorem headV_at (r : Fin 128) (d : Fin 64) : (headV mask kg vg q s (ix2 r d) : EReal)
    = attend (scoreOf mask kg q r) (fun k => vg (ix2 k d)) s := by
  unfold headV
  pointwise
  simp only [expsV_at, topV_at]
  rfl

end

/-- 8 heads of 64 columns side by side. -/
def stackV (H : Fin 8 → FVec Ideal S128x64 .f32) : FVec Ideal S128x512 .bf16 :=
  truncf .bf16 (concatenate S128x512 1 (List.ofFn fun h : Fin 8 => ⟨S128x64, H h⟩)
    concatenates_S128x64_S128x64_S128x64_S128x64_S128x64_S128x64_S128x64_S128x64_S128x512_d1) bitsLt_bf16_f32

theorem stackV_at (H : Fin 8 → FVec Ideal S128x64 .f32) (r : Fin 128) (o : Fin 512) :
    (stackV H (ix2 r o) : EReal) = H ⟨o.val / 64, by omega⟩ (ix2 r ⟨o.val % 64, by omega⟩) := by
  refine concatenate_ofFn_apply (t := S128x512) (s₁ := S128x64) 1 H
    concatenates_S128x64_S128x64_S128x64_S128x64_S128x64_S128x64_S128x64_S128x64_S128x512_d1 rfl 64 rfl (ix2 r o) ⟨o.val / 64, by omega⟩ rfl (ix2 r ⟨o.val % 64, by omega⟩) rfl fun b hb => ?_
  fin_cases b
  · rfl
  · exact absurd rfl hb

theorem cuts : ∀ h : Fin 8, S256x128.Slices ![0, 64 * (h.val / 4)] S256x64 := by decide

/-- The 64 columns of a head's group. -/
def cutV (h : Fin 8) (x : FVec Ideal S256x128 .bf16) : FVec Ideal S256x64 .bf16 := extractStridedSlice S256x64 ![0, 64 * (h.val / 4)] x (cuts h)

theorem cutV_at (h : Fin 8) (x : FVec Ideal S256x128 .bf16) (k : Fin 256) (d : Fin 64) :
    (cutV h x (ix2 k d) : EReal) = x (ix2 k ⟨64 * (h.val / 4) + d.val, by omega⟩) := by
  refine congrArg x (funext fun a => ?_)
  fin_cases a
  · exact Fin.ext (Nat.zero_add _)
  · rfl

/-- Two blocks of 128 rows, one below the other. -/
def bandV (a b : FVec Ideal S128x128 .bf16) : FVec Ideal S256x128 .bf16 :=
  concatenate S256x128 0 [⟨S128x128, a⟩, ⟨S128x128, b⟩] concatenates_S128x128_S128x128_S256x128_d0

/-- What the body stores for a block of 128 queries. -/
def blockV (mask : IVec S128x256 1) (ka kb va vb : FVec Ideal S128x128 .bf16) (q : Fin 8 → FVec Ideal S128x64 .bf16) (s : Fin 8 → Ideal .f32) :
    FVec Ideal S128x512 .bf16 :=
  stackV fun h => headV mask (cutV h (bandV ka kb)) (cutV h (bandV va vb)) (q h) (s h)

end Cert.Kernel5Ideal.Own

end
-- ==== Proof.Swa.Masks.lean ====
module

public import proofs.«01_k».proof.Proof.Swa.Body
public import proofs.«01_k».proof.Proof.Swa.Spec

/-!
The body's masks, entry by entry.
-/

@[expose] public section

set_option maxRecDepth 16384

noncomputable section

namespace Cert.Kernel5Ideal.Own

open Cert.Kernel5Ideal Cert.Kernel5Ideal.Gen Cert.Swa
open Idealize.ShloMosaic Idealize.ShloMosaic.TcCoe

theorem near_at (r : Fin 128) (u : Fin 256) : k0_pay1 (ix2 r u) = 1#1 ↔ r.val < u.val ∧ u.val ≤ r.val + 128 := by
  unfold k0_pay1
  pointwise
  exact near_word r u

theorem first_at (i : grid0.Coords) (r : Fin 128) (u : Fin 256) :
    k0_pay2 i (ix2 r u) = 1#1 ↔ (r.val < u.val ∧ u.val ≤ r.val + 128) ∧ (128 ≤ u.val ∨ 0 < (i 0).val) := by
  unfold k0_pay2
  pointwise
  rw [and_bits, or_bits, near_at, second_word]
  exact and_congr Iff.rfl (or_congr Iff.rfl (later_word (i 0)))

end Cert.Kernel5Ideal.Own

end
-- ==== Proof.Swa.Store.lean ====
module

public import proofs.«01_k».proof.Proof.Swa.Masks
public import proofs.«01_k».proof.Proof.Gen.Kernel5Ideal.Frame

/-!
What the output's buffer holds after a point of the grid: four blocks of 128 queries, each with the 128 keys before it and
its own.
-/

@[expose] public section

set_option maxRecDepth 16384

noncomputable section

namespace Cert.Kernel5Ideal.Own

open Cert.Kernel5Ideal Cert.Kernel5Ideal.Gen Cert.Swa
open Idealize.ShloMosaic Idealize.ShloMosaic.TcCoe Idealize.ShloMosaic.Tactic Idealize.ShloMosaic.Pipeline
open scoped BigOperators

section

variable (i : grid0.Coords) (x0 : FVec Ideal S8 .f32) (x1 : FVec Ideal S512x512 .bf16) (x2 x3 : FVec Ideal S512x128 .bf16) (x4 x5 : FVec Ideal S128x128 .bf16)

theorem qIn : ∀ (b : Fin 4) (h : Fin 8) (a : Fin 2), (![128 * b.val, 64 * h.val] : Fin 2 → ℕ) a + S128x64.size a ≤ S512x512.size a := by decide
theorem rIn : ∀ (b : Fin 4) (a : Fin 2), (![128 * b.val, 0] : Fin 2 → ℕ) a + S128x128.size a ≤ S512x128.size a := by decide
theorem sIn : ∀ (h : Fin 8) (a : Fin 1), (![h.val] : Fin 1 → ℕ) a + S1.size a ≤ S8.size a := by decide
theorem wIn : ∀ a : Fin 2, (![0, 0] : Fin 2 → ℕ) a + S128x128.size a ≤ S128x128.size a := by decide
theorem oIn : ∀ (b : Fin 4) (a : Fin 2), (![128 * b.val, 0] : Fin 2 → ℕ) a + S128x512.size a ≤ S512x512.size a := by decide

/-- The queries of head `h` in block `b`. -/
def qLd (b : Fin 4) (h : Fin 8) : FVec Ideal S128x64 .bf16 := View.ld (Val := Elt Ideal) (e' := .bf16) x1 (Rect.unit ![128 * b.val, 64 * h.val] S128x64.size (qIn b h))

/-- The rows of block `b`. -/
def rLd (x : FVec Ideal S512x128 .bf16) (b : Fin 4) : FVec Ideal S128x128 .bf16 := View.ld (Val := Elt Ideal) (e' := .bf16) x (Rect.unit ![128 * b.val, 0] S128x128.size (rIn b))

/-- The rows before the first block. -/
def wLd (x : FVec Ideal S128x128 .bf16) : FVec Ideal S128x128 .bf16 := View.ld (Val := Elt Ideal) (e' := .bf16) x (Rect.unit ![0, 0] S128x128.size wIn)

/-- The sink of head `h`. -/
def sLd (h : Fin 8) : Ideal .f32 := View.ld (Val := Elt Ideal) (e' := .f32) x0 (Rect.unit ![h.val] S1.size (sIn h)) (Shape.Idx.first (s := S1) (by decide))

/-- What is stored for each block. -/
def firstV : FVec Ideal S128x512 .bf16 := blockV (k0_pay2 i) (wLd x4) (rLd x2 0) (wLd x5) (rLd x3 0) (qLd x1 0) (sLd x0)
def laterV (a b : Fin 4) : FVec Ideal S128x512 .bf16 := blockV k0_pay1 (rLd x2 a) (rLd x2 b) (rLd x3 a) (rLd x3 b) (qLd x1 b) (sLd x0)

/-- The four stores, last first. -/
def storesV : List (View.Piece (Elt Ideal) S512x512 .bf16) :=
  [⟨Rect.unit ![384, 0] S128x512.size (oIn 3), laterV x0 x1 x2 x3 2 3⟩, ⟨Rect.unit ![256, 0] S128x512.size (oIn 2), laterV x0 x1 x2 x3 1 2⟩,
    ⟨Rect.unit ![128, 0] S128x512.size (oIn 1), laterV x0 x1 x2 x3 0 1⟩, ⟨Rect.unit ![0, 0] S128x512.size (oIn 0), firstV i x0 x1 x2 x3 x4 x5⟩]

end

variable (m : (ℓ : Loc nD τ sig) → Buf (Elt Ideal) ℓ) (c : Dev nD) (t : Fin cfg0.N)

set_option maxHeartbeats 4000000 in
/-- The buffer after a point: the four stores. -/
theorem points : outsAt0 m c t
    = View.canon (storesV (grid0.coords t) (iblk m c 0 t) (iblk m c 1 t) (iblk m c 2 t) (iblk m c 3 t) (iblk m c 4 t) (iblk m c 5 t)) := by
  unfold outsAt0 out0_A_6
  refine (View.read_writes_eq_canon _ _ _ fun y => cover0_A_6 (y := y) ..).trans ?_
  unfold kernelRun0_A
  dsimp only
  sl_unfold_words
  simp only [View.readAt_eq_ld, Memref.IsWhole.read_unread]
  rfl

end Cert.Kernel5Ideal.Own

end
-- ==== Proof.Swa.Block.lean ====
module

public import proofs.«01_k».proof.Proof.Swa.Store
public import proofs.«01_k».proof.Proof.KernelIdeal.Steps

/-!
What the body stores for a block of 128 queries, element by element: the attention of the arguments.
-/

@[expose] public section

set_option maxRecDepth 16384

noncomputable section

namespace Cert.Kernel5Ideal.Own

open Cert.Kernel5Ideal Cert.Kernel5Ideal.Gen Cert.Swa
open Idealize.ShloMosaic Idealize.ShloMosaic.TcCoe Idealize.ShloMosaic.Pipeline
open scoped BigOperators

theorem bandV_at (a b : FVec Ideal S128x128 .bf16) (u : Fin 256) (j : Fin 128) :
    (bandV a b (ix2 u j) : EReal) = if h : u.val < 128 then a (ix2 ⟨u.val, h⟩ j) else b (ix2 ⟨u.val - 128, by omega⟩ j) := by
  unfold bandV
  pointwise

section

variable (Q : FVec Ideal ⟨2, ![16384, 512]⟩ .bf16) (K V : FVec Ideal ⟨2, ![16384, 128]⟩ .bf16) (S : FVec Ideal ⟨2, ![1, 8]⟩ .f32)
  (mask : IVec S128x256 1) (ka kb va vb : FVec Ideal S128x128 .bf16) (q : Fin 8 → FVec Ideal S128x64 .bf16) (s : Fin 8 → Ideal .f32)

/-- A block's stored element, where its mask, queries, window and sinks are the arguments'. -/
theorem block_at (T : Fin 16384) (n r : Fin 128) (hn : n = ⟨T.val / 128, by omega⟩) (hr : r = ⟨T.val % 128, by omega⟩)
    (hm : ∀ u, mask (ix2 r u) = 1#1 ↔ seen n r u)
    (hq : ∀ (h : Fin 8) (d : Fin 64), (q h (ix2 r d) : EReal) = Q (ix2 ⟨128 * n.val + r.val, by omega⟩ ⟨64 * h.val + d.val, by omega⟩))
    (hk : ∀ (u : Fin 256) (g : Fin 2) (d : Fin 64), seen n r u → (bandV ka kb (ix2 u ⟨64 * g.val + d.val, by omega⟩) : EReal) = entry K n u g d)
    (hv : ∀ (u : Fin 256) (g : Fin 2) (d : Fin 64), seen n r u → (bandV va vb (ix2 u ⟨64 * g.val + d.val, by omega⟩) : EReal) = entry V n u g d)
    (hs : ∀ h : Fin 8, (s h : EReal) = S (ix2 0 h)) (o : Fin 512) :
    (blockV mask ka kb va vb q s (ix2 r o) : EReal) = out Q K V S T o := by
  unfold blockV
  rw [stackV_at, headV_at]
  unfold out
  rw [← hn, ← hr]
  have hz : scoreOf mask (cutV ⟨o.val / 64, by omega⟩ (bandV ka kb)) (q ⟨o.val / 64, by omega⟩) r = score Q K n r ⟨o.val / 64, by omega⟩ := by
    funext u
    unfold scoreOf score
    by_cases hu : seen n r u
    · rw [if_pos ((hm u).2 hu), if_pos hu]
      refine Finset.sum_congr rfl fun d _ => congrArg₂ (· * ·) (hq _ d) ?_
      rw [cutV_at]
      exact hk u ⟨o.val / 64 / 4, by omega⟩ d hu
    · rw [if_neg (fun h => hu ((hm u).1 h)), if_neg hu]
  rw [hz, hs]
  refine attend_congr _ _ _ _ fun u hu => ?_
  have hu : seen n r u := by
    by_contra h
    refine hu ?_
    unfold score
    rw [if_neg h]
  rw [cutV_at]
  exact hv u ⟨o.val / 64 / 4, by omega⟩ ⟨o.val % 64, by omega⟩ hu

end

/-! ### The loads -/

section

variable (x0 : FVec Ideal S8 .f32) (x1 : FVec Ideal S512x512 .bf16) (x : FVec Ideal S512x128 .bf16) (w : FVec Ideal S128x128 .bf16)

theorem qLd_at (b : Fin 4) (h : Fin 8) (r : Fin 128) (d : Fin 64) :
    (qLd x1 b h (ix2 r d) : EReal) = x1 (ix2 ⟨128 * b.val + r.val, by omega⟩ ⟨64 * h.val + d.val, by omega⟩) :=
  congrArg x1 (Cert.KernelIdeal.Own.emb_ix2 _ (qIn b h) r d _ _ rfl rfl)

theorem rLd_at (b : Fin 4) (r j : Fin 128) : (rLd x b (ix2 r j) : EReal) = x (ix2 ⟨128 * b.val + r.val, by omega⟩ j) :=
  congrArg x (Cert.KernelIdeal.Own.emb_ix2 _ (rIn b) r j _ _ rfl (Nat.zero_add _).symm)

theorem wLd_at (r j : Fin 128) : (wLd w (ix2 r j) : EReal) = w (ix2 r j) :=
  congrArg w (Cert.KernelIdeal.Own.emb_ix2 _ wIn r j _ _ (Nat.zero_add _).symm (Nat.zero_add _).symm)

theorem sLd_at (h : Fin 8) : (sLd x0 h : EReal) = x0 (ix1 h) := by
  refine congrArg x0 (funext fun a => Fin.ext ?_)
  match a with
  | ⟨0, _⟩ => rfl

end

end Cert.Kernel5Ideal.Own

end
-- ==== Proof.Swa.Final.lean ====
module

public import proofs.«01_k».proof.Proof.Swa.Block
public import proofs.«01_k».proof.Proof.Gen.Kernel5Ideal.Value
public import Idealize.ShloMosaic.Lib.Pipeline.ValueKit
public import Idealize.ShloMosaic.Lib.StableHlo.ReadAt

/-!
The attention's blocks and its result, element by element, of the call's arguments.
-/

@[expose] public section

set_option maxRecDepth 16384

noncomputable section

namespace Cert.Kernel5Ideal.Own

open Cert.Kernel5Ideal Cert.Kernel5Ideal.Gen Cert.Swa
open Idealize.ShloMosaic Idealize.ShloMosaic.TcCoe Idealize.ShloMosaic.Tactic Idealize.ShloMosaic.Pipeline

theorem e0 : ∀ t : Fin cfg0.N, win0_0.index t = ![0] := (by decide +kernel : ∀ t : Fin grid0.N, _)
theorem e1 : ∀ t : Fin cfg0.N, win0_1.index t = ![(grid0.coords t 0).val, 0] := (by decide +kernel : ∀ t : Fin grid0.N, _)
theorem e2 : ∀ t : Fin cfg0.N, win0_2.index t = ![(grid0.coords t 0).val, 0] := (by decide +kernel : ∀ t : Fin grid0.N, _)
theorem e3 : ∀ t : Fin cfg0.N, win0_3.index t = ![(grid0.coords t 0).val, 0] := (by decide +kernel : ∀ t : Fin grid0.N, _)
theorem e4 : ∀ t : Fin cfg0.N, win0_4.index t = ![4 * (grid0.coords t 0).val - 1, 0] := (by decide +kernel : ∀ t : Fin grid0.N, _)
theorem e5 : ∀ t : Fin cfg0.N, win0_5.index t = ![4 * (grid0.coords t 0).val - 1, 0] := (by decide +kernel : ∀ t : Fin grid0.N, _)
theorem e6 : ∀ t : Fin cfg0.N, win0_6.index t = ![(grid0.coords t 0).val, 0] := (by decide +kernel : ∀ t : Fin grid0.N, _)

variable (m : (ℓ : Loc nD τ sig) → Buf (Elt Ideal) ℓ) (c : Dev nD) (t : Fin cfg0.N)

/-- The queries, keys, values and sinks. -/
def Qm : FVec Ideal S16384x512 .bf16 := m ((c.tc : Thread nD τ).loc main_arg0)
def Km : FVec Ideal S16384x128 .bf16 := m ((c.tc : Thread nD τ).loc main_arg1)
def Vm : FVec Ideal S16384x128 .bf16 := m ((c.tc : Thread nD τ).loc main_arg2)
def Sm : FVec Ideal S1x8 .f32 := m ((c.tc : Thread nD τ).loc main_arg3)

theorem blk0 (h : Fin 8) : (iblk m c 0 t : Vec Ideal S8 .f32) (ix1 h) = Sm m c (ix2 0 h) := by
  refine Eq.trans (b := (V m c main_v0 : S8.Idx → EReal) (ix1 h)) ?_ (by unfold V Sm; after_reads_at)
  show iblk m c 0 t (ix1 h) = V m c main_v0 (ix1 h)
  blk_simp [iblk, e0]
  refine congrArg (V m c main_v0) ?_
  blk_ext [e0]

theorem blk1 (r o : Fin 512) (T : Fin 16384) (hr : T.val = 512 * (grid0.coords t 0).val + r.val) :
    (iblk m c 1 t : Vec Ideal S512x512 .bf16) (ix2 r o) = Qm m c (ix2 T o) := by
  unfold Qm
  rw [← V_main_arg0 m c]
  show iblk m c 1 t (ix2 r o) = V m c main_arg0 (ix2 T o)
  blk_simp [iblk, e1]
  refine congrArg (V m c main_arg0) ?_
  blk_ext [e1]

theorem blk2 (r : Fin 512) (j : Fin 128) (T : Fin 16384) (hr : T.val = 512 * (grid0.coords t 0).val + r.val) :
    (iblk m c 2 t : Vec Ideal S512x128 .bf16) (ix2 r j) = Km m c (ix2 T j) := by
  unfold Km
  rw [← V_main_arg1 m c]
  show iblk m c 2 t (ix2 r j) = V m c main_arg1 (ix2 T j)
  blk_simp [iblk, e2]
  refine congrArg (V m c main_arg1) ?_
  blk_ext [e2]

theorem blk3 (r : Fin 512) (j : Fin 128) (T : Fin 16384) (hr : T.val = 512 * (grid0.coords t 0).val + r.val) :
    (iblk m c 3 t : Vec Ideal S512x128 .bf16) (ix2 r j) = Vm m c (ix2 T j) := by
  unfold Vm
  rw [← V_main_arg2 m c]
  show iblk m c 3 t (ix2 r j) = V m c main_arg2 (ix2 T j)
  blk_simp [iblk, e3]
  refine congrArg (V m c main_arg2) ?_
  blk_ext [e3]

theorem blk4 (r j : Fin 128) (T : Fin 16384) (hr : T.val = 128 * (4 * (grid0.coords t 0).val - 1) + r.val) :
    (iblk m c 4 t : Vec Ideal S128x128 .bf16) (ix2 r j) = Km m c (ix2 T j) := by
  unfold Km
  rw [← V_main_arg1 m c]
  show iblk m c 4 t (ix2 r j) = V m c main_arg1 (ix2 T j)
  blk_simp [iblk, e4]
  refine congrArg (V m c main_arg1) ?_
  blk_ext [e4]

theorem blk5 (r j : Fin 128) (T : Fin 16384) (hr : T.val = 128 * (4 * (grid0.coords t 0).val - 1) + r.val) :
    (iblk m c 5 t : Vec Ideal S128x128 .bf16) (ix2 r j) = Vm m c (ix2 T j) := by
  unfold Vm
  rw [← V_main_arg2 m c]
  show iblk m c 5 t (ix2 r j) = V m c main_arg2 (ix2 T j)
  blk_simp [iblk, e5]
  refine congrArg (V m c main_arg2) ?_
  blk_ext [e5]

/-- A window's row, of an argument: the block's own rows, and the 128 rows before it. -/
theorem entry_at (x : FVec Ideal S16384x128 .bf16) (a b : FVec Ideal S128x128 .bf16) (n r : Fin 128) (u : Fin 256) (g : Fin 2) (d : Fin 64) (hu : seen n r u)
    (ha : ∀ (w j : Fin 128) (T : Fin 16384), 1 ≤ n.val → T.val = 128 * (n.val - 1) + w.val → (a (ix2 w j) : EReal) = x (ix2 T j))
    (hb : ∀ (w j : Fin 128) (T : Fin 16384), T.val = 128 * n.val + w.val → (b (ix2 w j) : EReal) = x (ix2 T j)) :
    (bandV a b (ix2 u ⟨64 * g.val + d.val, by omega⟩) : EReal) = Cert.Swa.entry x n u g d := by
  have h := hu.2
  rw [bandV_at]
  unfold Cert.Swa.entry
  rw [dif_pos h]
  by_cases hw : u.val < 128
  · rw [dif_pos hw]
    exact ha _ _ _ (by omega) (by show 128 * n.val + u.val - 128 = 128 * (n.val - 1) + u.val; omega)
  · rw [dif_neg hw]
    exact hb _ _ _ (by show 128 * n.val + u.val - 128 = 128 * n.val + (u.val - 128); omega)

/-- A later block's element. -/
theorem later_at (a b : Fin 4) (hab : b.val = a.val + 1) (r : Fin 128) (o : Fin 512) (T : Fin 16384)
    (hT : T.val = 512 * (grid0.coords t 0).val + (128 * b.val + r.val)) :
    (laterV (iblk m c 0 t) (iblk m c 1 t) (iblk m c 2 t) (iblk m c 3 t) a b (ix2 r o) : EReal) = out (Qm m c) (Km m c) (Vm m c) (Sm m c) T o := by
  have hi : (grid0.coords t 0).val < 32 := (grid0.coords t 0).isLt
  refine block_at (Qm m c) (Km m c) (Vm m c) (Sm m c) _ _ _ _ _ _ _ T ⟨T.val / 128, by omega⟩ r rfl (Fin.ext (by show r.val = T.val % 128; omega)) (fun u => ?_) (fun h d => ?_)
    (fun u g d hu => ?_) (fun u g d hu => ?_) (fun h => ?_) o
  · rw [near_at]
    exact ⟨fun h => ⟨h, by show 128 ≤ 128 * (T.val / 128) + u.val; omega⟩, fun h => h.1⟩
  · rw [qLd_at]
    exact blk1 m c t _ _ _ (by dsimp only; omega)
  · refine entry_at _ _ _ _ r u g d hu (fun w j T' h1 h2 => ?_) (fun w j T' h2 => ?_)
    · rw [rLd_at]
      exact blk2 m c t _ _ _ (by dsimp only at h2 ⊢; omega)
    · rw [rLd_at]
      exact blk2 m c t _ _ _ (by dsimp only at h2 ⊢; omega)
  · refine entry_at _ _ _ _ r u g d hu (fun w j T' h1 h2 => ?_) (fun w j T' h2 => ?_)
    · rw [rLd_at]
      exact blk3 m c t _ _ _ (by dsimp only at h2 ⊢; omega)
    · rw [rLd_at]
      exact blk3 m c t _ _ _ (by dsimp only at h2 ⊢; omega)
  · rw [sLd_at]
    exact blk0 m c t h

/-- The first block's element. -/
theorem first_block_at (r : Fin 128) (o : Fin 512) (T : Fin 16384) (hT : T.val = 512 * (grid0.coords t 0).val + r.val) :
    (firstV (grid0.coords t) (iblk m c 0 t) (iblk m c 1 t) (iblk m c 2 t) (iblk m c 3 t) (iblk m c 4 t) (iblk m c 5 t) (ix2 r o) : EReal)
      = out (Qm m c) (Km m c) (Vm m c) (Sm m c) T o := by
  have hi : (grid0.coords t 0).val < 32 := (grid0.coords t 0).isLt
  have h0 : (0 : Fin 4).val = 0 := rfl
  refine block_at (Qm m c) (Km m c) (Vm m c) (Sm m c) _ _ _ _ _ _ _ T ⟨T.val / 128, by omega⟩ r rfl (Fin.ext (by show r.val = T.val % 128; omega)) (fun u => ?_) (fun h d => ?_)
    (fun u g d hu => ?_) (fun u g d hu => ?_) (fun h => ?_) o
  · rw [first_at]
    exact and_congr Iff.rfl (by show _ ↔ 128 ≤ 128 * (T.val / 128) + u.val; omega)
  · rw [qLd_at]
    exact blk1 m c t _ _ _ (by dsimp only; omega)
  · refine entry_at _ _ _ _ r u g d hu (fun w j T' h1 h2 => ?_) (fun w j T' h2 => ?_)
    · rw [wLd_at]
      exact blk4 m c t _ _ _ (by dsimp only at h2 ⊢; omega)
    · rw [rLd_at]
      exact blk2 m c t _ _ _ (by dsimp only at h2 ⊢; omega)
  · refine entry_at _ _ _ _ r u g d hu (fun w j T' h1 h2 => ?_) (fun w j T' h2 => ?_)
    · rw [wLd_at]
      exact blk5 m c t _ _ _ (by dsimp only at h2 ⊢; omega)
    · rw [rLd_at]
      exact blk3 m c t _ _ _ (by dsimp only at h2 ⊢; omega)
  · rw [sLd_at]
    exact blk0 m c t h

/-- The buffer's element after a point. -/
theorem points_at (R o : Fin 512) (T : Fin 16384) (hT : T.val = 512 * (grid0.coords t 0).val + R.val) :
    (outsAt0 m c t (ix2 R o) : EReal) = out (Qm m c) (Km m c) (Vm m c) (Sm m c) T o := by
  have hi : (grid0.coords t 0).val < 32 := (grid0.coords t 0).isLt
  have hT' : T = ⟨512 * (grid0.coords t 0).val + R.val, by omega⟩ := Fin.ext hT
  rw [points, hT']
  refine View.canon_apply_of_pieces (Val := Elt Ideal) (e := .bf16)
    (fun y : S512x512.Idx => out (Qm m c) (Km m c) (Vm m c) (Sm m c) ⟨512 * (grid0.coords t 0).val + (y 0).val, by have : (y 0).val < 512 := (y 0).isLt; omega⟩ (y 1)) _
    (fun p hp x => ?_) (ix2 R o) ?_
  · have step : ∀ (b : Fin 4) (w : FVec Ideal S128x512 .bf16) (x : S128x512.Idx),
        (∀ (r : Fin 128) (o : Fin 512) (T : Fin 16384), T.val = 512 * (grid0.coords t 0).val + (128 * b.val + r.val) →
          (w (ix2 r o) : EReal) = out (Qm m c) (Km m c) (Vm m c) (Sm m c) T o) →
        (w x : EReal) = (fun y : S512x512.Idx => out (Qm m c) (Km m c) (Vm m c) (Sm m c) ⟨512 * (grid0.coords t 0).val + (y 0).val, by have : (y 0).val < 512 := (y 0).isLt; omega⟩ (y 1))
          ((Rect.unit (s := S512x512) ![128 * b.val, 0] S128x512.size (oIn b)).emb x) := by
      intro b w x hw
      have hx : x = ix2 (x 0) (x 1) := eq_ix2 x
      have x0 : (x 0).val < 128 := (x 0).isLt
      have e : (Rect.unit (s := S512x512) ![128 * b.val, 0] S128x512.size (oIn b)).emb x = ix2 (⟨128 * b.val + (x 0).val, by omega⟩ : Fin 512) (x 1) :=
        (congrArg _ hx).trans (Cert.KernelIdeal.Own.emb_ix2 _ (oIn b) (x 0) (x 1) _ _ rfl (Nat.zero_add _).symm)
      rw [e]
      exact (congrArg w hx).trans (hw (x 0) (x 1) _ rfl)
    simp only [storesV, List.mem_cons, List.not_mem_nil, or_false] at hp
    rcases hp with rfl | rfl | rfl | rfl
    · exact step 3 _ x fun r o T h => later_at m c t 2 3 rfl r o T h
    · exact step 2 _ x fun r o T h => later_at m c t 1 2 rfl r o T h
    · exact step 1 _ x fun r o T h => later_at m c t 0 1 rfl r o T h
    · exact step 0 _ x fun r o T h => first_block_at m c t r o T (h.trans (by show _ + (128 * 0 + r.val) = _; omega))
  · exact View.cover_of_tiledL (s := S512x512) _ S128x512.size (by sl_kernel_rfl) (ix2 R o)

/-- The result's array. -/
theorem final6 : (dats m 0 c).arrAt 6 cfg0.N = fun i : S16384x512.Idx => out (Qm m c) (Km m c) (Vm m c) (Sm m c) (i 0) (i 1) := by
  refine (dats m 0 c).arrAt_eq_of_covers 6 _ (by decide +kernel) fun t hf y => ?_
  blk_simp [e6]
  rw [after0_6]
  have h0 : (grid0.coords t 0).val < 32 := (grid0.coords t 0).isLt
  have y0 : (y 0).val < 512 := (y 0).isLt
  have hy : y = ix2 (y 0) (y 1) := eq_ix2 y
  have hT : 512 * (grid0.coords t 0).val + (y 0).val < 16384 := by omega
  have e : (win0_6.blk t).view.emb y = ix2 (⟨512 * (grid0.coords t 0).val + (y 0).val, hT⟩ : Fin 16384) (y 1 : Fin 512) := by
    blk_ext [e6]
  rw [e]
  exact (congrArg _ hy).trans (points_at m c t (y 0) (y 1) _ rfl)

end Cert.Kernel5Ideal.Own

end
-- ==== Proof.Swa.Algebraic.lean ====
module

public import proofs.«01_k».proof.Proof.Pre
public import proofs.«01_k».proof.Proof.Swa.Reference
public import proofs.«01_k».proof.Proof.Swa.Final
public import proofs.«01_k».proof.Proof.Gen.Pre_finite

/-!
The sliding-window attention's value claim: the kernel and the reference, given the same arguments, end with the same
result. Where the queries, keys and sinks are numbers each query's greatest score is one: its own key's is among them.
-/

@[expose] public section

noncomputable section

namespace Cert.Pre_finite.Own

open Cert.Pre_finite Cert.Pre_finite.Facts Cert.Pre_finite_with_ones.Own
open Idealize.ShloMosaic

/-- What the precondition says, element by element. -/
theorem says_all (q : FVec Ideal S16384x512 .bf16) (k v : FVec Ideal S16384x128 .bf16) (s : FVec Ideal S1x8 .f32)
    (h : fn (F := Ideal) q k v s = fun _ => 1#1) :
    (∀ i, ∃ x : ℝ, (q i : EReal) = x) ∧ (∀ i, ∃ x : ℝ, (k i : EReal) = x) ∧ (∀ i, ∃ x : ℝ, (s i : EReal) = x) := by
  unfold fn at h
  dsimp only at h
  obtain ⟨h, h2⟩ := and_one _ _ h
  obtain ⟨h0, h1⟩ := and_one _ _ h
  have a0 := fun i => real_at _ _ i (Host.reduce_andi_all _ _ _ _ _ (congrFun h0 ix0) i)
  have a1 := fun i => real_at _ _ i (Host.reduce_andi_all _ _ _ _ _ (congrFun h1 ix0) i)
  have a2 := fun i => real_at _ _ i (Host.reduce_andi_all _ _ _ _ _ (congrFun h2 ix0) i)
  exact ⟨a0, a1, a2⟩

end Cert.Pre_finite.Own

namespace Cert.Swa

open Idealize.ShloMosaic Cert.Softmax
open scoped BigOperators

variable (q : FVec Ideal ⟨2, ![16384, 512]⟩ .bf16) (k : FVec Ideal ⟨2, ![16384, 128]⟩ .bf16)

/-- A seen key's score is a number. -/
theorem score_real (hq : ∀ i, ∃ x : ℝ, (q i : EReal) = x) (hk : ∀ i, ∃ x : ℝ, (k i : EReal) = x) (n r : Fin 128) (h : Fin 8) (u : Fin 256)
    (hu : seen n r u) : ∃ x : ℝ, score q k n r h u = x := by
  unfold score
  rw [if_pos hu]
  have e : ∀ d : Fin 64, ∃ x : ℝ, (q (ix2 ⟨128 * n.val + r.val, by omega⟩ ⟨64 * h.val + d.val, by omega⟩) : EReal) * entry k n u ⟨h.val / 4, by omega⟩ d = x := by
    intro d
    obtain ⟨x, hx⟩ := hq (ix2 ⟨128 * n.val + r.val, by omega⟩ ⟨64 * h.val + d.val, by omega⟩)
    unfold entry
    rw [dif_pos hu.2]
    obtain ⟨y, hy⟩ := hk (ix2 ⟨128 * n.val + u.val - 128, by omega⟩ ⟨64 * (h.val / 4) + d.val, by omega⟩)
    exact ⟨x * y, by rw [hx, EReal.coe_mul]; exact congrArg _ hy⟩
  choose x hx using e
  exact ⟨∑ d, x d, (Finset.sum_congr rfl fun d _ => hx d).trans (coe_sum _ x)⟩

/-- The greatest score is a number. -/
theorem peak_ok (s : EReal) (hs : ∃ x : ℝ, s = x) (hq : ∀ i, ∃ x : ℝ, (q i : EReal) = x) (hk : ∀ i, ∃ x : ℝ, (k i : EReal) = x) (n r : Fin 128) (h : Fin 8) :
    peak (scores (score q k n r h) s) 257 ≠ ⊥ ∧ peak (scores (score q k n r h) s) 257 ≠ ⊤ := by
  obtain ⟨y, hy⟩ := hs
  refine peak_number _ _ (fun u => ?_) (by rw [hy]; exact EReal.coe_ne_top _) ⟨r.val + 128, by omega⟩ ?_
  · by_cases hu : seen n r u
    · obtain ⟨x, hx⟩ := score_real q k hq hk n r h u hu
      rw [hx]
      exact EReal.coe_ne_top _
    · unfold score
      rw [if_neg hu]
      exact bot_ne_top
  · obtain ⟨x, hx⟩ := score_real q k hq hk n r h ⟨r.val + 128, by omega⟩ ⟨⟨by show r.val < r.val + 128; omega, le_refl _⟩, by show 128 ≤ 128 * n.val + (r.val + 128); omega⟩
    rw [hx]
    exact EReal.coe_ne_bot _

end Cert.Swa

namespace Cert.Proof

open Idealize.ShloMosaic Idealize.SL.Sem Cert.Swa

/-- The reference's result is the attention's, where the precondition holds of the arguments. -/
theorem result_swa (q : FVec Ideal ⟨2, ![16384, 512]⟩ .bf16) (k v : FVec Ideal ⟨2, ![16384, 128]⟩ .bf16) (s : FVec Ideal ⟨2, ![1, 8]⟩ .f32)
    (h : Cert.Pre_finite.fn (F := Ideal) q k v s = fun _ => 1#1) :
    Cert.Reference5Ideal.Own.rsR v (Cert.Reference5Ideal.Own.jnR s (Cert.Reference5Ideal.Own.scR q k)) = fun i => out q k v s (i 0) (i 1) := by
  obtain ⟨hq, hk, hs⟩ := Cert.Pre_finite.Own.says_all q k v s h
  funext i
  refine (congrArg _ (eq_ix2 i)).trans ((Cert.Reference5Ideal.Own.rsR_eq q k v s (i 0) (i 1)).trans ?_)
  have hp := peak_ok q k _ (hs (ix2 0 ⟨(i 1).val / 64, by have : (i 1).val < 512 := (i 1).isLt; omega⟩)) hq hk
  exact (attend_eq _ _ _ (hp _ _ _).1 (hp _ _ _).2).symm

/-- The kernel computes the sliding-window attention's reference. -/
theorem algebraic5 : Cert.algebraic_Kernel5Ideal_Reference5Ideal_pre_finite := by
  intro m ρ m' ρ' hpre hargs
  refine ⟨fun c => (Cert.Kernel5Ideal.Gen.dats m 0 c).arrAt 6 Cert.Kernel5Ideal.cfg0.N,
    (θ_run Cert.Kernel5Ideal.defs _ _).mono (fun r h c => h c) (Cert.Kernel5Ideal.Value.run_blocks m ρ),
    (θ_run Cert.Reference5Ideal.defs _ _).mono (fun r h c => ⟨(h c).1.trans ?_, (h c).2⟩) (Cert.Reference5Ideal.Value.run (F := Ideal) m' ρ')⟩
  obtain ⟨a0, a1, a2, a3⟩ := hargs c
  rw [Cert.Reference5Ideal.Own.res_eq, a0, a1, a2, a3]
  exact (result_swa _ _ _ _ (hpre c)).trans (Cert.Kernel5Ideal.Own.final6 m c).symm

end Cert.Proof

end
-- ==== Proof.lean ====
module

public import proofs.«01_k».proof.Defs
public import proofs.«01_k».proof.Proof.Frames
public import proofs.«01_k».proof.Proof.Algebraic
public import proofs.«01_k».proof.Proof.Ffn.Frames
public import proofs.«01_k».proof.Proof.Ffn.Algebraic
public import proofs.«01_k».proof.Proof.Out.Frames
public import proofs.«01_k».proof.Proof.Out.Algebraic
public import proofs.«01_k».proof.Proof.In.Frames
public import proofs.«01_k».proof.Proof.In.Algebraic
public import proofs.«01_k».proof.Proof.Swa.Frames
public import proofs.«01_k».proof.Proof.Swa.Algebraic

/-!
The claim, put together: the frames, the named constant and the value claim.
-/

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite_with_ones.Gen.facts, Cert.Pre_finite.Gen.facts,
    frame_kernel, frame_kernelIdeal, fun m ρ _ => frame_kernelIdeal m ρ trivial, frame_referenceIdeal,
    fun m ρ _ => frame_referenceIdeal m ρ trivial, frame_kernel2, frame_kernel2Ideal, frame_reference2Ideal,
    frame_kernel3, frame_kernel3Ideal, frame_reference3Ideal,
    frame_kernel4, frame_kernel4Ideal, frame_reference4Ideal,
    frame_kernel5, frame_kernel5Ideal, fun m ρ _ => frame_kernel5Ideal m ρ trivial, frame_reference5Ideal,
    fun m ρ _ => frame_reference5Ideal m ρ trivial, preserves, algebraic, trivial, algebraic2, trivial, algebraic3, trivial, algebraic4,
    preserves5, algebraic5⟩

end Cert.Proof

end
